-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v26)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v82) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v77_1)) (v1 : (c : Dev Cert.Kernel3Ideal.nD) → Buf (Elt Ideal) ((c.tc : Thread Cert.Kernel3Ideal.nD Cert.Kernel3Ideal.τ).loc Cert.Kernel3Ideal.main_v77_2)) (v2 : (c : Dev Cert.Kernel3Ideal.nD) → Buf (Elt Ideal) ((c.tc : Thread Cert.Kernel3Ideal.nD Cert.Kernel3Ideal.τ).loc Cert.Kernel3Ideal.main_v77_3)) (v3 : (c : Dev Cert.Kernel3Ideal.nD) → Buf (Elt Ideal) ((c.tc : Thread Cert.Kernel3Ideal.nD Cert.Kernel3Ideal.τ).loc Cert.Kernel3Ideal.main_v77_4)) (v4 : (c : Dev Cert.Kernel3Ideal.nD) → Buf (Elt Ideal) ((c.tc : Thread Cert.Kernel3Ideal.nD Cert.Kernel3Ideal.τ).loc Cert.Kernel3Ideal.main_v77_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v77_1) = v0 c
          ∧ r.2.mem ((c.tc : Thread Cert.Kernel3Ideal.nD Cert.Kernel3Ideal.τ).loc Cert.Kernel3Ideal.main_v77_2) = v1 c
          ∧ r.2.mem ((c.tc : Thread Cert.Kernel3Ideal.nD Cert.Kernel3Ideal.τ).loc Cert.Kernel3Ideal.main_v77_3) = v2 c
          ∧ r.2.mem ((c.tc : Thread Cert.Kernel3Ideal.nD Cert.Kernel3Ideal.τ).loc Cert.Kernel3Ideal.main_v77_4) = v3 c
          ∧ r.2.mem ((c.tc : Thread Cert.Kernel3Ideal.nD Cert.Kernel3Ideal.τ).loc Cert.Kernel3Ideal.main_v77_0) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v162) = v0 c
          ∧ r.2.mem ((c.tc : Thread Cert.Reference3Ideal.nD Cert.Reference3Ideal.τ).loc Cert.Reference3Ideal.main_v164) = v1 c
          ∧ r.2.mem ((c.tc : Thread Cert.Reference3Ideal.nD Cert.Reference3Ideal.τ).loc Cert.Reference3Ideal.main_v167) = v2 c
          ∧ r.2.mem ((c.tc : Thread Cert.Reference3Ideal.nD Cert.Reference3Ideal.τ).loc Cert.Reference3Ideal.main_v170) = v3 c
          ∧ r.2.mem ((c.tc : Thread Cert.Reference3Ideal.nD Cert.Reference3Ideal.τ).loc Cert.Reference3Ideal.main_v174) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v32_0)) (v1 : (c : Dev Cert.Kernel4Ideal.nD) → Buf (Elt Ideal) ((c.tc : Thread Cert.Kernel4Ideal.nD Cert.Kernel4Ideal.τ).loc Cert.Kernel4Ideal.main_v32_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v32_0) = v0 c
          ∧ r.2.mem ((c.tc : Thread Cert.Kernel4Ideal.nD Cert.Kernel4Ideal.τ).loc Cert.Kernel4Ideal.main_v32_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v50) = v0 c
          ∧ r.2.mem ((c.tc : Thread Cert.Reference4Ideal.nD Cert.Reference4Ideal.τ).loc Cert.Reference4Ideal.main_v52) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S4x8192x4x2x64 : Shape := ⟨5, ![4, 8192, 4, 2, 64]⟩
abbrev S4x256x4x2x64 : Shape := ⟨5, ![4, 256, 4, 2, 64]⟩
abbrev S4x8192x4x128 : Shape := ⟨4, ![4, 8192, 4, 128]⟩
abbrev S4x256x4x128 : Shape := ⟨4, ![4, 256, 4, 128]⟩
abbrev S1x64 : Shape := ⟨2, ![1, 64]⟩
abbrev S1x128 : Shape := ⟨2, ![1, 128]⟩
abbrev S_ : Shape := ⟨0, ![]⟩

class Facts : Prop where
  bcast_S_S4x8192x4x2x64 : S_.BroadcastsInDim S4x8192x4x2x64 (![] : Fin 0 → Fin S4x8192x4x2x64.rank)
  bcast_S_S4x256x4x2x64 : S_.BroadcastsInDim S4x256x4x2x64 (![] : Fin 0 → Fin S4x256x4x2x64.rank)
  bcast_S_S4x8192x4x128 : S_.BroadcastsInDim S4x8192x4x128 (![] : Fin 0 → Fin S4x8192x4x128.rank)
  bcast_S_S4x256x4x128 : S_.BroadcastsInDim S4x256x4x128 (![] : Fin 0 → Fin S4x256x4x128.rank)
  bcast_S_S1x64 : S_.BroadcastsInDim S1x64 (![] : Fin 0 → Fin S1x64.rank)

variable [Facts]

def fn_part1 {F : FTy → Type} [FloatOps F] (main_arg6 : FVec F S1x64 .f32) (main_arg7 : FVec F S1x64 .f32) (main_arg8 : FVec F S1x64 .f32) (main_v2 : IVec S4x8192x4x2x64 1) (main_v5 : IVec S4x8192x4x2x64 1) (main_v8 : IVec S4x256x4x2x64 1) (main_v11 : IVec S4x8192x4x128 1) (main_v14 : IVec S4x256x4x128 1) (main_v17 : IVec S1x64 1) : IVec S4x8192x4x2x64 1 × IVec S4x8192x4x2x64 1 × IVec S4x256x4x2x64 1 × IVec S4x8192x4x128 1 × IVec S4x256x4x128 1 × IVec S1x64 1 × IVec S1x64 1 × IVec S1x64 1 × IVec S1x64 1 :=
  let main_v18 : FVec F S1x64 .f32 := Host.absf main_arg6
  let main_cst_5 : FVec F S_ .f32 := constant S_ .f32 0x7F800000#32
  let main_v19 : FVec F S1x64 .f32 := broadcastInDim S1x64 ![] bcast_S_S1x64 main_cst_5
  let main_v20 : IVec S1x64 1 := cmpf .olt main_v18 main_v19
  let main_v21 : FVec F S1x64 .f32 := Host.absf main_arg7
  let main_cst_6 : FVec F S_ .f32 := constant S_ .f32 0x7F800000#32
  let main_v22 : FVec F S1x64 .f32 := broadcastInDim S1x64 ![] bcast_S_S1x64 main_cst_6
  let main_v23 : IVec S1x64 1 := cmpf .olt main_v21 main_v22
  let main_v24 : FVec F S1x64 .f32 := Host.absf main_arg8
  let main_cst_7 : FVec F S_ .f32 := constant S_ .f32 0x7F800000#32
  let main_v25 : FVec F S1x64 .f32 := broadcastInDim S1x64 ![] bcast_S_S1x64 main_cst_7
  let main_v26 : IVec S1x64 1 := cmpf .olt main_v24 main_v25
  (main_v2, main_v5, main_v8, main_v11, main_v14, main_v17, main_v20, main_v23, main_v26)

def fn {F : FTy → Type} [FloatOps F] (main_arg0 : FVec F S4x8192x4x2x64 .f32) (main_arg1 : FVec F S4x8192x4x2x64 .f32) (main_arg2 : FVec F S4x256x4x2x64 .f32) (main_arg3 : FVec F S4x8192x4x128 .f32) (main_arg4 : FVec F S4x256x4x128 .f32) (main_arg5 : FVec F S1x64 .f32) (main_arg6 : FVec F S1x64 .f32) (main_arg7 : FVec F S1x64 .f32) (main_arg8 : FVec F S1x64 .f32) (main_arg9 : FVec F S1x128 .f32) : IVec S4x8192x4x2x64 1 × IVec S4x8192x4x2x64 1 × IVec S4x256x4x2x64 1 × IVec S4x8192x4x128 1 × IVec S4x256x4x128 1 × IVec S1x64 1 × IVec S1x64 1 × IVec S1x64 1 × IVec S1x64 1 :=
  let main_v0 : FVec F S4x8192x4x2x64 .f32 := Host.absf main_arg0
  let main_cst : FVec F S_ .f32 := constant S_ .f32 0x7F800000#32
  let main_v1 : FVec F S4x8192x4x2x64 .f32 := broadcastInDim S4x8192x4x2x64 ![] bcast_S_S4x8192x4x2x64 main_cst
  let main_v2 : IVec S4x8192x4x2x64 1 := cmpf .olt main_v0 main_v1
  let main_v3 : FVec F S4x8192x4x2x64 .f32 := Host.absf main_arg1
  let main_cst_0 : FVec F S_ .f32 := constant S_ .f32 0x7F800000#32
  let main_v4 : FVec F S4x8192x4x2x64 .f32 := broadcastInDim S4x8192x4x2x64 ![] bcast_S_S4x8192x4x2x64 main_cst_0
  let main_v5 : IVec S4x8192x4x2x64 1 := cmpf .olt main_v3 main_v4
  let main_v6 : FVec F S4x256x4x2x64 .f32 := Host.absf main_arg2
  let main_cst_1 : FVec F S_ .f32 := constant S_ .f32 0x7F800000#32
  let main_v7 : FVec F S4x256x4x2x64 .f32 := broadcastInDim S4x256x4x2x64 ![] bcast_S_S4x256x4x2x64 main_cst_1
  let main_v8 : IVec S4x256x4x2x64 1 := cmpf .olt main_v6 main_v7
  let main_v9 : FVec F S4x8192x4x128 .f32 := Host.absf main_arg3
  let main_cst_2 : FVec F S_ .f32 := constant S_ .f32 0x7F800000#32
  let main_v10 : FVec F S4x8192x4x128 .f32 := broadcastInDim S4x8192x4x128 ![] bcast_S_S4x8192x4x128 main_cst_2
  let main_v11 : IVec S4x8192x4x128 1 := cmpf .olt main_v9 main_v10
  let main_v12 : FVec F S4x256x4x128 .f32 := Host.absf main_arg4
  let main_cst_3 : FVec F S_ .f32 := constant S_ .f32 0x7F800000#32
  let main_v13 : FVec F S4x256x4x128 .f32 := broadcastInDim S4x256x4x128 ![] bcast_S_S4x256x4x128 main_cst_3
  let main_v14 : IVec S4x256x4x128 1 := cmpf .olt main_v12 main_v13
  let main_v15 : FVec F S1x64 .f32 := Host.absf main_arg5
  let main_cst_4 : FVec F S_ .f32 := constant S_ .f32 0x7F800000#32
  let main_v16 : FVec F S1x64 .f32 := broadcastInDim S1x64 ![] bcast_S_S1x64 main_cst_4
  let main_v17 : IVec S1x64 1 := cmpf .olt main_v15 main_v16
  fn_part1 (F := F) main_arg6 main_arg7 main_arg8 main_v2 main_v5 main_v8 main_v11 main_v14 main_v17
-- ==== Kernel.lean ====
abbrev S4x8192x4x2x64 : Shape := ⟨5, ![4, 8192, 4, 2, 64]⟩
abbrev S4x256x4x2x64 : Shape := ⟨5, ![4, 256, 4, 2, 64]⟩
abbrev S4x8192x4x128 : Shape := ⟨4, ![4, 8192, 4, 128]⟩
abbrev S4x256x4x128 : Shape := ⟨4, ![4, 256, 4, 128]⟩
abbrev S1x64 : Shape := ⟨2, ![1, 64]⟩
abbrev S1x128 : Shape := ⟨2, ![1, 128]⟩
abbrev S4x8192x512 : Shape := ⟨3, ![4, 8192, 512]⟩
abbrev S4x256x512 : Shape := ⟨3, ![4, 256, 512]⟩
abbrev S4x4x128x8192 : Shape := ⟨4, ![4, 4, 128, 8192]⟩
abbrev S4x4x128x256 : Shape := ⟨4, ![4, 4, 128, 256]⟩
abbrev S64 : Shape := ⟨1, ![64]⟩
abbrev S4x64 : Shape := ⟨2, ![4, 64]⟩
abbrev S128 : Shape := ⟨1, ![128]⟩
abbrev S4x4x4x1x2048 : Shape := ⟨5, ![4, 4, 4, 1, 2048]⟩
abbrev S1x2048x128 : Shape := ⟨3, ![1, 2048, 128]⟩
abbrev S1x8192x128 : Shape := ⟨3, ![1, 8192, 128]⟩
abbrev S1x256x128 : Shape := ⟨3, ![1, 256, 128]⟩
abbrev S1x1x128x8192 : Shape := ⟨4, ![1, 1, 128, 8192]⟩
abbrev S1x1x128x256 : Shape := ⟨4, ![1, 1, 128, 256]⟩
abbrev S1x1x1x1x2048 : Shape := ⟨5, ![1, 1, 1, 1, 2048]⟩
abbrev S128x2048 : Shape := ⟨2, ![128, 2048]⟩
abbrev S768x2048 : Shape := ⟨2, ![768, 2048]⟩
abbrev S2048x128 : Shape := ⟨2, ![2048, 128]⟩
abbrev S1x512x128 : Shape := ⟨3, ![1, 512, 128]⟩
abbrev S512x128 : Shape := ⟨2, ![512, 128]⟩
abbrev S512x2048 : Shape := ⟨2, ![512, 2048]⟩
abbrev S2048 : Shape := ⟨1, ![2048]⟩
abbrev S1x2048 : Shape := ⟨2, ![1, 2048]⟩
abbrev S1x1x128x512 : Shape := ⟨4, ![1, 1, 128, 512]⟩
abbrev S128x512 : Shape := ⟨2, ![128, 512]⟩
abbrev S2048x2048 : Shape := ⟨2, ![2048, 2048]⟩
abbrev S256x128 : Shape := ⟨2, ![256, 128]⟩
abbrev S768x128 : Shape := ⟨2, ![768, 128]⟩
abbrev S128x256 : Shape := ⟨2, ![128, 256]⟩
abbrev S128x768 : Shape := ⟨2, ![128, 768]⟩
abbrev S128x2304 : Shape := ⟨2, ![128, 2304]⟩
abbrev S2304x2048 : Shape := ⟨2, ![2304, 2048]⟩
abbrev S1 : Shape := ⟨1, ![1]⟩
abbrev S1x1 : Shape := ⟨2, ![1, 1]⟩
abbrev S2048x1 : Shape := ⟨2, ![2048, 1]⟩

abbrev nBuf : Space → Nat
  | .hbm => 33
  | .vmem => 30
  | .smem => 0
  | _ => 0

abbrev bufTy : (tb : Table) → Fin (tcTables nBuf tb) → BufTy
  | .hbm, ⟨0, _⟩ => ⟨S4x8192x4x2x64, .f32⟩
  | .hbm, ⟨1, _⟩ => ⟨S4x8192x4x2x64, .f32⟩
  | .hbm, ⟨2, _⟩ => ⟨S4x256x4x2x64, .f32⟩
  | .hbm, ⟨3, _⟩ => ⟨S4x8192x4x128, .f32⟩
  | .hbm, ⟨4, _⟩ => ⟨S4x256x4x128, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S4x8192x512, .f32⟩
  | .hbm, ⟨11, _⟩ => ⟨S4x8192x512, .bf16⟩
  | .hbm, ⟨12, _⟩ => ⟨S4x8192x512, .f32⟩
  | .hbm, ⟨13, _⟩ => ⟨S4x8192x512, .bf16⟩
  | .hbm, ⟨14, _⟩ => ⟨S4x256x512, .f32⟩
  | .hbm, ⟨15, _⟩ => ⟨S4x256x512, .bf16⟩
  | .hbm, ⟨16, _⟩ => ⟨S4x4x128x8192, .f32⟩
  | .hbm, ⟨17, _⟩ => ⟨S4x4x128x8192, .bf16⟩
  | .hbm, ⟨18, _⟩ => ⟨S4x4x128x256, .f32⟩
  | .hbm, ⟨19, _⟩ => ⟨S4x4x128x256, .bf16⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S1x64, .f32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S4x64, .f32⟩
  | .hbm, ⟨29, _⟩ => ⟨S128, .f32⟩
  | .hbm, ⟨30, _⟩ => ⟨S1x128, .f32⟩
  | .hbm, ⟨31, _⟩ => ⟨S4x8192x512, .bf16⟩
  | .hbm, ⟨32, _⟩ => ⟨S4x4x4x1x2048, .f32⟩
  | .local _ .vmem, ⟨0, _⟩ => ⟨S4x64, .f32⟩
  | .local _ .vmem, ⟨1, _⟩ => ⟨S1x2048x128, .bf16⟩
  | .local _ .vmem, ⟨2, _⟩ => ⟨S1x2048x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x256x128, .bf16⟩
  | .local _ .vmem, ⟨6, _⟩ => ⟨S1x256x128, .bf16⟩
  | .local _ .vmem, ⟨7, _⟩ => ⟨S1x1x128x8192, .bf16⟩
  | .local _ .vmem, ⟨8, _⟩ => ⟨S1x1x128x8192, .bf16⟩
  | .local _ .vmem, ⟨9, _⟩ => ⟨S1x1x128x256, .bf16⟩
  | .local _ .vmem, ⟨10, _⟩ => ⟨S1x1x128x256, .bf16⟩
  | .local _ .vmem, ⟨11, _⟩ => ⟨S1x128, .f32⟩
  | .local _ .vmem, ⟨12, _⟩ => ⟨S1x2048x128, .bf16⟩
  | .local _ .vmem, ⟨13, _⟩ => ⟨S1x2048x128, .bf16⟩
  | .local _ .vmem, ⟨14, _⟩ => ⟨S1x1x1x1x2048, .f32⟩
  | .local _ .vmem, ⟨15, _⟩ => ⟨S1x1x1x1x2048, .f32⟩
  | .local _ .vmem, ⟨16, _⟩ => ⟨S128x2048, .f32⟩
  | .local _ .vmem, ⟨17, _⟩ => ⟨S128x2048, .f32⟩
  | .local _ .vmem, ⟨18, _⟩ => ⟨S768x2048, .bf16⟩
  | .local _ .vmem, ⟨19, _⟩ => ⟨S768x2048, .bf16⟩
  | .local _ .vmem, ⟨20, _⟩ => ⟨S768x2048, .bf16⟩
  | .local _ .vmem, ⟨21, _⟩ => ⟨S768x2048, .bf16⟩
  | .local _ .vmem, ⟨22, _⟩ => ⟨S768x2048, .bf16⟩
  | .local _ .vmem, ⟨23, _⟩ => ⟨S768x2048, .bf16⟩
  | .local _ .vmem, ⟨24, _⟩ => ⟨S768x2048, .bf16⟩
  | .local _ .vmem, ⟨25, _⟩ => ⟨S768x2048, .bf16⟩
  | .local _ .vmem, ⟨26, _⟩ => ⟨S768x2048, .bf16⟩
  | .local _ .vmem, ⟨27, _⟩ => ⟨S768x2048, .bf16⟩
  | .local _ .vmem, ⟨28, _⟩ => ⟨S768x2048, .bf16⟩
  | .local _ .vmem, ⟨29, _⟩ => ⟨S768x2048, .bf16⟩
  | _, _ => ⟨S4x8192x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_scratch10 : Ref sig .tc := ⟨.vmem, 26, rfl⟩
abbrev cc0_scratch11 : Ref sig .tc := ⟨.vmem, 27, rfl⟩
abbrev cc0_scratch12 : Ref sig .tc := ⟨.vmem, 28, rfl⟩
abbrev cc0_scratch13 : Ref sig .tc := ⟨.vmem, 29, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x128x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "qscale" => some (((1 / 8) * (Real.log 2)⁻¹ : ℝ) : EReal)
  | _ => none
-- ==== ReferenceIdeal.lean ====
abbrev S4x8192x4x2x64 : Shape := ⟨5, ![4, 8192, 4, 2, 64]⟩
abbrev S4x256x4x2x64 : Shape := ⟨5, ![4, 256, 4, 2, 64]⟩
abbrev S4x8192x4x128 : Shape := ⟨4, ![4, 8192, 4, 128]⟩
abbrev S4x256x4x128 : Shape := ⟨4, ![4, 256, 4, 128]⟩
abbrev S1x64 : Shape := ⟨2, ![1, 64]⟩
abbrev S1x128 : Shape := ⟨2, ![1, 128]⟩
abbrev S64 : Shape := ⟨1, ![64]⟩
abbrev S_ : Shape := ⟨0, ![]⟩
abbrev S4x8448x4x2x64 : Shape := ⟨5, ![4, 8448, 4, 2, 64]⟩
abbrev S4x8448x4x128 : Shape := ⟨4, ![4, 8448, 4, 128]⟩
abbrev S4x4x2x8192x8448 : Shape := ⟨5, ![4, 4, 2, 8192, 8448]⟩
abbrev S4x4x2x8192 : Shape := ⟨4, ![4, 4, 2, 8192]⟩
abbrev S4x4x2x8192x1 : Shape := ⟨5, ![4, 4, 2, 8192, 1]⟩
abbrev S4x4x1x8192x8448 : Shape := ⟨5, ![4, 4, 1, 8192, 8448]⟩
abbrev S4x4x8192x8448 : Shape := ⟨4, ![4, 4, 8192, 8448]⟩
abbrev S4x4x128x8192 : Shape := ⟨4, ![4, 4, 128, 8192]⟩
abbrev S4x8192x4 : Shape := ⟨3, ![4, 8192, 4]⟩
abbrev S4x8192x4x1 : Shape := ⟨4, ![4, 8192, 4, 1]⟩
abbrev S128 : Shape := ⟨1, ![128]⟩
abbrev S1x1x1x128 : Shape := ⟨4, ![1, 1, 1, 128]⟩
abbrev S4x8192x512 : Shape := ⟨3, ![4, 8192, 512]⟩

abbrev nBuf : Space → Nat
  | .hbm => 76
  | .vmem => 0
  | .smem => 0
  | _ => 0

abbrev bufTy : (tb : Table) → Fin (tcTables nBuf tb) → BufTy
  | .hbm, ⟨0, _⟩ => ⟨S4x8192x4x2x64, .f32⟩
  | .hbm, ⟨1, _⟩ => ⟨S4x8192x4x2x64, .f32⟩
  | .hbm, ⟨2, _⟩ => ⟨S4x256x4x2x64, .f32⟩
  | .hbm, ⟨3, _⟩ => ⟨S4x8192x4x128, .f32⟩
  | .hbm, ⟨4, _⟩ => ⟨S4x256x4x128, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4x8448x4x2x64, .f32⟩
  | .hbm, ⟨26, _⟩ => ⟨S4x8448x4x128, .f32⟩
  | .hbm, ⟨27, _⟩ => ⟨S4x4x2x8192x8448, .f32⟩
  | .hbm, ⟨28, _⟩ => ⟨S_, .f32⟩
  | .hbm, ⟨29, _⟩ => ⟨S4x4x2x8192x8448, .f32⟩
  | .hbm, ⟨30, _⟩ => ⟨S4x4x2x8192x8448, .f32⟩
  | .hbm, ⟨31, _⟩ => ⟨S_, .f32⟩
  | .hbm, ⟨32, _⟩ => ⟨S4x4x2x8192, .f32⟩
  | .hbm, ⟨33, _⟩ => ⟨S_, .f32⟩
  | .hbm, ⟨34, _⟩ => ⟨S4x4x2x8192, .f32⟩
  | .hbm, ⟨35, _⟩ => ⟨S4x4x2x8192, .f32⟩
  | .hbm, ⟨36, _⟩ => ⟨S4x4x2x8192x1, .f32⟩
  | .hbm, ⟨37, _⟩ => ⟨S4x4x2x8192x8448, .f32⟩
  | .hbm, ⟨38, _⟩ => ⟨S4x4x2x8192x8448, .f32⟩
  | .hbm, ⟨39, _⟩ => ⟨S4x4x2x8192x8448, .f32⟩
  | .hbm, ⟨40, _⟩ => ⟨S_, .f32⟩
  | .hbm, ⟨41, _⟩ => ⟨S4x4x2x8192, .f32⟩
  | .hbm, ⟨42, _⟩ => ⟨S4x4x2x8192x1, .f32⟩
  | .hbm, ⟨43, _⟩ => ⟨S4x4x2x8192x8448, .f32⟩
  | .hbm, ⟨44, _⟩ => ⟨S4x4x2x8192x8448, .f32⟩
  | .hbm, ⟨45, _⟩ => ⟨S4x4x1x8192x8448, .f32⟩
  | .hbm, ⟨46, _⟩ => ⟨S4x4x8192x8448, .f32⟩
  | .hbm, ⟨47, _⟩ => ⟨S4x4x1x8192x8448, .f32⟩
  | .hbm, ⟨48, _⟩ => ⟨S4x4x8192x8448, .f32⟩
  | .hbm, ⟨49, _⟩ => ⟨S4x4x8192x8448, .f32⟩
  | .hbm, ⟨50, _⟩ => ⟨S4x4x8192x8448, .f32⟩
  | .hbm, ⟨51, _⟩ => ⟨S4x4x8192x8448, .f32⟩
  | .hbm, ⟨52, _⟩ => ⟨S4x4x128x8192, .f32⟩
  | .hbm, ⟨53, _⟩ => ⟨S4x8192x4x128, .f32⟩
  | .hbm, ⟨54, _⟩ => ⟨S4x8192x4x128, .f32⟩
  | .hbm, ⟨55, _⟩ => ⟨S_, .f32⟩
  | .hbm, ⟨56, _⟩ => ⟨S4x8192x4, .f32⟩
  | .hbm, ⟨57, _⟩ => ⟨S4x8192x4x1, .f32⟩
  | .hbm, ⟨58, _⟩ => ⟨S_, .f32⟩
  | .hbm, ⟨59, _⟩ => ⟨S4x8192x4x1, .f32⟩
  | .hbm, ⟨60, _⟩ => ⟨S4x8192x4x1, .f32⟩
  | .hbm, ⟨61, _⟩ => ⟨S_, .f32⟩
  | .hbm, ⟨62, _⟩ => ⟨S4x8192x4x1, .f32⟩
  | .hbm, ⟨63, _⟩ => ⟨S4x8192x4x1, .f32⟩
  | .hbm, ⟨64, _⟩ => ⟨S4x8192x4x1, .f32⟩
  | .hbm, ⟨65, _⟩ => ⟨S4x8192x4x128, .f32⟩
  | .hbm, ⟨66, _⟩ => ⟨S4x8192x4x128, .f32⟩
  | .hbm, ⟨67, _⟩ => ⟨S128, .f32⟩
  | .hbm, ⟨68, _⟩ => ⟨S1x1x1x128, .f32⟩
  | .hbm, ⟨69, _⟩ => ⟨S4x8192x4x128, .f32⟩
  | .hbm, ⟨70, _⟩ => ⟨S4x8192x4x128, .f32⟩
  | .hbm, ⟨71, _⟩ => ⟨S_, .f32⟩
  | .hbm, ⟨72, _⟩ => ⟨S4x8192x4x128, .f32⟩
  | .hbm, ⟨73, _⟩ => ⟨S4x8192x4x128, .f32⟩
  | .hbm, ⟨74, _⟩ => ⟨S4x8192x512, .f32⟩
  | .hbm, ⟨75, _⟩ => ⟨S4x8192x512, .bf16⟩
  | _, _ => ⟨S4x8192x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x8192x512 : Shape := ⟨3, ![4, 8192, 512]⟩
abbrev S2x8x3072 : Shape := ⟨3, ![2, 8, 3072]⟩
abbrev S2x1024 : Shape := ⟨2, ![2, 1024]⟩
abbrev S1x1024x1024 : Shape := ⟨3, ![1, 1024, 1024]⟩
abbrev S1x1024x4096 : Shape := ⟨3, ![1, 1024, 4096]⟩
abbrev S1x3x1024 : Shape := ⟨3, ![1, 3, 1024]⟩
abbrev S1x8x1024 : Shape := ⟨3, ![1, 8, 1024]⟩
abbrev S8x1024 : Shape := ⟨2, ![8, 1024]⟩
abbrev S8x1x1024 : Shape := ⟨3, ![8, 1, 1024]⟩
abbrev S1x1024 : Shape := ⟨2, ![1, 1024]⟩
abbrev S1024 : Shape := ⟨1, ![1024]⟩
abbrev S32768x1024 : Shape := ⟨2, ![32768, 1024]⟩
abbrev S32768x512 : Shape := ⟨2, ![32768, 512]⟩
abbrev S1024x1024 : Shape := ⟨2, ![1024, 1024]⟩
abbrev S1024x4096 : Shape := ⟨2, ![1024, 4096]⟩
abbrev S3x1024 : Shape := ⟨2, ![3, 1024]⟩
abbrev S16x1024 : Shape := ⟨2, ![16, 1024]⟩
abbrev S16x512 : Shape := ⟨2, ![16, 512]⟩
abbrev S1024x512 : Shape := ⟨2, ![1024, 512]⟩
abbrev S1x1x1024 : Shape := ⟨3, ![1, 1, 1024]⟩
abbrev S1056x1024 : Shape := ⟨2, ![1056, 1024]⟩
abbrev S1056x512 : Shape := ⟨2, ![1056, 512]⟩
abbrev S512x256 : Shape := ⟨2, ![512, 256]⟩
abbrev S1056x256 : Shape := ⟨2, ![1056, 256]⟩
abbrev S1x256 : Shape := ⟨2, ![1, 256]⟩
abbrev S1056 : Shape := ⟨1, ![1056]⟩
abbrev S1056x1 : Shape := ⟨2, ![1056, 1]⟩
abbrev S1024x256 : Shape := ⟨2, ![1024, 256]⟩
abbrev S256x1024 : Shape := ⟨2, ![256, 1024]⟩

abbrev nBuf : Space → Nat
  | .hbm => 37
  | .vmem => 39
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .bf16⟩
  | .hbm, ⟨3, _⟩ => ⟨S4x8192x1024, .bf16⟩
  | .hbm, ⟨4, _⟩ => ⟨S2x8x3072, .f32⟩
  | .hbm, ⟨5, _⟩ => ⟨S2x1024, .f32⟩
  | .hbm, ⟨6, _⟩ => ⟨S1x1024x1024, .f32⟩
  | .hbm, ⟨7, _⟩ => ⟨S1x1024x4096, .f32⟩
  | .hbm, ⟨8, _⟩ => ⟨S1x3x1024, .f32⟩
  | .hbm, ⟨9, _⟩ => ⟨S1x1024x1024, .f32⟩
  | .hbm, ⟨10, _⟩ => ⟨S1x8x1024, .f32⟩
  | .hbm, ⟨11, _⟩ => ⟨S8x1024, .f32⟩
  | .hbm, ⟨12, _⟩ => ⟨S8x1x1024, .f32⟩
  | .hbm, ⟨13, _⟩ => ⟨S1x8x1024, .f32⟩
  | .hbm, ⟨14, _⟩ => ⟨S8x1024, .f32⟩
  | .hbm, ⟨15, _⟩ => ⟨S8x1x1024, .f32⟩
  | .hbm, ⟨16, _⟩ => ⟨S1x8x1024, .f32⟩
  | .hbm, ⟨17, _⟩ => ⟨S8x1024, .f32⟩
  | .hbm, ⟨18, _⟩ => ⟨S8x1x1024, .f32⟩
  | .hbm, ⟨19, _⟩ => ⟨S1x8x1024, .f32⟩
  | .hbm, ⟨20, _⟩ => ⟨S8x1024, .f32⟩
  | .hbm, ⟨21, _⟩ => ⟨S8x1x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S32768x1024, .f32⟩
  | .hbm, ⟨26, _⟩ => ⟨S32768x512, .f32⟩
  | .hbm, ⟨27, _⟩ => ⟨S32768x512, .bf16⟩
  | .hbm, ⟨28, _⟩ => ⟨S32768x1024, .bf16⟩
  | .hbm, ⟨29, _⟩ => ⟨S1024x1024, .f32⟩
  | .hbm, ⟨30, _⟩ => ⟨S1024x1024, .bf16⟩
  | .hbm, ⟨31, _⟩ => ⟨S1024x4096, .f32⟩
  | .hbm, ⟨32, _⟩ => ⟨S1024x4096, .bf16⟩
  | .hbm, ⟨33, _⟩ => ⟨S3x1024, .f32⟩
  | .hbm, ⟨34, _⟩ => ⟨S1024x1024, .f32⟩
  | .hbm, ⟨35, _⟩ => ⟨S1024x1024, .bf16⟩
  | .hbm, ⟨36, _⟩ => ⟨S32768x1024, .f32⟩
  | .local _ .vmem, ⟨0, _⟩ => ⟨S16x1024, .f32⟩
  | .local _ .vmem, ⟨1, _⟩ => ⟨S16x1024, .f32⟩
  | .local _ .vmem, ⟨2, _⟩ => ⟨S1024x1024, .f32⟩
  | .local _ .vmem, ⟨3, _⟩ => ⟨S1024x1024, .f32⟩
  | .local _ .vmem, ⟨4, _⟩ => ⟨S16x1024, .f32⟩
  | .local _ .vmem, ⟨5, _⟩ => ⟨S16x1024, .f32⟩
  | .local _ .vmem, ⟨6, _⟩ => ⟨S16x512, .f32⟩
  | .local _ .vmem, ⟨7, _⟩ => ⟨S16x512, .f32⟩
  | .local _ .vmem, ⟨8, _⟩ => ⟨S1024x512, .f32⟩
  | .local _ .vmem, ⟨9, _⟩ => ⟨S1024x512, .f32⟩
  | .local _ .vmem, ⟨10, _⟩ => ⟨S16x512, .f32⟩
  | .local _ .vmem, ⟨11, _⟩ => ⟨S16x512, .f32⟩
  | .local _ .vmem, ⟨12, _⟩ => ⟨S16x512, .bf16⟩
  | .local _ .vmem, ⟨13, _⟩ => ⟨S16x512, .bf16⟩
  | .local _ .vmem, ⟨14, _⟩ => ⟨S1024x512, .bf16⟩
  | .local _ .vmem, ⟨15, _⟩ => ⟨S1024x512, .bf16⟩
  | .local _ .vmem, ⟨16, _⟩ => ⟨S16x512, .bf16⟩
  | .local _ .vmem, ⟨17, _⟩ => ⟨S16x512, .bf16⟩
  | .local _ .vmem, ⟨18, _⟩ => ⟨S16x1024, .bf16⟩
  | .local _ .vmem, ⟨19, _⟩ => ⟨S16x1024, .bf16⟩
  | .local _ .vmem, ⟨20, _⟩ => ⟨S1024x1024, .bf16⟩
  | .local _ .vmem, ⟨21, _⟩ => ⟨S1024x1024, .bf16⟩
  | .local _ .vmem, ⟨22, _⟩ => ⟨S16x1024, .bf16⟩
  | .local _ .vmem, ⟨23, _⟩ => ⟨S16x1024, .bf16⟩
  | .local _ .vmem, ⟨24, _⟩ => ⟨S1x1x1024, .f32⟩
  | .local _ .vmem, ⟨25, _⟩ => ⟨S1x1x1024, .f32⟩
  | .local _ .vmem, ⟨26, _⟩ => ⟨S1024x1024, .bf16⟩
  | .local _ .vmem, ⟨27, _⟩ => ⟨S1x1024, .f32⟩
  | .local _ .vmem, ⟨28, _⟩ => ⟨S1x1x1024, .f32⟩
  | .local _ .vmem, ⟨29, _⟩ => ⟨S1x1x1024, .f32⟩
  | .local _ .vmem, ⟨30, _⟩ => ⟨S1x1x1024, .f32⟩
  | .local _ .vmem, ⟨31, _⟩ => ⟨S1x1x1024, .f32⟩
  | .local _ .vmem, ⟨32, _⟩ => ⟨S1024x4096, .bf16⟩
  | .local _ .vmem, ⟨33, _⟩ => ⟨S3x1024, .f32⟩
  | .local _ .vmem, ⟨34, _⟩ => ⟨S1x1x1024, .f32⟩
  | .local _ .vmem, ⟨35, _⟩ => ⟨S1x1x1024, .f32⟩
  | .local _ .vmem, ⟨36, _⟩ => ⟨S1024x1024, .bf16⟩
  | .local _ .vmem, ⟨37, _⟩ => ⟨S1024x1024, .f32⟩
  | .local _ .vmem, ⟨38, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg18_0 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg21_0 : Ref sig .tc := ⟨.vmem, 37, rfl⟩
abbrev cc0_stg21_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem18_0 : DmaSem sig := 33
abbrev cc0_sem19_0 : DmaSem sig := 34
abbrev cc0_sem19_1 : DmaSem sig := 35
abbrev cc0_sem20_0 : DmaSem sig := 36
abbrev cc0_sem21_0 : DmaSem sig := 37
abbrev cc0_sem21_1 : DmaSem sig := 38

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_16 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1024x4096 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S3x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1x1x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1024x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S1024x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference2Ideal.lean ====
abbrev S4x8192x1024 : Shape := ⟨3, ![4, 8192, 1024]⟩
abbrev S4x8192x512 : Shape := ⟨3, ![4, 8192, 512]⟩
abbrev S2x8x3072 : Shape := ⟨3, ![2, 8, 3072]⟩
abbrev S2x1024 : Shape := ⟨2, ![2, 1024]⟩
abbrev S1x1024x1024 : Shape := ⟨3, ![1, 1024, 1024]⟩
abbrev S1x1024x4096 : Shape := ⟨3, ![1, 1024, 4096]⟩
abbrev S1x3x1024 : Shape := ⟨3, ![1, 3, 1024]⟩
abbrev S1x4x3072 : Shape := ⟨3, ![1, 4, 3072]⟩
abbrev S4x3072 : Shape := ⟨2, ![4, 3072]⟩
abbrev S4x1024 : Shape := ⟨2, ![4, 1024]⟩
abbrev S4x1x1024 : Shape := ⟨3, ![4, 1, 1024]⟩
abbrev S1024x1024 : Shape := ⟨2, ![1024, 1024]⟩
abbrev S_ : Shape := ⟨0, ![]⟩
abbrev S4x8192 : Shape := ⟨2, ![4, 8192]⟩
abbrev S4x8192x1 : Shape := ⟨3, ![4, 8192, 1]⟩
abbrev S1x1024 : Shape := ⟨2, ![1, 1024]⟩
abbrev S1024 : Shape := ⟨1, ![1024]⟩
abbrev S1x1x1024 : Shape := ⟨3, ![1, 1, 1024]⟩
abbrev S1024x4096 : Shape := ⟨2, ![1024, 4096]⟩
abbrev S4x8192x4096 : Shape := ⟨3, ![4, 8192, 4096]⟩
abbrev S4x8194x1024 : Shape := ⟨3, ![4, 8194, 1024]⟩
abbrev S32768x1024 : Shape := ⟨2, ![32768, 1024]⟩

abbrev nBuf : Space → Nat
  | .hbm => 108
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .bf16⟩
  | .hbm, ⟨3, _⟩ => ⟨S4x8192x1024, .bf16⟩
  | .hbm, ⟨4, _⟩ => ⟨S2x8x3072, .f32⟩
  | .hbm, ⟨5, _⟩ => ⟨S2x1024, .f32⟩
  | .hbm, ⟨6, _⟩ => ⟨S1x1024x1024, .f32⟩
  | .hbm, ⟨7, _⟩ => ⟨S1x1024x4096, .f32⟩
  | .hbm, ⟨8, _⟩ => ⟨S1x3x1024, .f32⟩
  | .hbm, ⟨9, _⟩ => ⟨S1x1024x1024, .f32⟩
  | .hbm, ⟨10, _⟩ => ⟨S1x4x3072, .f32⟩
  | .hbm, ⟨11, _⟩ => ⟨S4x3072, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S1x4x3072, .f32⟩
  | .hbm, ⟨16, _⟩ => ⟨S4x3072, .f32⟩
  | .hbm, ⟨17, _⟩ => ⟨S4x1024, .f32⟩
  | .hbm, ⟨18, _⟩ => ⟨S4x1024, .f32⟩
  | .hbm, ⟨19, _⟩ => ⟨S4x1024, .f32⟩
  | .hbm, ⟨20, _⟩ => ⟨S4x8192x512, .f32⟩
  | .hbm, ⟨21, _⟩ => ⟨S4x8192x1024, .f32⟩
  | .hbm, ⟨22, _⟩ => ⟨S4x8192x1024, .f32⟩
  | .hbm, ⟨23, _⟩ => ⟨S4x8192x1024, .f32⟩
  | .hbm, ⟨24, _⟩ => ⟨S4x1x1024, .f32⟩
  | .hbm, ⟨25, _⟩ => ⟨S1024x1024, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S_, .f32⟩
  | .hbm, ⟨32, _⟩ => ⟨S4x8192, .f32⟩
  | .hbm, ⟨33, _⟩ => ⟨S4x8192x1, .f32⟩
  | .hbm, ⟨34, _⟩ => ⟨S_, .f32⟩
  | .hbm, ⟨35, _⟩ => ⟨S4x8192x1, .f32⟩
  | .hbm, ⟨36, _⟩ => ⟨S4x8192x1, .f32⟩
  | .hbm, ⟨37, _⟩ => ⟨S_, .f32⟩
  | .hbm, ⟨38, _⟩ => ⟨S4x8192x1, .f32⟩
  | .hbm, ⟨39, _⟩ => ⟨S4x8192x1, .f32⟩
  | .hbm, ⟨40, _⟩ => ⟨S4x8192x1, .f32⟩
  | .hbm, ⟨41, _⟩ => ⟨S4x8192x1024, .f32⟩
  | .hbm, ⟨42, _⟩ => ⟨S4x8192x1024, .f32⟩
  | .hbm, ⟨43, _⟩ => ⟨S1x1024, .f32⟩
  | .hbm, ⟨44, _⟩ => ⟨S1024, .f32⟩
  | .hbm, ⟨45, _⟩ => ⟨S1x1x1024, .f32⟩
  | .hbm, ⟨46, _⟩ => ⟨S4x8192x1024, .f32⟩
  | .hbm, ⟨47, _⟩ => ⟨S4x8192x1024, .f32⟩
  | .hbm, ⟨48, _⟩ => ⟨S4x1x1024, .f32⟩
  | .hbm, ⟨49, _⟩ => ⟨S_, .f32⟩
  | .hbm, ⟨50, _⟩ => ⟨S4x1x1024, .f32⟩
  | .hbm, ⟨51, _⟩ => ⟨S4x1x1024, .f32⟩
  | .hbm, ⟨52, _⟩ => ⟨S4x8192x1024, .f32⟩
  | .hbm, ⟨53, _⟩ => ⟨S4x8192x1024, .f32⟩
  | .hbm, ⟨54, _⟩ => ⟨S4x1x1024, .f32⟩
  | .hbm, ⟨55, _⟩ => ⟨S4x8192x1024, .f32⟩
  | .hbm, ⟨56, _⟩ => ⟨S4x8192x1024, .f32⟩
  | .hbm, ⟨57, _⟩ => ⟨S1024x4096, .f32⟩
  | .hbm, ⟨58, _⟩ => ⟨S4x8192x4096, .f32⟩
  | .hbm, ⟨59, _⟩ => ⟨S4x8192x1024, .f32⟩
  | .hbm, ⟨60, _⟩ => ⟨S4x8192x1024, .f32⟩
  | .hbm, ⟨61, _⟩ => ⟨S4x8192x1024, .f32⟩
  | .hbm, ⟨62, _⟩ => ⟨S4x8192x1024, .f32⟩
  | .hbm, ⟨63, _⟩ => ⟨S4x8192x1024, .f32⟩
  | .hbm, ⟨64, _⟩ => ⟨S_, .i32⟩
  | .hbm, ⟨65, _⟩ => ⟨S_, .f32⟩
  | .hbm, ⟨66, _⟩ => ⟨S4x8194x1024, .f32⟩
  | .hbm, ⟨67, _⟩ => ⟨S1x1x1024, .f32⟩
  | .hbm, ⟨68, _⟩ => ⟨S1024, .f32⟩
  | .hbm, ⟨69, _⟩ => ⟨S4x8192x1024, .f32⟩
  | .hbm, ⟨70, _⟩ => ⟨S1x1x1024, .f32⟩
  | .hbm, ⟨71, _⟩ => ⟨S4x8192x1024, .f32⟩
  | .hbm, ⟨72, _⟩ => ⟨S4x8192x1024, .f32⟩
  | .hbm, ⟨73, _⟩ => ⟨S_, .f32⟩
  | .hbm, ⟨74, _⟩ => ⟨S4x8192x1024, .f32⟩
  | .hbm, ⟨75, _⟩ => ⟨S4x8192x1024, .f32⟩
  | .hbm, ⟨76, _⟩ => ⟨S1x1x1024, .f32⟩
  | .hbm, ⟨77, _⟩ => ⟨S1024, .f32⟩
  | .hbm, ⟨78, _⟩ => ⟨S4x8192x1024, .f32⟩
  | .hbm, ⟨79, _⟩ => ⟨S1x1x1024, .f32⟩
  | .hbm, ⟨80, _⟩ => ⟨S4x8192x1024, .f32⟩
  | .hbm, ⟨81, _⟩ => ⟨S4x8192x1024, .f32⟩
  | .hbm, ⟨82, _⟩ => ⟨S4x8192x1024, .f32⟩
  | .hbm, ⟨83, _⟩ => ⟨S1x1x1024, .f32⟩
  | .hbm, ⟨84, _⟩ => ⟨S1024, .f32⟩
  | .hbm, ⟨85, _⟩ => ⟨S4x8192x1024, .f32⟩
  | .hbm, ⟨86, _⟩ => ⟨S1x1x1024, .f32⟩
  | .hbm, ⟨87, _⟩ => ⟨S4x8192x1024, .f32⟩
  | .hbm, ⟨88, _⟩ => ⟨S4x8192x1024, .f32⟩
  | .hbm, ⟨89, _⟩ => ⟨S4x8192x1024, .f32⟩
  | .hbm, ⟨90, _⟩ => ⟨S4x1x1024, .f32⟩
  | .hbm, ⟨91, _⟩ => ⟨S4x8192x1024, .f32⟩
  | .hbm, ⟨92, _⟩ => ⟨S4x8192x1024, .f32⟩
  | .hbm, ⟨93, _⟩ => ⟨S4x8192x1024, .f32⟩
  | .hbm, ⟨94, _⟩ => ⟨S_, .f32⟩
  | .hbm, ⟨95, _⟩ => ⟨S4x8192x1024, .f32⟩
  | .hbm, ⟨96, _⟩ => ⟨S4x8192x1024, .f32⟩
  | .hbm, ⟨97, _⟩ => ⟨S_, .f32⟩
  | .hbm, ⟨98, _⟩ => ⟨S4x8192x1024, .f32⟩
  | .hbm, ⟨99, _⟩ => ⟨S4x8192x1024, .f32⟩
  | .hbm, ⟨100, _⟩ => ⟨S4x8192x1024, .f32⟩
  | .hbm, ⟨101, _⟩ => ⟨S4x8192x1024, .f32⟩
  | .hbm, ⟨102, _⟩ => ⟨S1024x1024, .f32⟩
  | .hbm, ⟨103, _⟩ => ⟨S4x8192x1024, .f32⟩
  | .hbm, ⟨104, _⟩ => ⟨S4x8192x1024, .f32⟩
  | .hbm, ⟨105, _⟩ => ⟨S4x8192x1024, .f32⟩
  | .hbm, ⟨106, _⟩ => ⟨S4x8192x1024, .f32⟩
  | .hbm, ⟨107, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_cst_0 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_2 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c : Ref sig .tc := ⟨.hbm, 64, rfl⟩
abbrev main_call0_v0 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_3 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_call1_v0 : Ref sig .tc := ⟨.hbm, 92, rfl⟩
abbrev main_call1_v1 : Ref sig .tc := ⟨.hbm, 93, rfl⟩
abbrev main_call1_cst : Ref sig .tc := ⟨.hbm, 94, rfl⟩
abbrev main_call1_v2 : Ref sig .tc := ⟨.hbm, 95, rfl⟩
abbrev main_call1_v3 : Ref sig .tc := ⟨.hbm, 96, rfl⟩
abbrev main_call1_cst_0 : Ref sig .tc := ⟨.hbm, 97, rfl⟩
abbrev main_call1_v4 : Ref sig .tc := ⟨.hbm, 98, rfl⟩
abbrev main_call1_v5 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩

abbrev nD : Nat := 1
abbrev τ : Topo := Topo.v7x

variable {F : FTy → Type} [FloatOps F]
-- ==== Kernel3.lean ====
abbrev S4x8192x1024 : Shape := ⟨3, ![4, 8192, 1024]⟩
abbrev S2x8x3072 : Shape := ⟨3, ![2, 8, 3072]⟩
abbrev S2x1024 : Shape := ⟨2, ![2, 1024]⟩
abbrev S1x1024x3072 : Shape := ⟨3, ![1, 1024, 3072]⟩
abbrev S1x64 : Shape := ⟨2, ![1, 64]⟩
abbrev S1x8x1024 : Shape := ⟨3, ![1, 8, 1024]⟩
abbrev S8x1024 : Shape := ⟨2, ![8, 1024]⟩
abbrev S8x1x1024 : Shape := ⟨3, ![8, 1, 1024]⟩
abbrev S1024x3072 : Shape := ⟨2, ![1024, 3072]⟩
abbrev S1024x512 : Shape := ⟨2, ![1024, 512]⟩
abbrev S1024x1024 : Shape := ⟨2, ![1024, 1024]⟩
abbrev S64 : Shape := ⟨1, ![64]⟩
abbrev S8x64 : Shape := ⟨2, ![8, 64]⟩
abbrev S512 : Shape := ⟨1, ![512]⟩
abbrev S1x512 : Shape := ⟨2, ![1, 512]⟩
abbrev S4x4 : Shape := ⟨2, ![4, 4]⟩
abbrev S_ : Shape := ⟨0, ![]⟩
abbrev S64x64 : Shape := ⟨2, ![64, 64]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S128 : Shape := ⟨1, ![128]⟩
abbrev S128x64 : Shape := ⟨2, ![128, 64]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S8192x128 : Shape := ⟨2, ![8192, 128]⟩
abbrev S1x1024 : Shape := ⟨2, ![1, 1024]⟩
abbrev S1024 : Shape := ⟨1, ![1024]⟩
abbrev S32768x1024 : Shape := ⟨2, ![32768, 1024]⟩
abbrev S4x64x128x512 : Shape := ⟨4, ![4, 64, 128, 512]⟩
abbrev S32768x512 : Shape := ⟨2, ![32768, 512]⟩
abbrev S4x4x128x8192 : Shape := ⟨4, ![4, 4, 128, 8192]⟩
abbrev S1x1x1024 : Shape := ⟨3, ![1, 1, 1024]⟩
abbrev S1024x128 : Shape := ⟨2, ![1024, 128]⟩
abbrev S1x64x16x512 : Shape := ⟨4, ![1, 64, 16, 512]⟩
abbrev S1x4x128x1024 : Shape := ⟨4, ![1, 4, 128, 1024]⟩
abbrev S4x1088x128 : Shape := ⟨3, ![4, 1088, 128]⟩
abbrev S1024x1 : Shape := ⟨2, ![1024, 1]⟩
abbrev S64x128 : Shape := ⟨2, ![64, 128]⟩
abbrev S1x64x128 : Shape := ⟨3, ![1, 64, 128]⟩
abbrev S1x16x128 : Shape := ⟨3, ![1, 16, 128]⟩
abbrev S16x128 : Shape := ⟨2, ![16, 128]⟩
abbrev S1x1x16x128 : Shape := ⟨4, ![1, 1, 16, 128]⟩
abbrev S1024x256 : Shape := ⟨2, ![1024, 256]⟩
abbrev S128x1024 : Shape := ⟨2, ![128, 1024]⟩
abbrev S1x1x128x1024 : Shape := ⟨4, ![1, 1, 128, 1024]⟩

abbrev nBuf : Space → Nat
  | .hbm => 99
  | .vmem => 30
  | .smem => 0
  | _ => 0

abbrev bufTy : (tb : Table) → Fin (tcTables nBuf tb) → BufTy
  | .hbm, ⟨0, _⟩ => ⟨S4x8192x1024, .f32⟩
  | .hbm, ⟨1, _⟩ => ⟨S2x8x3072, .f32⟩
  | .hbm, ⟨2, _⟩ => ⟨S2x1024, .f32⟩
  | .hbm, ⟨3, _⟩ => ⟨S1x1024x3072, .f32⟩
  | .hbm, ⟨4, _⟩ => ⟨S1x64, .f32⟩
  | .hbm, ⟨5, _⟩ => ⟨S1x64, .f32⟩
  | .hbm, ⟨6, _⟩ => ⟨S1x8x1024, .f32⟩
  | .hbm, ⟨7, _⟩ => ⟨S8x1024, .f32⟩
  | .hbm, ⟨8, _⟩ => ⟨S8x1x1024, .f32⟩
  | .hbm, ⟨9, _⟩ => ⟨S1x8x1024, .f32⟩
  | .hbm, ⟨10, _⟩ => ⟨S8x1024, .f32⟩
  | .hbm, ⟨11, _⟩ => ⟨S8x1x1024, .f32⟩
  | .hbm, ⟨12, _⟩ => ⟨S1024x3072, .f32⟩
  | .hbm, ⟨13, _⟩ => ⟨S1024x3072, .bf16⟩
  | .hbm, ⟨14, _⟩ => ⟨S1024x512, .bf16⟩
  | .hbm, ⟨15, _⟩ => ⟨S1024x512, .bf16⟩
  | .hbm, ⟨16, _⟩ => ⟨S1024x512, .bf16⟩
  | .hbm, ⟨17, _⟩ => ⟨S1024x512, .bf16⟩
  | .hbm, ⟨18, _⟩ => ⟨S1024x1024, .bf16⟩
  | .hbm, ⟨19, _⟩ => ⟨S64, .f32⟩
  | .hbm, ⟨20, _⟩ => ⟨S1x64, .f32⟩
  | .hbm, ⟨21, _⟩ => ⟨S8x64, .f32⟩
  | .hbm, ⟨22, _⟩ => ⟨S512, .f32⟩
  | .hbm, ⟨23, _⟩ => ⟨S1x512, .f32⟩
  | .hbm, ⟨24, _⟩ => ⟨S64, .f32⟩
  | .hbm, ⟨25, _⟩ => ⟨S1x64, .f32⟩
  | .hbm, ⟨26, _⟩ => ⟨S8x64, .f32⟩
  | .hbm, ⟨27, _⟩ => ⟨S512, .f32⟩
  | .hbm, ⟨28, _⟩ => ⟨S1x512, .f32⟩
  | .hbm, ⟨29, _⟩ => ⟨S4x4, .i32⟩
  | .hbm, ⟨30, _⟩ => ⟨S4x4, .i32⟩
  | .hbm, ⟨31, _⟩ => ⟨S_, .i32⟩
  | .hbm, ⟨32, _⟩ => ⟨S4x4, .i32⟩
  | .hbm, ⟨33, _⟩ => ⟨S4x4, .i32⟩
  | .hbm, ⟨34, _⟩ => ⟨S4x4, .i1⟩
  | .hbm, ⟨35, _⟩ => ⟨S4x4, .f32⟩
  | .hbm, ⟨36, _⟩ => ⟨S_, .f32⟩
  | .hbm, ⟨37, _⟩ => ⟨S64x64, .f32⟩
  | .hbm, ⟨38, _⟩ => ⟨S4x1x4x1, .f32⟩
  | .hbm, ⟨39, _⟩ => ⟨S1x64x1x64, .f32⟩
  | .hbm, ⟨40, _⟩ => ⟨S4x64x4x64, .f32⟩
  | .hbm, ⟨41, _⟩ => ⟨S4x64x4x64, .f32⟩
  | .hbm, ⟨42, _⟩ => ⟨S4x64x4x64, .f32⟩
  | .hbm, ⟨43, _⟩ => ⟨S256x256, .f32⟩
  | .hbm, ⟨44, _⟩ => ⟨S256x256, .bf16⟩
  | .hbm, ⟨45, _⟩ => ⟨S128, .f32⟩
  | .hbm, ⟨46, _⟩ => ⟨S128x64, .f32⟩
  | .hbm, ⟨47, _⟩ => ⟨S8192, .f32⟩
  | .hbm, ⟨48, _⟩ => ⟨S64, .f32⟩
  | .hbm, ⟨49, _⟩ => ⟨S1x64, .f32⟩
  | .hbm, ⟨50, _⟩ => ⟨S128x64, .f32⟩
  | .hbm, ⟨51, _⟩ => ⟨S8192, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S16, .f32⟩
  | .hbm, ⟨60, _⟩ => ⟨S_, .f32⟩
  | .hbm, ⟨61, _⟩ => ⟨S16, .f32⟩
  | .hbm, ⟨62, _⟩ => ⟨S16, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S8192x1, .f32⟩
  | .hbm, ⟨67, _⟩ => ⟨S1x16, .f32⟩
  | .hbm, ⟨68, _⟩ => ⟨S8192x16, .f32⟩
  | .hbm, ⟨69, _⟩ => ⟨S8192x16, .f32⟩
  | .hbm, ⟨70, _⟩ => ⟨S8192x16, .f32⟩
  | .hbm, ⟨71, _⟩ => ⟨S8192x1, .f32⟩
  | .hbm, ⟨72, _⟩ => ⟨S1x16, .f32⟩
  | .hbm, ⟨73, _⟩ => ⟨S8192x16, .f32⟩
  | .hbm, ⟨74, _⟩ => ⟨S8192x16, .f32⟩
  | .hbm, ⟨75, _⟩ => ⟨S8192x16, .f32⟩
  | .hbm, ⟨76, _⟩ => ⟨S8192x16, .f32⟩
  | .hbm, ⟨77, _⟩ => ⟨S8192x16, .f32⟩
  | .hbm, ⟨78, _⟩ => ⟨S8192x16, .f32⟩
  | .hbm, ⟨79, _⟩ => ⟨S8192x16, .f32⟩
  | .hbm, ⟨80, _⟩ => ⟨S8192x64, .f32⟩
  | .hbm, ⟨81, _⟩ => ⟨S8192x16, .f32⟩
  | .hbm, ⟨82, _⟩ => ⟨S8192x16, .f32⟩
  | .hbm, ⟨83, _⟩ => ⟨S8192x16, .f32⟩
  | .hbm, ⟨84, _⟩ => ⟨S8192x16, .f32⟩
  | .hbm, ⟨85, _⟩ => ⟨S8192x16, .f32⟩
  | .hbm, ⟨86, _⟩ => ⟨S8192x16, .f32⟩
  | .hbm, ⟨87, _⟩ => ⟨S8192x64, .f32⟩
  | .hbm, ⟨88, _⟩ => ⟨S8192x128, .f32⟩
  | .hbm, ⟨89, _⟩ => ⟨S8192x128, .f32⟩
  | .hbm, ⟨90, _⟩ => ⟨S1x1024, .f32⟩
  | .hbm, ⟨91, _⟩ => ⟨S1024, .f32⟩
  | .hbm, ⟨92, _⟩ => ⟨S1x1024, .f32⟩
  | .hbm, ⟨93, _⟩ => ⟨S32768x1024, .f32⟩
  | .hbm, ⟨94, _⟩ => ⟨S4x64x128x512, .bf16⟩
  | .hbm, ⟨95, _⟩ => ⟨S32768x512, .bf16⟩
  | .hbm, ⟨96, _⟩ => ⟨S32768x512, .bf16⟩
  | .hbm, ⟨97, _⟩ => ⟨S4x4x128x8192, .bf16⟩
  | .hbm, ⟨98, _⟩ => ⟨S32768x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1x512, .f32⟩
  | .local _ .vmem, ⟨12, _⟩ => ⟨S1x512, .f32⟩
  | .local _ .vmem, ⟨13, _⟩ => ⟨S256x256, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x1024, .bf16⟩
  | .local _ .vmem, ⟨19, _⟩ => ⟨S1x64x16x512, .bf16⟩
  | .local _ .vmem, ⟨20, _⟩ => ⟨S1x64x16x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1024x512, .bf16⟩
  | .local _ .vmem, ⟨25, _⟩ => ⟨S1x4x128x1024, .bf16⟩
  | .local _ .vmem, ⟨26, _⟩ => ⟨S1x4x128x1024, .bf16⟩
  | .local _ .vmem, ⟨27, _⟩ => ⟨S1024x1024, .bf16⟩
  | .local _ .vmem, ⟨28, _⟩ => ⟨S1024x1024, .bf16⟩
  | .local _ .vmem, ⟨29, _⟩ => ⟨S4x1088x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst : Ref sig .tc := ⟨.hbm, 36, rfl⟩
abbrev main_v29 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_0 : Ref sig .tc := ⟨.hbm, 53, rfl⟩
abbrev main_v40 : Ref sig .tc := ⟨.hbm, 54, rfl⟩
abbrev main_v41 : Ref sig .tc := ⟨.hbm, 55, rfl⟩
abbrev main_cst_1 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_2 : Ref sig .tc := ⟨.hbm, 60, rfl⟩
abbrev main_v45 : Ref sig .tc := ⟨.hbm, 61, rfl⟩
abbrev main_v46 : Ref sig .tc := ⟨.hbm, 62, rfl⟩
abbrev main_cst_3 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77_0 : Ref sig .tc := ⟨.hbm, 94, rfl⟩
abbrev main_v77_1 : Ref sig .tc := ⟨.hbm, 95, rfl⟩
abbrev main_v77_2 : Ref sig .tc := ⟨.hbm, 96, rfl⟩
abbrev main_v77_3 : Ref sig .tc := ⟨.hbm, 97, rfl⟩
abbrev main_v77_4 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x64x16x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x4x128x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference3Ideal.lean ====
abbrev S4x8192x1024 : Shape := ⟨3, ![4, 8192, 1024]⟩
abbrev S2x8x3072 : Shape := ⟨3, ![2, 8, 3072]⟩
abbrev S2x1024 : Shape := ⟨2, ![2, 1024]⟩
abbrev S1x1024x3072 : Shape := ⟨3, ![1, 1024, 3072]⟩
abbrev S1x64 : Shape := ⟨2, ![1, 64]⟩
abbrev S1x4x3072 : Shape := ⟨3, ![1, 4, 3072]⟩
abbrev S4x3072 : Shape := ⟨2, ![4, 3072]⟩
abbrev S4x1024 : Shape := ⟨2, ![4, 1024]⟩
abbrev S_ : Shape := ⟨0, ![]⟩
abbrev S4x8192 : Shape := ⟨2, ![4, 8192]⟩
abbrev S4x8192x1 : Shape := ⟨3, ![4, 8192, 1]⟩
abbrev S1x1024 : Shape := ⟨2, ![1, 1024]⟩
abbrev S1024 : Shape := ⟨1, ![1024]⟩
abbrev S1x1x1024 : Shape := ⟨3, ![1, 1, 1024]⟩
abbrev S4x1x1024 : Shape := ⟨3, ![4, 1, 1024]⟩
abbrev S1024x3072 : Shape := ⟨2, ![1024, 3072]⟩
abbrev S4x8192x3072 : Shape := ⟨3, ![4, 8192, 3072]⟩
abbrev S4x8192x512 : Shape := ⟨3, ![4, 8192, 512]⟩
abbrev S128 : Shape := ⟨1, ![128]⟩
abbrev S128x64 : Shape := ⟨2, ![128, 64]⟩
abbrev S8192 : Shape := ⟨1, ![8192]⟩
abbrev S64 : Shape := ⟨1, ![64]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S4x8192x4x2x64 : Shape := ⟨5, ![4, 8192, 4, 2, 64]⟩
abbrev S4x8192x4x2 : Shape := ⟨4, ![4, 8192, 4, 2]⟩
abbrev S4x8192x4x2x1 : Shape := ⟨5, ![4, 8192, 4, 2, 1]⟩
abbrev S1x1x1x1x64 : Shape := ⟨5, ![1, 1, 1, 1, 64]⟩
abbrev S1x8192x1x1x16 : Shape := ⟨5, ![1, 8192, 1, 1, 16]⟩
abbrev S4x8192x4x2x32 : Shape := ⟨5, ![4, 8192, 4, 2, 32]⟩
abbrev S4x8192x4x2x16 : Shape := ⟨5, ![4, 8192, 4, 2, 16]⟩
abbrev S32768x512 : Shape := ⟨2, ![32768, 512]⟩
abbrev S4x8192x4x128 : Shape := ⟨4, ![4, 8192, 4, 128]⟩
abbrev S4x4x128x8192 : Shape := ⟨4, ![4, 4, 128, 8192]⟩
abbrev S32768x1024 : Shape := ⟨2, ![32768, 1024]⟩
abbrev S4x128x64x512 : Shape := ⟨4, ![4, 128, 64, 512]⟩
abbrev S4x64x128x512 : Shape := ⟨4, ![4, 64, 128, 512]⟩

abbrev nBuf : Space → Nat
  | .hbm => 203
  | .vmem => 0
  | .smem => 0
  | _ => 0

abbrev hbmTy0_0 (i : Nat) : BufTy := match i % 128 with
  | 0 => ⟨S4x8192x1024, .f32⟩
  | 1 => ⟨S2x8x3072, .f32⟩
  | 2 => ⟨S2x1024, .f32⟩
  | 3 => ⟨S1x1024x3072, .f32⟩
  | 4 => ⟨S1x64, .f32⟩
  | 5 => ⟨S1x64, .f32⟩
  | 6 => ⟨S1x4x3072, .f32⟩
  | 7 => ⟨S4x3072, .f32⟩
  | 8 => ⟨S4x1024, .f32⟩
  | 9 => ⟨S4x1024, .f32⟩
  | 10 => ⟨S4x1024, .f32⟩
  | 11 => ⟨S4x8192x1024, .f32⟩
  | 12 => ⟨S_, .f32⟩
  | 13 => ⟨S4x8192, .f32⟩
  | 14 => ⟨S4x8192x1, .f32⟩
  | 15 => ⟨S_, .f32⟩
  | 16 => ⟨S4x8192x1, .f32⟩
  | 17 => ⟨S4x8192x1, .f32⟩
  | 18 => ⟨S_, .f32⟩
  | 19 => ⟨S4x8192x1, .f32⟩
  | 20 => ⟨S4x8192x1, .f32⟩
  | 21 => ⟨S4x8192x1, .f32⟩
  | 22 => ⟨S4x8192x1024, .f32⟩
  | 23 => ⟨S4x8192x1024, .f32⟩
  | 24 => ⟨S1x1024, .f32⟩
  | 25 => ⟨S1024, .f32⟩
  | 26 => ⟨S1x1x1024, .f32⟩
  | 27 => ⟨S4x8192x1024, .f32⟩
  | 28 => ⟨S4x8192x1024, .f32⟩
  | 29 => ⟨S4x1x1024, .f32⟩
  | 30 => ⟨S_, .f32⟩
  | 31 => ⟨S4x1x1024, .f32⟩
  | 32 => ⟨S4x1x1024, .f32⟩
  | 33 => ⟨S4x8192x1024, .f32⟩
  | 34 => ⟨S4x8192x1024, .f32⟩
  | 35 => ⟨S4x1x1024, .f32⟩
  | 36 => ⟨S4x8192x1024, .f32⟩
  | 37 => ⟨S4x8192x1024, .f32⟩
  | 38 => ⟨S1024x3072, .f32⟩
  | 39 => ⟨S4x8192x3072, .f32⟩
  | 40 => ⟨S4x8192x512, .f32⟩
  | 41 => ⟨S4x8192x512, .f32⟩
  | 42 => ⟨S4x8192x512, .f32⟩
  | 43 => ⟨S4x8192x1024, .f32⟩
  | 44 => ⟨S128, .f32⟩
  | 45 => ⟨S128x64, .f32⟩
  | 46 => ⟨S8192, .f32⟩
  | 47 => ⟨S64, .f32⟩
  | 48 => ⟨S1x64, .f32⟩
  | 49 => ⟨S128x64, .f32⟩
  | 50 => ⟨S8192, .f32⟩
  | 51 => ⟨S16, .f32⟩
  | 52 => ⟨S_, .f32⟩
  | 53 => ⟨S16, .f32⟩
  | 54 => ⟨S16, .f32⟩
  | 55 => ⟨S_, .f32⟩
  | 56 => ⟨S16, .f32⟩
  | 57 => ⟨S16, .f32⟩
  | 58 => ⟨S16, .f32⟩
  | 59 => ⟨S_, .f32⟩
  | 60 => ⟨S16, .f32⟩
  | 61 => ⟨S16, .f32⟩
  | 62 => ⟨S_, .f32⟩
  | 63 => ⟨S16, .f32⟩
  | 64 => ⟨S16, .f32⟩
  | 65 => ⟨S8192x1, .f32⟩
  | 66 => ⟨S1x16, .f32⟩
  | 67 => ⟨S8192x16, .f32⟩
  | 68 => ⟨S8192x16, .f32⟩
  | 69 => ⟨S8192x16, .f32⟩
  | 70 => ⟨S8192x1, .f32⟩
  | 71 => ⟨S1x16, .f32⟩
  | 72 => ⟨S8192x16, .f32⟩
  | 73 => ⟨S8192x16, .f32⟩
  | 74 => ⟨S8192x16, .f32⟩
  | 75 => ⟨S8192x16, .f32⟩
  | 76 => ⟨S8192x16, .f32⟩
  | 77 => ⟨S8192x16, .f32⟩
  | 78 => ⟨S8192x16, .f32⟩
  | 79 => ⟨S4x8192x4x2x64, .f32⟩
  | 80 => ⟨S64, .f32⟩
  | 81 => ⟨S4x8192x4x2x64, .f32⟩
  | 82 => ⟨S_, .f32⟩
  | 83 => ⟨S4x8192x4x2, .f32⟩
  | 84 => ⟨S4x8192x4x2x1, .f32⟩
  | 85 => ⟨S_, .f32⟩
  | 86 => ⟨S4x8192x4x2x1, .f32⟩
  | 87 => ⟨S4x8192x4x2x1, .f32⟩
  | 88 => ⟨S_, .f32⟩
  | 89 => ⟨S4x8192x4x2x1, .f32⟩
  | 90 => ⟨S4x8192x4x2x1, .f32⟩
  | 91 => ⟨S4x8192x4x2x1, .f32⟩
  | 92 => ⟨S4x8192x4x2x64, .f32⟩
  | 93 => ⟨S4x8192x4x2x64, .f32⟩
  | 94 => ⟨S1x1x1x1x64, .f32⟩
  | 95 => ⟨S4x8192x4x2x64, .f32⟩
  | 96 => ⟨S4x8192x4x2x64, .f32⟩
  | 97 => ⟨S1x8192x1x1x16, .f32⟩
  | 98 => ⟨S1x8192x1x1x16, .f32⟩
  | 99 => ⟨S1x8192x1x1x16, .f32⟩
  | 100 => ⟨S1x8192x1x1x16, .f32⟩
  | 101 => ⟨S4x8192x4x2x32, .f32⟩
  | 102 => ⟨S4x8192x4x2x32, .f32⟩
  | 103 => ⟨S4x8192x4x2x16, .f32⟩
  | 104 => ⟨S4x8192x4x2x16, .f32⟩
  | 105 => ⟨S4x8192x4x2x16, .f32⟩
  | 106 => ⟨S4x8192x4x2x16, .f32⟩
  | 107 => ⟨S4x8192x4x2x16, .f32⟩
  | 108 => ⟨S4x8192x4x2x16, .f32⟩
  | 109 => ⟨S4x8192x4x2x16, .f32⟩
  | 110 => ⟨S4x8192x4x2x16, .f32⟩
  | 111 => ⟨S4x8192x4x2x16, .f32⟩
  | 112 => ⟨S4x8192x4x2x16, .f32⟩
  | 113 => ⟨S4x8192x4x2x16, .f32⟩
  | 114 => ⟨S4x8192x4x2x16, .f32⟩
  | 115 => ⟨S4x8192x4x2x32, .f32⟩
  | 116 => ⟨S4x8192x4x2x16, .f32⟩
  | 117 => ⟨S4x8192x4x2x16, .f32⟩
  | 118 => ⟨S4x8192x4x2x16, .f32⟩
  | 119 => ⟨S4x8192x4x2x16, .f32⟩
  | 120 => ⟨S4x8192x4x2x16, .f32⟩
  | 121 => ⟨S4x8192x4x2x16, .f32⟩
  | 122 => ⟨S4x8192x4x2x16, .f32⟩
  | 123 => ⟨S4x8192x4x2x16, .f32⟩
  | 124 => ⟨S4x8192x4x2x16, .f32⟩
  | 125 => ⟨S4x8192x4x2x16, .f32⟩
  | 126 => ⟨S4x8192x4x2x16, .f32⟩
  | 127 => ⟨S4x8192x4x2x16, .f32⟩
  | _ => ⟨S4x8192x1024, .f32⟩

abbrev hbmTy0_1 (i : Nat) : BufTy := match i % 128 with
  | 0 => ⟨S4x8192x4x2x32, .f32⟩
  | 1 => ⟨S4x8192x4x2x64, .f32⟩
  | 2 => ⟨S4x8192x4x2x64, .f32⟩
  | 3 => ⟨S64, .f32⟩
  | 4 => ⟨S4x8192x4x2x64, .f32⟩
  | 5 => ⟨S_, .f32⟩
  | 6 => ⟨S4x8192x4x2, .f32⟩
  | 7 => ⟨S4x8192x4x2x1, .f32⟩
  | 8 => ⟨S_, .f32⟩
  | 9 => ⟨S4x8192x4x2x1, .f32⟩
  | 10 => ⟨S4x8192x4x2x1, .f32⟩
  | 11 => ⟨S_, .f32⟩
  | 12 => ⟨S4x8192x4x2x1, .f32⟩
  | 13 => ⟨S4x8192x4x2x1, .f32⟩
  | 14 => ⟨S4x8192x4x2x1, .f32⟩
  | 15 => ⟨S4x8192x4x2x64, .f32⟩
  | 16 => ⟨S4x8192x4x2x64, .f32⟩
  | 17 => ⟨S1x1x1x1x64, .f32⟩
  | 18 => ⟨S4x8192x4x2x64, .f32⟩
  | 19 => ⟨S4x8192x4x2x64, .f32⟩
  | 20 => ⟨S1x8192x1x1x16, .f32⟩
  | 21 => ⟨S1x8192x1x1x16, .f32⟩
  | 22 => ⟨S1x8192x1x1x16, .f32⟩
  | 23 => ⟨S1x8192x1x1x16, .f32⟩
  | 24 => ⟨S4x8192x4x2x32, .f32⟩
  | 25 => ⟨S4x8192x4x2x32, .f32⟩
  | 26 => ⟨S4x8192x4x2x16, .f32⟩
  | 27 => ⟨S4x8192x4x2x16, .f32⟩
  | 28 => ⟨S4x8192x4x2x16, .f32⟩
  | 29 => ⟨S4x8192x4x2x16, .f32⟩
  | 30 => ⟨S4x8192x4x2x16, .f32⟩
  | 31 => ⟨S4x8192x4x2x16, .f32⟩
  | 32 => ⟨S4x8192x4x2x16, .f32⟩
  | 33 => ⟨S4x8192x4x2x16, .f32⟩
  | 34 => ⟨S4x8192x4x2x16, .f32⟩
  | 35 => ⟨S4x8192x4x2x16, .f32⟩
  | 36 => ⟨S4x8192x4x2x16, .f32⟩
  | 37 => ⟨S4x8192x4x2x16, .f32⟩
  | 38 => ⟨S4x8192x4x2x32, .f32⟩
  | 39 => ⟨S4x8192x4x2x16, .f32⟩
  | 40 => ⟨S4x8192x4x2x16, .f32⟩
  | 41 => ⟨S4x8192x4x2x16, .f32⟩
  | 42 => ⟨S4x8192x4x2x16, .f32⟩
  | 43 => ⟨S4x8192x4x2x16, .f32⟩
  | 44 => ⟨S4x8192x4x2x16, .f32⟩
  | 45 => ⟨S4x8192x4x2x16, .f32⟩
  | 46 => ⟨S4x8192x4x2x16, .f32⟩
  | 47 => ⟨S4x8192x4x2x16, .f32⟩
  | 48 => ⟨S4x8192x4x2x16, .f32⟩
  | 49 => ⟨S4x8192x4x2x16, .f32⟩
  | 50 => ⟨S4x8192x4x2x16, .f32⟩
  | 51 => ⟨S4x8192x4x2x32, .f32⟩
  | 52 => ⟨S4x8192x4x2x64, .f32⟩
  | 53 => ⟨S32768x512, .f32⟩
  | 54 => ⟨S32768x512, .bf16⟩
  | 55 => ⟨S32768x512, .f32⟩
  | 56 => ⟨S32768x512, .bf16⟩
  | 57 => ⟨S4x8192x4x128, .f32⟩
  | 58 => ⟨S4x4x128x8192, .f32⟩
  | 59 => ⟨S4x4x128x8192, .bf16⟩
  | 60 => ⟨S4x8192x1024, .f32⟩
  | 61 => ⟨S4x8192x1024, .f32⟩
  | 62 => ⟨S_, .f32⟩
  | 63 => ⟨S4x8192x1024, .f32⟩
  | 64 => ⟨S4x8192x1024, .f32⟩
  | 65 => ⟨S_, .f32⟩
  | 66 => ⟨S4x8192x1024, .f32⟩
  | 67 => ⟨S4x8192x1024, .f32⟩
  | 68 => ⟨S4x8192x1024, .f32⟩
  | 69 => ⟨S32768x1024, .f32⟩
  | 70 => ⟨S32768x1024, .bf16⟩
  | 71 => ⟨S4x8192x512, .f32⟩
  | 72 => ⟨S4x128x64x512, .f32⟩
  | 73 => ⟨S4x64x128x512, .f32⟩
  | 74 => ⟨S4x64x128x512, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_3 : Ref sig .tc := ⟨.hbm, 52, rfl⟩
abbrev main_v42 : Ref sig .tc := ⟨.hbm, 53, rfl⟩
abbrev main_v43 : Ref sig .tc := ⟨.hbm, 54, rfl⟩
abbrev main_cst_4 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_5 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_7 : Ref sig .tc := ⟨.hbm, 82, rfl⟩
abbrev main_v68 : Ref sig .tc := ⟨.hbm, 83, rfl⟩
abbrev main_v69 : Ref sig .tc := ⟨.hbm, 84, rfl⟩
abbrev main_cst_8 : Ref sig .tc := ⟨.hbm, 85, rfl⟩
abbrev main_v70 : Ref sig .tc := ⟨.hbm, 86, rfl⟩
abbrev main_v71 : Ref sig .tc := ⟨.hbm, 87, rfl⟩
abbrev main_cst_9 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_cst_10 : Ref sig .tc := ⟨.hbm, 133, rfl⟩
abbrev main_v116 : Ref sig .tc := ⟨.hbm, 134, rfl⟩
abbrev main_v117 : Ref sig .tc := ⟨.hbm, 135, rfl⟩
abbrev main_cst_11 : Ref sig .tc := ⟨.hbm, 136, rfl⟩
abbrev main_v118 : Ref sig .tc := ⟨.hbm, 137, rfl⟩
abbrev main_v119 : Ref sig .tc := ⟨.hbm, 138, rfl⟩
abbrev main_cst_12 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_call0_v0 : Ref sig .tc := ⟨.hbm, 188, rfl⟩
abbrev main_call0_v1 : Ref sig .tc := ⟨.hbm, 189, rfl⟩
abbrev main_call0_cst : Ref sig .tc := ⟨.hbm, 190, rfl⟩
abbrev main_call0_v2 : Ref sig .tc := ⟨.hbm, 191, rfl⟩
abbrev main_call0_v3 : Ref sig .tc := ⟨.hbm, 192, rfl⟩
abbrev main_call0_cst_0 : Ref sig .tc := ⟨.hbm, 193, rfl⟩
abbrev main_call0_v4 : Ref sig .tc := ⟨.hbm, 194, rfl⟩
abbrev main_call0_v5 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩

abbrev nD : Nat := 1
abbrev τ : Topo := Topo.v7x

variable {F : FTy → Type} [FloatOps F]
-- ==== Kernel4.lean ====
abbrev S4x256x1024 : Shape := ⟨3, ![4, 256, 1024]⟩
abbrev S2x8x3072 : Shape := ⟨3, ![2, 8, 3072]⟩
abbrev S2x1024 : Shape := ⟨2, ![2, 1024]⟩
abbrev S1x1024x3072 : Shape := ⟨3, ![1, 1024, 3072]⟩
abbrev S1x64 : Shape := ⟨2, ![1, 64]⟩
abbrev S1x8x1024 : Shape := ⟨3, ![1, 8, 1024]⟩
abbrev S8x1024 : Shape := ⟨2, ![8, 1024]⟩
abbrev S8x1x1024 : Shape := ⟨3, ![8, 1, 1024]⟩
abbrev S1024x3072 : Shape := ⟨2, ![1024, 3072]⟩
abbrev S1024x512 : Shape := ⟨2, ![1024, 512]⟩
abbrev S64 : Shape := ⟨1, ![64]⟩
abbrev S8x64 : Shape := ⟨2, ![8, 64]⟩
abbrev S512 : Shape := ⟨1, ![512]⟩
abbrev S1x512 : Shape := ⟨2, ![1, 512]⟩
abbrev S4x4 : Shape := ⟨2, ![4, 4]⟩
abbrev S_ : Shape := ⟨0, ![]⟩
abbrev S64x64 : Shape := ⟨2, ![64, 64]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S1x1024 : Shape := ⟨2, ![1, 1024]⟩
abbrev S1024 : Shape := ⟨1, ![1024]⟩
abbrev S1024x1024 : Shape := ⟨2, ![1024, 1024]⟩
abbrev S1x1x1024 : Shape := ⟨3, ![1, 1, 1024]⟩
abbrev S4x4x128x256 : Shape := ⟨4, ![4, 4, 128, 256]⟩
abbrev S256x1024 : Shape := ⟨2, ![256, 1024]⟩
abbrev S256x512 : Shape := ⟨2, ![256, 512]⟩
abbrev S1x4x128x256 : Shape := ⟨4, ![1, 4, 128, 256]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x1x128x256 : Shape := ⟨4, ![1, 1, 128, 256]⟩

abbrev nBuf : Space → Nat
  | .hbm => 46
  | .vmem => 13
  | .smem => 0
  | _ => 0

abbrev bufTy : (tb : Table) → Fin (tcTables nBuf tb) → BufTy
  | .hbm, ⟨0, _⟩ => ⟨S4x256x1024, .f32⟩
  | .hbm, ⟨1, _⟩ => ⟨S2x8x3072, .f32⟩
  | .hbm, ⟨2, _⟩ => ⟨S2x1024, .f32⟩
  | .hbm, ⟨3, _⟩ => ⟨S1x1024x3072, .f32⟩
  | .hbm, ⟨4, _⟩ => ⟨S1x64, .f32⟩
  | .hbm, ⟨5, _⟩ => ⟨S1x8x1024, .f32⟩
  | .hbm, ⟨6, _⟩ => ⟨S8x1024, .f32⟩
  | .hbm, ⟨7, _⟩ => ⟨S8x1x1024, .f32⟩
  | .hbm, ⟨8, _⟩ => ⟨S1x8x1024, .f32⟩
  | .hbm, ⟨9, _⟩ => ⟨S8x1024, .f32⟩
  | .hbm, ⟨10, _⟩ => ⟨S8x1x1024, .f32⟩
  | .hbm, ⟨11, _⟩ => ⟨S1024x3072, .f32⟩
  | .hbm, ⟨12, _⟩ => ⟨S1024x3072, .bf16⟩
  | .hbm, ⟨13, _⟩ => ⟨S1024x512, .bf16⟩
  | .hbm, ⟨14, _⟩ => ⟨S1024x512, .bf16⟩
  | .hbm, ⟨15, _⟩ => ⟨S64, .f32⟩
  | .hbm, ⟨16, _⟩ => ⟨S1x64, .f32⟩
  | .hbm, ⟨17, _⟩ => ⟨S8x64, .f32⟩
  | .hbm, ⟨18, _⟩ => ⟨S512, .f32⟩
  | .hbm, ⟨19, _⟩ => ⟨S1x512, .f32⟩
  | .hbm, ⟨20, _⟩ => ⟨S4x4, .i32⟩
  | .hbm, ⟨21, _⟩ => ⟨S4x4, .i32⟩
  | .hbm, ⟨22, _⟩ => ⟨S_, .i32⟩
  | .hbm, ⟨23, _⟩ => ⟨S4x4, .i32⟩
  | .hbm, ⟨24, _⟩ => ⟨S4x4, .i32⟩
  | .hbm, ⟨25, _⟩ => ⟨S4x4, .i1⟩
  | .hbm, ⟨26, _⟩ => ⟨S4x4, .f32⟩
  | .hbm, ⟨27, _⟩ => ⟨S_, .f32⟩
  | .hbm, ⟨28, _⟩ => ⟨S64x64, .f32⟩
  | .hbm, ⟨29, _⟩ => ⟨S4x1x4x1, .f32⟩
  | .hbm, ⟨30, _⟩ => ⟨S1x64x1x64, .f32⟩
  | .hbm, ⟨31, _⟩ => ⟨S4x64x4x64, .f32⟩
  | .hbm, ⟨32, _⟩ => ⟨S4x64x4x64, .f32⟩
  | .hbm, ⟨33, _⟩ => ⟨S4x64x4x64, .f32⟩
  | .hbm, ⟨34, _⟩ => ⟨S256x256, .f32⟩
  | .hbm, ⟨35, _⟩ => ⟨S256x256, .bf16⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S1024x1024, .f32⟩
  | .hbm, ⟨40, _⟩ => ⟨S1x1x1024, .f32⟩
  | .hbm, ⟨41, _⟩ => ⟨S1x1024, .f32⟩
  | .hbm, ⟨42, _⟩ => ⟨S1x1x1024, .f32⟩
  | .hbm, ⟨43, _⟩ => ⟨S1x1024, .f32⟩
  | .hbm, ⟨44, _⟩ => ⟨S1024x512, .bf16⟩
  | .hbm, ⟨45, _⟩ => ⟨S4x4x128x256, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x512, .f32⟩
  | .local _ .vmem, ⟨6, _⟩ => ⟨S256x256, .bf16⟩
  | .local _ .vmem, ⟨7, _⟩ => ⟨S1024x512, .bf16⟩
  | .local _ .vmem, ⟨8, _⟩ => ⟨S1024x512, .bf16⟩
  | .local _ .vmem, ⟨9, _⟩ => ⟨S256x512, .bf16⟩
  | .local _ .vmem, ⟨10, _⟩ => ⟨S256x512, .bf16⟩
  | .local _ .vmem, ⟨11, _⟩ => ⟨S1x4x128x256, .bf16⟩
  | .local _ .vmem, ⟨12, _⟩ => ⟨S1x4x128x256, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32_0 : Ref sig .tc := ⟨.hbm, 44, rfl⟩
abbrev main_v32_1 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S4x256x1024 : Shape := ⟨3, ![4, 256, 1024]⟩
abbrev S2x8x3072 : Shape := ⟨3, ![2, 8, 3072]⟩
abbrev S2x1024 : Shape := ⟨2, ![2, 1024]⟩
abbrev S1x1024x3072 : Shape := ⟨3, ![1, 1024, 3072]⟩
abbrev S1x64 : Shape := ⟨2, ![1, 64]⟩
abbrev S1x1x3072 : Shape := ⟨3, ![1, 1, 3072]⟩
abbrev S3072 : Shape := ⟨1, ![3072]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1024 : Shape := ⟨2, ![1, 1024]⟩
abbrev S1x1x1024 : Shape := ⟨3, ![1, 1, 1024]⟩
abbrev S1024x3072 : Shape := ⟨2, ![1024, 3072]⟩
abbrev S1024x1024 : Shape := ⟨2, ![1024, 1024]⟩
abbrev S4x256x512 : Shape := ⟨3, ![4, 256, 512]⟩
abbrev S4x256x4x2x64 : Shape := ⟨5, ![4, 256, 4, 2, 64]⟩
abbrev S64 : Shape := ⟨1, ![64]⟩
abbrev S4x256x4x2 : Shape := ⟨4, ![4, 256, 4, 2]⟩
abbrev S4x256x4x2x1 : Shape := ⟨5, ![4, 256, 4, 2, 1]⟩
abbrev S1x1x1x1x64 : Shape := ⟨5, ![1, 1, 1, 1, 64]⟩
abbrev S4x256x4x128 : Shape := ⟨4, ![4, 256, 4, 128]⟩
abbrev S1024x512 : Shape := ⟨2, ![1024, 512]⟩
abbrev S4x4x128x256 : Shape := ⟨4, ![4, 4, 128, 256]⟩

abbrev nBuf : Space → Nat
  | .hbm => 65
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S2x8x3072, .f32⟩
  | .hbm, ⟨2, _⟩ => ⟨S2x1024, .f32⟩
  | .hbm, ⟨3, _⟩ => ⟨S1x1024x3072, .f32⟩
  | .hbm, ⟨4, _⟩ => ⟨S1x64, .f32⟩
  | .hbm, ⟨5, _⟩ => ⟨S1x1x3072, .f32⟩
  | .hbm, ⟨6, _⟩ => ⟨S3072, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S4x256x1024, .f32⟩
  | .hbm, ⟨11, _⟩ => ⟨S_, .f32⟩
  | .hbm, ⟨12, _⟩ => ⟨S4x256, .f32⟩
  | .hbm, ⟨13, _⟩ => ⟨S4x256x1, .f32⟩
  | .hbm, ⟨14, _⟩ => ⟨S_, .f32⟩
  | .hbm, ⟨15, _⟩ => ⟨S4x256x1, .f32⟩
  | .hbm, ⟨16, _⟩ => ⟨S4x256x1, .f32⟩
  | .hbm, ⟨17, _⟩ => ⟨S_, .f32⟩
  | .hbm, ⟨18, _⟩ => ⟨S4x256x1, .f32⟩
  | .hbm, ⟨19, _⟩ => ⟨S4x256x1, .f32⟩
  | .hbm, ⟨20, _⟩ => ⟨S4x256x1, .f32⟩
  | .hbm, ⟨21, _⟩ => ⟨S4x256x1024, .f32⟩
  | .hbm, ⟨22, _⟩ => ⟨S4x256x1024, .f32⟩
  | .hbm, ⟨23, _⟩ => ⟨S1x1024, .f32⟩
  | .hbm, ⟨24, _⟩ => ⟨S1024, .f32⟩
  | .hbm, ⟨25, _⟩ => ⟨S1x1x1024, .f32⟩
  | .hbm, ⟨26, _⟩ => ⟨S4x256x1024, .f32⟩
  | .hbm, ⟨27, _⟩ => ⟨S4x256x1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1x1x1024, .f32⟩
  | .hbm, ⟨32, _⟩ => ⟨S4x256x1024, .f32⟩
  | .hbm, ⟨33, _⟩ => ⟨S4x256x1024, .f32⟩
  | .hbm, ⟨34, _⟩ => ⟨S1x1x1024, .f32⟩
  | .hbm, ⟨35, _⟩ => ⟨S4x256x1024, .f32⟩
  | .hbm, ⟨36, _⟩ => ⟨S4x256x1024, .f32⟩
  | .hbm, ⟨37, _⟩ => ⟨S1024x3072, .f32⟩
  | .hbm, ⟨38, _⟩ => ⟨S1024x1024, .f32⟩
  | .hbm, ⟨39, _⟩ => ⟨S4x256x1024, .f32⟩
  | .hbm, ⟨40, _⟩ => ⟨S4x256x512, .f32⟩
  | .hbm, ⟨41, _⟩ => ⟨S4x256x4x2x64, .f32⟩
  | .hbm, ⟨42, _⟩ => ⟨S64, .f32⟩
  | .hbm, ⟨43, _⟩ => ⟨S4x256x4x2x64, .f32⟩
  | .hbm, ⟨44, _⟩ => ⟨S_, .f32⟩
  | .hbm, ⟨45, _⟩ => ⟨S4x256x4x2, .f32⟩
  | .hbm, ⟨46, _⟩ => ⟨S4x256x4x2x1, .f32⟩
  | .hbm, ⟨47, _⟩ => ⟨S_, .f32⟩
  | .hbm, ⟨48, _⟩ => ⟨S4x256x4x2x1, .f32⟩
  | .hbm, ⟨49, _⟩ => ⟨S4x256x4x2x1, .f32⟩
  | .hbm, ⟨50, _⟩ => ⟨S_, .f32⟩
  | .hbm, ⟨51, _⟩ => ⟨S4x256x4x2x1, .f32⟩
  | .hbm, ⟨52, _⟩ => ⟨S4x256x4x2x1, .f32⟩
  | .hbm, ⟨53, _⟩ => ⟨S4x256x4x2x1, .f32⟩
  | .hbm, ⟨54, _⟩ => ⟨S4x256x4x2x64, .f32⟩
  | .hbm, ⟨55, _⟩ => ⟨S4x256x4x2x64, .f32⟩
  | .hbm, ⟨56, _⟩ => ⟨S1x1x1x1x64, .f32⟩
  | .hbm, ⟨57, _⟩ => ⟨S4x256x4x2x64, .f32⟩
  | .hbm, ⟨58, _⟩ => ⟨S4x256x4x2x64, .f32⟩
  | .hbm, ⟨59, _⟩ => ⟨S4x256x512, .f32⟩
  | .hbm, ⟨60, _⟩ => ⟨S4x256x4x128, .f32⟩
  | .hbm, ⟨61, _⟩ => ⟨S1024x512, .f32⟩
  | .hbm, ⟨62, _⟩ => ⟨S1024x512, .bf16⟩
  | .hbm, ⟨63, _⟩ => ⟨S4x4x128x256, .f32⟩
  | .hbm, ⟨64, _⟩ => ⟨S4x4x128x256, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩

abbrev nD : Nat := 1
abbrev τ : Topo := Topo.v7x

variable {F : FTy → Type} [FloatOps F]
-- ==== Proof.Attn.Block.lean ====
/-
  The block that one grid point leaves: the kernel body's stores read back as one function of the seven input blocks.
  The body walks the keys in sixteen runs of 512, the context's 256 keys joined to the last run, and keeps two row sums
  and two value accumulators, one pair for each attention map.
-/
module

public import proofs.«01_k».proof.Proof.Gen.KernelIdeal.Value
public import Idealize.ShloMosaic.Lib.Pipeline.Value
public import Idealize.ShloMosaic.Lib.Tactic

@[expose] public section

noncomputable section

namespace Cert.Attn

open Cert.KernelIdeal Cert.KernelIdeal.Gen Idealize.ShloMosaic Idealize.ShloMosaic.TcCoe Idealize.SL.Sem

variable {F : FTy → Type} [FloatOps F] [Named F]

/-- Key rows `o … o + 511` of the key block. -/
def keys (x2 : Vec F S1x8192x128 .bf16) (o : ℕ) (h : ∀ a, (![0, o, 0] : Fin 3 → Nat) a + S1x512x128.size a ≤ S1x8192x128.size a) : FVec F S512x128 .bf16 :=
  shapeCast S512x128 (View.ld x2 (Rect.unit ![0, o, 0] S1x512x128.size h)) shapeCasts_S1x512x128_S512x128

/-- The last run's keys: 512 latent rows, then the context's 256. -/
def keysLast (K : FVec F S512x128 .bf16) (x3 : Vec F S1x256x128 .bf16) : FVec F S768x128 .bf16 :=
  concatenate S768x128 0 [⟨S512x128, K⟩, ⟨S256x128, shapeCast S256x128 x3 shapeCasts_S1x256x128_S256x128⟩] concatenates_S512x128_S256x128_S768x128_d0

/-- The exponentials of one run's scores, keys down the rows and queries along the lanes. -/
def expo (Q : FVec F S2048x128 .bf16) (K : FVec F S512x128 .bf16) : FVec F S512x2048 .f32 :=
  exp2 (matmul dot_S512x128_S2048x128_S512x2048_1_1_0_0_n_n none K Q (constant S512x2048 .f32 0x00000000#32))

/-- The exponentials of the last run's scores. -/
def expoLast (Q : FVec F S2048x128 .bf16) (K : FVec F S768x128 .bf16) : FVec F S768x2048 .f32 :=
  exp2 (matmul dot_S768x128_S2048x128_S768x2048_1_1_0_0_n_n none K Q (constant S768x2048 .f32 0x00000000#32))

/-- A run's row sum. -/
def rsum (p : FVec F S512x2048 .f32) : FVec F S1x2048 .f32 :=
  shapeCast S1x2048 (multiReduction .add [0] S2048 p 0x00000000#32 reduces_S512x2048_S2048 (.inl rfl) rfl) shapeCasts_S2048_S1x2048

/-- The last run's row sum. -/
def rsumLast (p : FVec F S768x2048 .f32) : FVec F S1x2048 .f32 :=
  shapeCast S1x2048 (multiReduction .add [0] S2048 p 0x00000000#32 reduces_S768x2048_S2048 (.inl rfl) rfl) shapeCasts_S2048_S1x2048

/-- Value columns `o … o + 511`. -/
def vals (x4 : Vec F S1x1x128x8192 .bf16) (o : ℕ) (h : ∀ a, (![0, 0, 0, o] : Fin 4 → Nat) a + S1x1x128x512.size a ≤ S1x1x128x8192.size a) : FVec F S128x512 .bf16 :=
  shapeCast S128x512 (View.ld x4 (Rect.unit ![0, 0, 0, o] S1x1x128x512.size h)) shapeCasts_S1x1x128x512_S128x512

/-- A group of four runs: its values times its exponentials. -/
def group (v₀ v₁ v₂ v₃ : FVec F S128x512 .bf16) (p₀ p₁ p₂ p₃ : FVec F S512x2048 .f32) : FVec F S128x2048 .f32 :=
  matmul dot_S128x2048_S2048x2048_S128x2048_1_0_0_1_n_n none
    (concatenate S128x2048 1 [⟨S128x512, v₀⟩, ⟨S128x512, v₁⟩, ⟨S128x512, v₂⟩, ⟨S128x512, v₃⟩] concatenates_S128x512_S128x512_S128x512_S128x512_S128x2048_d1)
    (concatenate S2048x2048 0 [⟨S512x2048, shapeCast S512x2048 (truncf .bf16 p₀ bitsLt_bf16_f32) shapeCasts_S512x2048_S512x2048⟩, ⟨S512x2048, shapeCast S512x2048 (truncf .bf16 p₁ bitsLt_bf16_f32) shapeCasts_S512x2048_S512x2048⟩, ⟨S512x2048, shapeCast S512x2048 (truncf .bf16 p₂ bitsLt_bf16_f32) shapeCasts_S512x2048_S512x2048⟩, ⟨S512x2048, shapeCast S512x2048 (truncf .bf16 p₃ bitsLt_bf16_f32) shapeCasts_S512x2048_S512x2048⟩] concatenates_S512x2048_S512x2048_S512x2048_S512x2048_S2048x2048_d0)
    (constant S128x2048 .f32 0x00000000#32)

/-- The last group, whose fourth run holds the context's keys too. -/
def groupLast (v₀ v₁ v₂ v₃ : FVec F S128x512 .bf16) (x5 : Vec F S1x1x128x256 .bf16) (p₀ p₁ p₂ : FVec F S512x2048 .f32) (p₃ : FVec F S768x2048 .f32) : FVec F S128x2048 .f32 :=
  matmul dot_S128x2304_S2304x2048_S128x2048_1_0_0_1_n_n none
    (concatenate S128x2304 1 [⟨S128x512, v₀⟩, ⟨S128x512, v₁⟩, ⟨S128x512, v₂⟩, ⟨S128x768, concatenate S128x768 1 [⟨S128x512, v₃⟩, ⟨S128x256, shapeCast S128x256 x5 shapeCasts_S1x1x128x256_S128x256⟩] concatenates_S128x512_S128x256_S128x768_d1⟩] concatenates_S128x512_S128x512_S128x512_S128x768_S128x2304_d1)
    (concatenate S2304x2048 0 [⟨S512x2048, shapeCast S512x2048 (truncf .bf16 p₀ bitsLt_bf16_f32) shapeCasts_S512x2048_S512x2048⟩, ⟨S512x2048, shapeCast S512x2048 (truncf .bf16 p₁ bitsLt_bf16_f32) shapeCasts_S512x2048_S512x2048⟩, ⟨S512x2048, shapeCast S512x2048 (truncf .bf16 p₂ bitsLt_bf16_f32) shapeCasts_S512x2048_S512x2048⟩, ⟨S768x2048, shapeCast S768x2048 (truncf .bf16 p₃ bitsLt_bf16_f32) shapeCasts_S768x2048_S768x2048⟩] concatenates_S512x2048_S512x2048_S512x2048_S768x2048_S2304x2048_d0)
    (constant S128x2048 .f32 0x00000000#32)

/-- One map's row sum over all the keys. -/
def rowTotal (Q : FVec F S2048x128 .bf16) (x2 : Vec F S1x8192x128 .bf16) (x3 : Vec F S1x256x128 .bf16) : FVec F S1x2048 .f32 :=
  addf (addf (addf (addf (addf (addf (addf (addf (addf (addf (addf (addf (addf (addf (addf (rsum (expo Q (keys x2 0 inb_S1x8192x128_S1x512x128_0_0_0))) (rsum (expo Q (keys x2 512 inb_S1x8192x128_S1x512x128_0_512_0)))) (rsum (expo Q (keys x2 1024 inb_S1x8192x128_S1x512x128_0_1024_0)))) (rsum (expo Q (keys x2 1536 inb_S1x8192x128_S1x512x128_0_1536_0)))) (rsum (expo Q (keys x2 2048 inb_S1x8192x128_S1x512x128_0_2048_0)))) (rsum (expo Q (keys x2 2560 inb_S1x8192x128_S1x512x128_0_2560_0)))) (rsum (expo Q (keys x2 3072 inb_S1x8192x128_S1x512x128_0_3072_0)))) (rsum (expo Q (keys x2 3584 inb_S1x8192x128_S1x512x128_0_3584_0)))) (rsum (expo Q (keys x2 4096 inb_S1x8192x128_S1x512x128_0_4096_0)))) (rsum (expo Q (keys x2 4608 inb_S1x8192x128_S1x512x128_0_4608_0)))) (rsum (expo Q (keys x2 5120 inb_S1x8192x128_S1x512x128_0_5120_0)))) (rsum (expo Q (keys x2 5632 inb_S1x8192x128_S1x512x128_0_5632_0)))) (rsum (expo Q (keys x2 6144 inb_S1x8192x128_S1x512x128_0_6144_0)))) (rsum (expo Q (keys x2 6656 inb_S1x8192x128_S1x512x128_0_6656_0)))) (rsum (expo Q (keys x2 7168 inb_S1x8192x128_S1x512x128_0_7168_0))))
    (rsumLast (expoLast Q (keysLast (keys x2 7680 inb_S1x8192x128_S1x512x128_0_7680_0) x3)))

/-- One map's values over all the keys. -/
def valTotal (Q : FVec F S2048x128 .bf16) (x2 : Vec F S1x8192x128 .bf16) (x3 : Vec F S1x256x128 .bf16)
    (x4 : Vec F S1x1x128x8192 .bf16) (x5 : Vec F S1x1x128x256 .bf16) : FVec F S128x2048 .f32 :=
  addf (addf (addf (group (vals x4 0 inb_S1x1x128x8192_S1x1x128x512_0_0_0_0) (vals x4 512 inb_S1x1x128x8192_S1x1x128x512_0_0_0_512) (vals x4 1024 inb_S1x1x128x8192_S1x1x128x512_0_0_0_1024) (vals x4 1536 inb_S1x1x128x8192_S1x1x128x512_0_0_0_1536)
      (expo Q (keys x2 0 inb_S1x8192x128_S1x512x128_0_0_0)) (expo Q (keys x2 512 inb_S1x8192x128_S1x512x128_0_512_0)) (expo Q (keys x2 1024 inb_S1x8192x128_S1x512x128_0_1024_0)) (expo Q (keys x2 1536 inb_S1x8192x128_S1x512x128_0_1536_0)))
    (group (vals x4 2048 inb_S1x1x128x8192_S1x1x128x512_0_0_0_2048) (vals x4 2560 inb_S1x1x128x8192_S1x1x128x512_0_0_0_2560) (vals x4 3072 inb_S1x1x128x8192_S1x1x128x512_0_0_0_3072) (vals x4 3584 inb_S1x1x128x8192_S1x1x128x512_0_0_0_3584)
      (expo Q (keys x2 2048 inb_S1x8192x128_S1x512x128_0_2048_0)) (expo Q (keys x2 2560 inb_S1x8192x128_S1x512x128_0_2560_0)) (expo Q (keys x2 3072 inb_S1x8192x128_S1x512x128_0_3072_0)) (expo Q (keys x2 3584 inb_S1x8192x128_S1x512x128_0_3584_0))))
    (group (vals x4 4096 inb_S1x1x128x8192_S1x1x128x512_0_0_0_4096) (vals x4 4608 inb_S1x1x128x8192_S1x1x128x512_0_0_0_4608) (vals x4 5120 inb_S1x1x128x8192_S1x1x128x512_0_0_0_5120) (vals x4 5632 inb_S1x1x128x8192_S1x1x128x512_0_0_0_5632)
      (expo Q (keys x2 4096 inb_S1x8192x128_S1x512x128_0_4096_0)) (expo Q (keys x2 4608 inb_S1x8192x128_S1x512x128_0_4608_0)) (expo Q (keys x2 5120 inb_S1x8192x128_S1x512x128_0_5120_0)) (expo Q (keys x2 5632 inb_S1x8192x128_S1x512x128_0_5632_0))))
    (groupLast (vals x4 6144 inb_S1x1x128x8192_S1x1x128x512_0_0_0_6144) (vals x4 6656 inb_S1x1x128x8192_S1x1x128x512_0_0_0_6656) (vals x4 7168 inb_S1x1x128x8192_S1x1x128x512_0_0_0_7168) (vals x4 7680 inb_S1x1x128x8192_S1x1x128x512_0_0_0_7680) x5
      (expo Q (keys x2 6144 inb_S1x8192x128_S1x512x128_0_6144_0)) (expo Q (keys x2 6656 inb_S1x8192x128_S1x512x128_0_6656_0)) (expo Q (keys x2 7168 inb_S1x8192x128_S1x512x128_0_7168_0)) (expoLast Q (keysLast (keys x2 7680 inb_S1x8192x128_S1x512x128_0_7680_0) x3)))

/-- The block a grid point leaves. -/
def attnBlock (x0 : Vec F S4x64 .f32) (x1 : Vec F S1x2048x128 .bf16) (x2 : Vec F S1x8192x128 .bf16) (x3 : Vec F S1x256x128 .bf16)
    (x4 : Vec F S1x1x128x8192 .bf16) (x5 : Vec F S1x1x128x256 .bf16) (x6 : Vec F S1x128 .f32) : FVec F S1x2048x128 .bf16 :=
  k0_pay1
    (k0_pay132 (rowTotal (k0_pay5 x1) x2 x3) (rowTotal (k0_pay6 x1) x2 x3) x0 (valTotal (k0_pay5 x1) x2 x3 x4 x5) (valTotal (k0_pay6 x1) x2 x3 x4 x5))
    (k0_pay133 (rowTotal (k0_pay5 x1) x2 x3) (rowTotal (k0_pay6 x1) x2 x3) x0 (valTotal (k0_pay5 x1) x2 x3 x4 x5) (valTotal (k0_pay6 x1) x2 x3 x4 x5))
    k0_pay134 x6

set_option maxHeartbeats 4000000 in
set_option maxRecDepth 65536 in
/-- What the body's stores leave in the output's block is `attnBlock` of the input blocks. -/
theorem out_eq (c : Dev nD) (i : grid0.Coords) (arg3 : Memref sig .tc .vmem S4x64 .f32) (harg3 : arg3.IsWhole) (arg4 : Memref sig .tc .vmem S1x2048x128 .bf16) (harg4 : arg4.IsWhole) (arg5 : Memref sig .tc .vmem S1x8192x128 .bf16) (harg5 : arg5.IsWhole) (arg6 : Memref sig .tc .vmem S1x256x128 .bf16) (harg6 : arg6.IsWhole) (arg7 : Memref sig .tc .vmem S1x1x128x8192 .bf16) (harg7 : arg7.IsWhole) (arg8 : Memref sig .tc .vmem S1x1x128x256 .bf16) (harg8 : arg8.IsWhole) (arg9 : Memref sig .tc .vmem S1x128 .f32) (harg9 : arg9.IsWhole) (arg10 : Memref sig .tc .vmem S1x2048x128 .bf16) (harg10 : arg10.IsWhole) (arg11 : Memref sig .tc .vmem S1x1x1x1x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S768x2048 .bf16) (harg14 : arg14.IsWhole) (arg15 : Memref sig .tc .vmem S768x2048 .bf16) (harg15 : arg15.IsWhole) (arg16 : Memref sig .tc .vmem S768x2048 .bf16) (harg16 : arg16.IsWhole) (arg17 : Memref sig .tc .vmem S768x2048 .bf16) (harg17 : arg17.IsWhole) (arg18 : Memref sig .tc .vmem S768x2048 .bf16) (harg18 : arg18.IsWhole) (arg19 : Memref sig .tc .vmem S768x2048 .bf16) (harg19 : arg19.IsWhole) (arg20 : Memref sig .tc .vmem S768x2048 .bf16) (harg20 : arg20.IsWhole) (arg21 : Memref sig .tc .vmem S768x2048 .bf16) (harg21 : arg21.IsWhole) (arg22 : Memref sig .tc .vmem S768x2048 .bf16) (harg22 : arg22.IsWhole) (arg23 : Memref sig .tc .vmem S768x2048 .bf16) (harg23 : arg23.IsWhole) (arg24 : Memref sig .tc .vmem S768x2048 .bf16) (harg24 : arg24.IsWhole) (arg25 : Memref sig .tc .vmem S768x2048 .bf16) (harg25 : arg25.IsWhole)
    (x0 : Vec F S4x64 .f32) (x1 : Vec F S1x2048x128 .bf16) (x2 : Vec F S1x8192x128 .bf16) (x3 : Vec F S1x256x128 .bf16) (x4 : Vec F S1x1x128x8192 .bf16) (x5 : Vec F S1x1x128x256 .bf16) (x6 : Vec F S1x128 .f32) :
    out0_A_7 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 = attnBlock x0 x1 x2 x3 x4 x5 x6 := by
  have hz2 : (![0, 0] : Fin 2 → ℕ) = fun _ => 0 := by decide
  have hz3 : (![0, 0, 0] : Fin 3 → ℕ) = fun _ => 0 := by decide
  have hz4 : (![0, 0, 0, 0] : Fin 4 → ℕ) = fun _ => 0 := by decide
  unfold out0_A_7
  rw [View.read_writes_eq_canon _ _ _ (cover0_A_7 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6)]
  unfold kernelRun0_A
  dsimp only
  sl_unfold_words
  rw [View.canon_cons_unit_zero (S := S1x2048x128) (by decide)]
  simp only [View.readCov_cons_toLoadRect, View.readAt_eq_ld, harg3.read_unread, harg4.read_unread, harg5.read_unread, harg6.read_unread, harg7.read_unread, harg8.read_unread, harg9.read_unread,
    View.ld_unit_zero (S := S4x64) hz2, View.ld_unit_zero (S := S1x2048x128) hz3, View.ld_unit_zero (S := S1x256x128) hz3, View.ld_unit_zero (S := S1x1x128x256) hz4, View.ld_unit_zero (S := S1x128) hz2]
  unfold attnBlock
  simp only [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, shapeCast_self,
    rowTotal, valTotal, keys, keysLast, expo, expoLast, rsum, rsumLast, vals, group, groupLast]

end Cert.Attn
end
-- ==== Proof.Attn.Math.lean ====
/-
  The arithmetic of the differential attention over the reals: the softmax's shift cancels, a base-two exponential of a
  score scaled by `1 / log 2` is the exponential, and the difference of two softmaxes applied to the values is the
  difference of the two quotients of sums.
-/
module

public import Idealize.ShloMosaic.PureOps.Ideal
public import Idealize.ShloMosaic.PureOps.Ideal.Laws
public import Mathlib.Analysis.SpecialFunctions.Pow.Real

@[expose] public section

noncomputable section

namespace Cert.Attn

open Idealize.ShloMosaic

/-- A finite sum of reals, read among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The extended reals' quotient of two reals, the divisor not zero. -/
theorem div_coe_coe (x : ℝ) {y : ℝ} (h : y ≠ 0) : Ideal.div (x : EReal) (y : EReal) = ((x / y : ℝ) : EReal) := by
  rw [Ideal.div_coe h, ← EReal.coe_mul]; congr 1; field_simp

/-- A base-two power of `s * (c / log 2)` is the exponential of `s * c`. -/
theorem exp2_scaled (s c : ℝ) : Ideal.exp2 ((s * (c * (Real.log 2)⁻¹) : ℝ) : EReal) = ((Real.exp (s * c) : ℝ) : EReal) := by
  rw [Ideal.exp2_coe]
  congr 1
  have h2 : Real.log 2 ≠ 0 := (Real.log_pos (by norm_num)).ne'
  show (2 : ℝ) ^ (s * (c * (Real.log 2)⁻¹)) = _
  rw [Real.rpow_def_of_pos (by norm_num : (0 : ℝ) < 2)]
  congr 1
  field_simp

/-- A softmax's entry does not depend on the shift. -/
theorem softmax_shift {ι : Type*} [Fintype ι] (S : ι → ℝ) (M : ℝ) (j : ι) :
    Real.exp (S j - M) / (∑ k, Real.exp (S k - M)) = Real.exp (S j) / ∑ k, Real.exp (S k) := by
  simp only [Real.exp_sub]
  rw [← Finset.sum_div]
  have hM := (Real.exp_pos M).ne'
  rw [div_div_div_cancel_right₀ hM]

/-- The difference of two softmaxes, the second times `lam`, applied to values: the difference of the two quotients. -/
theorem diff_softmax {ι : Type*} [Fintype ι] (S₀ S₁ V : ι → ℝ) (M₀ M₁ lam : ℝ) :
    ∑ j, V j * (Real.exp (S₀ j - M₀) / (∑ k, Real.exp (S₀ k - M₀)) - lam * (Real.exp (S₁ j - M₁) / ∑ k, Real.exp (S₁ k - M₁)))
      = (∑ j, V j * Real.exp (S₀ j)) / (∑ k, Real.exp (S₀ k)) - lam * ((∑ j, V j * Real.exp (S₁ j)) / ∑ k, Real.exp (S₁ k)) := by
  simp only [softmax_shift]
  rw [Finset.sum_div, Finset.sum_div, Finset.mul_sum, ← Finset.sum_sub_distrib]
  exact Finset.sum_congr rfl fun j _ => by ring

/-- A running maximum of reals that begins at a value below `⊤` stays below it. -/
theorem foldl_max_ne_top {ι : Type*} (f : ι → ℝ) : ∀ (l : List ι) (a : EReal), a ≠ ⊤ →
    l.foldl (fun r n => max r (f n : EReal)) a ≠ ⊤
  | [], _, h => h
  | n :: l, a, h => by
    rw [List.foldl_cons]
    refine foldl_max_ne_top f l _ ?_
    rcases max_choice a (f n : EReal) with e | e <;> rw [e]
    · exact h
    · exact EReal.coe_ne_top _

/-- A running maximum is not `⊥` when its initial value is not. -/
theorem foldl_max_ne_bot {ι : Type*} (f : ι → ℝ) : ∀ (l : List ι) (a : EReal), a ≠ ⊥ →
    l.foldl (fun r n => max r (f n : EReal)) a ≠ ⊥
  | [], _, h => h
  | n :: l, a, h => by
    rw [List.foldl_cons]
    refine foldl_max_ne_bot f l _ ?_
    exact (lt_of_lt_of_le (bot_lt_iff_ne_bot.mpr h) (le_max_left _ _)).ne'

/-- The maximum of a nonempty list of reals, begun at `⊥`, is a real. -/
theorem foldl_max_real {ι : Type*} (f : ι → ℝ) (l : List ι) (hl : l ≠ []) :
    ∃ M : ℝ, l.foldl (fun r n => max r (f n : EReal)) ⊥ = (M : EReal) := by
  obtain ⟨n, l, rfl⟩ := List.exists_cons_of_ne_nil hl
  refine ⟨_, (EReal.coe_toReal (foldl_max_ne_top f _ _ bot_ne_top) ?_).symm⟩
  rw [List.foldl_cons]
  refine foldl_max_ne_bot f l _ ?_
  rw [max_eq_right bot_le]
  exact EReal.coe_ne_bot _

/-- The element of the attended value: `A₀ / L₀ - lam * (A₁ / L₁)`, the numerators and denominators summed over the
    latent and the context keys. -/
def attended (sl sc : Fin 2 → ℕ → ℝ) (vl vc : ℕ → ℝ) (lam : ℝ) : ℝ :=
  let A := fun p => (∑ i ∈ Finset.range 8192, vl i * Real.exp (sl p i)) + ∑ i ∈ Finset.range 256, vc i * Real.exp (sc p i)
  let L := fun p => (∑ i ∈ Finset.range 8192, Real.exp (sl p i)) + ∑ i ∈ Finset.range 256, Real.exp (sc p i)
  A 0 / L 0 - lam * (A 1 / L 1)

/-- A sum over two runs of keys, one after the other, is the sum of the two runs' sums. -/
theorem sum_two_runs (a b : ℕ) (f g : ℕ → ℝ) :
    ∑ k ∈ Finset.range (a + b), (if k < a then g k else f (k - a)) = (∑ i ∈ Finset.range b, f i) + ∑ i ∈ Finset.range a, g i := by
  rw [Finset.sum_range_add, add_comm]
  congr 1
  · refine Finset.sum_congr rfl fun i _ => ?_
    rw [if_neg (by omega), Nat.add_sub_cancel_left]
  · refine Finset.sum_congr rfl fun i hi => ?_
    rw [if_pos (Finset.mem_range.mp hi)]

/-- A sum over the keys with the context first is the latent keys' sum plus the context's. -/
theorem sum_keys (f g : ℕ → ℝ) :
    ∑ k : Fin 8448, (if k.val < 256 then g k.val else f (k.val - 256)) = (∑ i ∈ Finset.range 8192, f i) + ∑ i ∈ Finset.range 256, g i :=
  (Fin.sum_univ_eq_sum_range (fun k => if k < 256 then g k else f (k - 256)) 8448).trans (sum_two_runs 256 8192 f g)

/-- The attended value from a softmax over all keys, the context first. -/
theorem attended_eq (sl sc : Fin 2 → ℕ → ℝ) (vl vc : ℕ → ℝ) (lam M₀ M₁ : ℝ) :
    (∑ j : Fin 8448, (if j.val < 256 then vc j.val else vl (j.val - 256))
        * (Real.exp ((if j.val < 256 then sc 0 j.val else sl 0 (j.val - 256)) - M₀)
            / (∑ k : Fin 8448, Real.exp ((if k.val < 256 then sc 0 k.val else sl 0 (k.val - 256)) - M₀))
          - lam * (Real.exp ((if j.val < 256 then sc 1 j.val else sl 1 (j.val - 256)) - M₁)
            / ∑ k : Fin 8448, Real.exp ((if k.val < 256 then sc 1 k.val else sl 1 (k.val - 256)) - M₁))))
      = attended sl sc vl vc lam := by
  rw [diff_softmax (fun k : Fin 8448 => if k.val < 256 then sc 0 k.val else sl 0 (k.val - 256))
    (fun k : Fin 8448 => if k.val < 256 then sc 1 k.val else sl 1 (k.val - 256))
    (fun k : Fin 8448 => if k.val < 256 then vc k.val else vl (k.val - 256)) M₀ M₁ lam]
  have hA : ∀ p : Fin 2, ∑ j : Fin 8448, (if j.val < 256 then vc j.val else vl (j.val - 256))
      * Real.exp (if j.val < 256 then sc p j.val else sl p (j.val - 256))
      = (∑ i ∈ Finset.range 8192, vl i * Real.exp (sl p i)) + ∑ i ∈ Finset.range 256, vc i * Real.exp (sc p i) := fun p => by
    rw [← sum_keys]
    exact Finset.sum_congr rfl fun j _ => by split_ifs <;> rfl
  have hL : ∀ p : Fin 2, ∑ j : Fin 8448, Real.exp (if j.val < 256 then sc p j.val else sl p (j.val - 256))
      = (∑ i ∈ Finset.range 8192, Real.exp (sl p i)) + ∑ i ∈ Finset.range 256, Real.exp (sc p i) := fun p => by
    rw [← sum_keys]
    exact Finset.sum_congr rfl fun j _ => by split_ifs <;> rfl
  rw [hA, hA, hL, hL]
  rfl

end Cert.Attn

end
-- ==== Proof.Attn.Closing.lean ====
/-
  The mixing factor and the closing steps, over the extended reals: both programs compute these in one form.
-/
module

public import Idealize.ShloMosaic.PureOps.Ideal

@[expose] public section

noncomputable section

namespace Cert.Attn

open Idealize.ShloMosaic

/-- The mixing factor from the four vectors. -/
def lamv (L : Fin 4 → Fin 64 → EReal) : EReal :=
  Ideal.exp (∑ k, L 0 k * L 1 k) - Ideal.exp (∑ k, L 2 k * L 3 k) + Ideal.ofBits .f32 0x3E4CCCCD#32

/-- The closing steps at component `d`: the root-mean-square normalisation of `o`, its gain `g`, and the constant factor. -/
def finish (o g : Fin 128 → EReal) (d : Fin 128) : EReal :=
  o d * Ideal.rsqrt (Ideal.div (∑ x, o x * o x) (Ideal.ofBits .f32 0x43000000#32) + Ideal.ofBits .f32 0x358637BD#32) * g d
    * Ideal.ofBits .f32 0x3F4CCCCD#32

end Cert.Attn

end
-- ==== Proof.Attn.Read.lean ====
/-
  The pieces of the block read at an index over the extended reals, and the two totals of an attention map as real sums
  over the latent and the context keys.
-/
module

public import proofs.«01_k».proof.Proof.Attn.Block
public import proofs.«01_k».proof.Proof.Attn.Math
public import proofs.«01_k».proof.Proof.Attn.Closing
public import Idealize.ShloMosaic.Lib.Pointwise
public import Idealize.ShloMosaic.PureOps.IdealRules

@[expose] public section

set_option maxRecDepth 16384

noncomputable section

namespace Cert.Attn

open Cert.KernelIdeal Cert.KernelIdeal.Gen Idealize.ShloMosaic

/-- The score's scale times one over the logarithm of two, the constant of the body's queries. -/
abbrev qscale : ℝ := (1 / 8) * (Real.log 2)⁻¹

theorem qscale_eq : (Named.named κ "qscale" (0x3E38AA3B#32 : BitVec FTy.f32.bits) : Ideal .f32) = ((qscale : ℝ) : EReal) :=
  IdealRules.named_const.ideal_named_scalar _ _ _ _ rfl

/-! ### One run -/

theorem expo_apply (Q : FVec Ideal S2048x128 .bf16) (K : FVec Ideal S512x128 .bf16) (a : Fin 512) (r : Fin 2048) :
    expo Q K (ix2 a r) = Ideal.exp2 (∑ d : Fin 128, K (ix2 a d) * Q (ix2 r d)) := by
  pointwise [expo]
  rfl

theorem expoLast_apply (Q : FVec Ideal S2048x128 .bf16) (K : FVec Ideal S768x128 .bf16) (a : Fin 768) (r : Fin 2048) :
    expoLast Q K (ix2 a r) = Ideal.exp2 (∑ d : Fin 128, K (ix2 a d) * Q (ix2 r d)) := by
  pointwise [expoLast]
  rfl

theorem rsum_apply (p : FVec Ideal S512x2048 .f32) (r : Fin 2048) : rsum p (ix2 0 r) = ∑ a : Fin 512, p (ix2 a r) := by
  pointwise [rsum]

theorem rsumLast_apply (p : FVec Ideal S768x2048 .f32) (r : Fin 2048) : rsumLast p (ix2 0 r) = ∑ a : Fin 768, p (ix2 a r) := by
  pointwise [rsumLast]

theorem keys_apply (x2 : Vec Ideal S1x8192x128 .bf16) (o : ℕ) (h) (a : Fin 512) (d : Fin 128) :
    keys x2 o h (ix2 a d) = x2 (ix3 0 ⟨o + a.val, by have := h 1; simp at this; omega⟩ d) := by
  have e : ∀ w : Vec Ideal S1x512x128 .bf16, shapeCast S512x128 w shapeCasts_S1x512x128_S512x128 (ix2 a d) = w (ix3 0 a d) := fun w => by
    pointwise
  unfold keys
  rw [e]
  show x2 ((Rect.unit (s := S1x8192x128) _ S1x512x128.size h).emb (ix3 0 a d)) = _
  refine congrArg x2 (funext fun i => Fin.ext ?_)
  rw [Rect.emb_apply]
  fin_cases i <;> simp [ix3]

theorem vals_apply (x4 : Vec Ideal S1x1x128x8192 .bf16) (o : ℕ) (h) (v : Fin 128) (a : Fin 512) :
    vals x4 o h (ix2 v a) = x4 (ix4 0 0 v ⟨o + a.val, by have := h 3; simp at this; omega⟩) := by
  have e : ∀ w : Vec Ideal S1x1x128x512 .bf16, shapeCast S128x512 w shapeCasts_S1x1x128x512_S128x512 (ix2 v a) = w (ix4 0 0 v a) := fun w => by
    pointwise
  unfold vals
  rw [e]
  show x4 ((Rect.unit (s := S1x1x128x8192) _ S1x1x128x512.size h).emb (ix4 0 0 v a)) = _
  refine congrArg x4 (funext fun i => Fin.ext ?_)
  rw [Rect.emb_apply]
  fin_cases i <;> simp [ix4]

theorem keysLast_apply (K : FVec Ideal S512x128 .bf16) (x3 : Vec Ideal S1x256x128 .bf16) (a : Fin 768) (d : Fin 128) :
    keysLast K x3 (ix2 a d) = if h : a.val < 512 then K (ix2 ⟨a.val, h⟩ d) else x3 (ix3 0 ⟨a.val - 512, by omega⟩ d) := by
  pointwise [keysLast]

/-! ### A map's queries and its scores -/

/-- The scaled score of the key row `n` of `X` with the masked query `q`. -/
def sc (q : Fin 128 → ℝ) (X : ℕ → Fin 128 → ℝ) (n : ℕ) : ℝ := (∑ d : Fin 128, X n d * q d) * (1 / 8)

theorem exp2_dot (k q : Fin 128 → ℝ) :
    Ideal.exp2 (∑ d : Fin 128, (k d : EReal) * ((q d * qscale : ℝ) : EReal)) = ((Real.exp ((∑ d : Fin 128, k d * q d) * (1 / 8)) : ℝ) : EReal) := by
  rw [← exp2_scaled, Finset.sum_mul, coe_sum]
  refine congrArg Ideal.exp2 (Finset.sum_congr rfl fun d _ => ?_)
  rw [← EReal.coe_mul]
  congr 1
  ring

section Totals

variable {Q : FVec Ideal S2048x128 .bf16} {x2 : Vec Ideal S1x8192x128 .bf16} {x3 : Vec Ideal S1x256x128 .bf16}
  {x4 : Vec Ideal S1x1x128x8192 .bf16} {x5 : Vec Ideal S1x1x128x256 .bf16}
  {r : Fin 2048} {v : Fin 128} {q : Fin 128 → ℝ} {X2 X3 : ℕ → Fin 128 → ℝ} {X4 X5 : ℕ → ℝ}

theorem expo_val (hQ : ∀ d, Q (ix2 r d) = ((q d * qscale : ℝ) : EReal))
    (h2 : ∀ (n : ℕ) (h : n < 8192) d, x2 (ix3 0 ⟨n, h⟩ d) = (X2 n d : EReal)) (o : ℕ) (h) (a : Fin 512) :
    expo Q (keys x2 o h) (ix2 a r) = ((Real.exp (sc q X2 (o + a.val)) : ℝ) : EReal) := by
  rw [expo_apply]
  simp only [keys_apply, h2, hQ]
  exact exp2_dot _ _

/-- The last run's exponential: a latent key's, or a context key's. -/
theorem expoLast_val (hQ : ∀ d, Q (ix2 r d) = ((q d * qscale : ℝ) : EReal))
    (h2 : ∀ (n : ℕ) (h : n < 8192) d, x2 (ix3 0 ⟨n, h⟩ d) = (X2 n d : EReal))
    (h3 : ∀ (n : ℕ) (h : n < 256) d, x3 (ix3 0 ⟨n, h⟩ d) = (X3 n d : EReal)) (o : ℕ) (h) (a : Fin 768) :
    expoLast Q (keysLast (keys x2 o h) x3) (ix2 a r)
      = ((if a.val < 512 then Real.exp (sc q X2 (o + a.val)) else Real.exp (sc q X3 (a.val - 512)) : ℝ) : EReal) := by
  rw [expoLast_apply]
  simp only [keysLast_apply, hQ]
  split_ifs with ha
  · simp only [keys_apply, h2]
    exact exp2_dot _ _
  · simp only [h3]
    exact exp2_dot _ _

theorem rsum_val (hQ : ∀ d, Q (ix2 r d) = ((q d * qscale : ℝ) : EReal))
    (h2 : ∀ (n : ℕ) (h : n < 8192) d, x2 (ix3 0 ⟨n, h⟩ d) = (X2 n d : EReal)) (o : ℕ) (h) :
    rsum (expo Q (keys x2 o h)) (ix2 0 r) = ((∑ a ∈ Finset.range 512, Real.exp (sc q X2 (o + a)) : ℝ) : EReal) := by
  rw [rsum_apply, ← Fin.sum_univ_eq_sum_range, coe_sum]
  exact Finset.sum_congr rfl fun a _ => expo_val hQ h2 o h a

theorem rsumLast_val (hQ : ∀ d, Q (ix2 r d) = ((q d * qscale : ℝ) : EReal))
    (h2 : ∀ (n : ℕ) (h : n < 8192) d, x2 (ix3 0 ⟨n, h⟩ d) = (X2 n d : EReal))
    (h3 : ∀ (n : ℕ) (h : n < 256) d, x3 (ix3 0 ⟨n, h⟩ d) = (X3 n d : EReal)) (o : ℕ) (h) :
    rsumLast (expoLast Q (keysLast (keys x2 o h) x3)) (ix2 0 r)
      = (((∑ a ∈ Finset.range 256, Real.exp (sc q X3 a)) + ∑ a ∈ Finset.range 512, Real.exp (sc q X2 (o + a)) : ℝ) : EReal) := by
  rw [rsumLast_apply, ← sum_two_runs 512 256, ← Fin.sum_univ_eq_sum_range (n := 512 + 256), coe_sum]
  exact Finset.sum_congr rfl fun a _ => expoLast_val hQ h2 h3 o h a

/-- A run of a sum is the difference of the sums up to its ends. -/
theorem run_eq (f : ℕ → ℝ) (o n : ℕ) : ∑ a ∈ Finset.range n, f (o + a) = (∑ a ∈ Finset.range (o + n), f a) - ∑ a ∈ Finset.range o, f a := by
  rw [Finset.sum_range_add]; ring

theorem rowTotal_val (hQ : ∀ d, Q (ix2 r d) = ((q d * qscale : ℝ) : EReal))
    (h2 : ∀ (n : ℕ) (h : n < 8192) d, x2 (ix3 0 ⟨n, h⟩ d) = (X2 n d : EReal))
    (h3 : ∀ (n : ℕ) (h : n < 256) d, x3 (ix3 0 ⟨n, h⟩ d) = (X3 n d : EReal)) :
    rowTotal Q x2 x3 (ix2 0 r)
      = (((∑ n ∈ Finset.range 8192, Real.exp (sc q X2 n)) + ∑ n ∈ Finset.range 256, Real.exp (sc q X3 n) : ℝ) : EReal) := by
  unfold rowTotal
  simp only [addf_apply, Ideal.addf_def, rsum_val hQ h2, rsumLast_val hQ h2 h3, ← EReal.coe_add]
  congr 1
  simp only [run_eq (fun n => Real.exp (sc q X2 n)), Nat.reduceAdd, Finset.range_zero, Finset.sum_empty]
  ring

/-- A group of four runs whose values and exponentials are consecutive. -/
theorem group_val {v₀ v₁ v₂ v₃ : FVec Ideal S128x512 .bf16} {p₀ p₁ p₂ p₃ : FVec Ideal S512x2048 .f32} {W E : ℕ → ℝ} {o : ℕ}
    (hv₀ : ∀ a : Fin 512, v₀ (ix2 v a) = (W (o + a.val) : EReal)) (hv₁ : ∀ a : Fin 512, v₁ (ix2 v a) = (W (o + 512 + a.val) : EReal))
    (hv₂ : ∀ a : Fin 512, v₂ (ix2 v a) = (W (o + 1024 + a.val) : EReal)) (hv₃ : ∀ a : Fin 512, v₃ (ix2 v a) = (W (o + 1536 + a.val) : EReal))
    (hp₀ : ∀ a : Fin 512, p₀ (ix2 a r) = (E (o + a.val) : EReal)) (hp₁ : ∀ a : Fin 512, p₁ (ix2 a r) = (E (o + 512 + a.val) : EReal))
    (hp₂ : ∀ a : Fin 512, p₂ (ix2 a r) = (E (o + 1024 + a.val) : EReal)) (hp₃ : ∀ a : Fin 512, p₃ (ix2 a r) = (E (o + 1536 + a.val) : EReal)) :
    group v₀ v₁ v₂ v₃ p₀ p₁ p₂ p₃ (ix2 v r) = ((∑ n ∈ Finset.range 2048, W (o + n) * E (o + n) : ℝ) : EReal) := by
  rw [← Fin.sum_univ_eq_sum_range (fun n => W (o + n) * E (o + n)), coe_sum]
  pointwise [group]
  refine Finset.sum_congr rfl fun x _ => ?_
  simp only [hv₀, hv₁, hv₂, hv₃, hp₀, hp₁, hp₂, hp₃, EReal.coe_mul]
  split_ifs with c₀ c₁ c₂
  · rfl
  · rw [show o + 512 + (x.val - 512) = o + x.val by omega]
  · rw [show o + 1024 + (x.val - 512 - 512) = o + x.val by omega]
  · rw [show o + 1536 + (x.val - 512 - 512 - 512) = o + x.val by omega]

theorem groupLast_val {v₀ v₁ v₂ v₃ : FVec Ideal S128x512 .bf16} {p₀ p₁ p₂ : FVec Ideal S512x2048 .f32} {p₃ : FVec Ideal S768x2048 .f32}
    {W E W' E' : ℕ → ℝ} {o : ℕ}
    (hv₀ : ∀ a : Fin 512, v₀ (ix2 v a) = (W (o + a.val) : EReal)) (hv₁ : ∀ a : Fin 512, v₁ (ix2 v a) = (W (o + 512 + a.val) : EReal))
    (hv₂ : ∀ a : Fin 512, v₂ (ix2 v a) = (W (o + 1024 + a.val) : EReal)) (hv₃ : ∀ a : Fin 512, v₃ (ix2 v a) = (W (o + 1536 + a.val) : EReal))
    (h5 : ∀ (n : ℕ) (h : n < 256), x5 (ix4 0 0 v ⟨n, h⟩) = (W' n : EReal))
    (hp₀ : ∀ a : Fin 512, p₀ (ix2 a r) = (E (o + a.val) : EReal)) (hp₁ : ∀ a : Fin 512, p₁ (ix2 a r) = (E (o + 512 + a.val) : EReal))
    (hp₂ : ∀ a : Fin 512, p₂ (ix2 a r) = (E (o + 1024 + a.val) : EReal))
    (hp₃ : ∀ a : Fin 768, p₃ (ix2 a r) = ((if a.val < 512 then E (o + 1536 + a.val) else E' (a.val - 512) : ℝ) : EReal)) :
    groupLast v₀ v₁ v₂ v₃ x5 p₀ p₁ p₂ p₃ (ix2 v r)
      = (((∑ n ∈ Finset.range 256, W' n * E' n) + ∑ n ∈ Finset.range 2048, W (o + n) * E (o + n) : ℝ) : EReal) := by
  have key : (∑ n ∈ Finset.range 256, W' n * E' n) + ∑ n ∈ Finset.range 2048, W (o + n) * E (o + n)
      = ∑ x : Fin 2304, if x.val < 2048 then W (o + x.val) * E (o + x.val) else W' (x.val - 2048) * E' (x.val - 2048) :=
    (sum_two_runs 2048 256 (fun n => W' n * E' n) (fun n => W (o + n) * E (o + n))).symm.trans
      (Fin.sum_univ_eq_sum_range (fun k => if k < 2048 then W (o + k) * E (o + k) else W' (k - 2048) * E' (k - 2048)) 2304).symm
  rw [key, coe_sum]
  generalize hR : (∑ x : Fin 2304, _ : EReal) = R
  pointwise [groupLast]
  rw [← hR]
  refine Finset.sum_congr rfl fun x _ => ?_
  simp only [hv₀, hv₁, hv₂, hv₃, hp₀, hp₁, hp₂, hp₃, h5]
  by_cases c : x.val < 2048
  · rw [if_pos c, EReal.coe_mul]
    split_ifs with c₀ c₁ c₂ c₃
    · rfl
    · rw [show o + 512 + (x.val - 512) = o + x.val by omega]
    · rw [show o + 1024 + (x.val - 512 - 512) = o + x.val by omega]
    · rw [show o + 1536 + (x.val - 512 - 512 - 512) = o + x.val by omega]
    · omega
  · rw [if_neg c, EReal.coe_mul]
    split_ifs with c₀ c₁ c₂ c₃ <;> try omega
    rw [show x.val - 512 - 512 - 512 - 512 = x.val - 2048 by omega]

theorem valTotal_val (hQ : ∀ d, Q (ix2 r d) = ((q d * qscale : ℝ) : EReal))
    (h2 : ∀ (n : ℕ) (h : n < 8192) d, x2 (ix3 0 ⟨n, h⟩ d) = (X2 n d : EReal))
    (h3 : ∀ (n : ℕ) (h : n < 256) d, x3 (ix3 0 ⟨n, h⟩ d) = (X3 n d : EReal))
    (h4 : ∀ (n : ℕ) (h : n < 8192), x4 (ix4 0 0 v ⟨n, h⟩) = (X4 n : EReal))
    (h5 : ∀ (n : ℕ) (h : n < 256), x5 (ix4 0 0 v ⟨n, h⟩) = (X5 n : EReal)) :
    valTotal Q x2 x3 x4 x5 (ix2 v r)
      = (((∑ n ∈ Finset.range 8192, X4 n * Real.exp (sc q X2 n)) + ∑ n ∈ Finset.range 256, X5 n * Real.exp (sc q X3 n) : ℝ) : EReal) := by
  have hv : ∀ (o : ℕ) (h) (a : Fin 512), vals x4 o h (ix2 v a) = (X4 (o + a.val) : EReal) := fun o h a => by rw [vals_apply, h4]
  have hp := expo_val hQ h2
  have hl := expoLast_val hQ h2 h3
  unfold valTotal
  simp only [addf_apply, Ideal.addf_def]
  rw [group_val (W := X4) (E := fun n => Real.exp (sc q X2 n)) (o := 0) (fun a => by rw [hv]) (fun a => hv _ _ a) (fun a => hv _ _ a) (fun a => hv _ _ a)
      (fun a => by rw [hp]) (fun a => hp _ _ a) (fun a => hp _ _ a) (fun a => hp _ _ a),
    group_val (W := X4) (E := fun n => Real.exp (sc q X2 n)) (o := 2048) (fun a => hv _ _ a) (fun a => hv _ _ a) (fun a => hv _ _ a) (fun a => hv _ _ a)
      (fun a => hp _ _ a) (fun a => hp _ _ a) (fun a => hp _ _ a) (fun a => hp _ _ a),
    group_val (W := X4) (E := fun n => Real.exp (sc q X2 n)) (o := 4096) (fun a => hv _ _ a) (fun a => hv _ _ a) (fun a => hv _ _ a) (fun a => hv _ _ a)
      (fun a => hp _ _ a) (fun a => hp _ _ a) (fun a => hp _ _ a) (fun a => hp _ _ a),
    groupLast_val (W := X4) (E := fun n => Real.exp (sc q X2 n)) (W' := X5) (E' := fun n => Real.exp (sc q X3 n)) (o := 6144)
      (fun a => hv _ _ a) (fun a => hv _ _ a) (fun a => hv _ _ a) (fun a => hv _ _ a) h5
      (fun a => hp _ _ a) (fun a => hp _ _ a) (fun a => hp _ _ a) (fun a => hl _ _ a)]
  simp only [← EReal.coe_add]
  congr 1
  simp only [run_eq (fun n => X4 n * Real.exp (sc q X2 n)), Nat.reduceAdd, Finset.range_zero, Finset.sum_empty]
  ring

end Totals

/-! ### The masked queries -/

/-- The query row of map `p`: its own 64 components, the others zero. -/
def maskq (p : ℕ) (x : Fin 128 → ℝ) (d : Fin 128) : ℝ := if d.val / 64 = p then x d else 0

theorem slt64 : ∀ d : Fin 128, IntOp.cmpi CmpIPredicate.slt (BitVec.ofNat 32 d.val) 64#32 = if d.val / 64 = 0 then 1#1 else 0#1 := by decide

theorem sge64 : ∀ d : Fin 128, IntOp.cmpi CmpIPredicate.sge (BitVec.ofNat 32 d.val) 64#32 = if d.val / 64 = 1 then 1#1 else 0#1 := by decide

theorem q0_val {x1 : Vec Ideal S1x2048x128 .bf16} {r : Fin 2048} {x : Fin 128 → ℝ} (h1 : ∀ d, x1 (ix3 0 r d) = (x d : EReal)) (d : Fin 128) :
    k0_pay5 x1 (ix2 r d) = ((maskq 0 x d * qscale : ℝ) : EReal) := by
  pointwise [k0_pay5, k0_pay3, k0_pay4]
  rw [slt64, h1, qscale_eq, maskq]
  split_ifs
  · rw [EReal.coe_mul]; rfl
  · rw [zero_mul]; rfl

theorem q1_val {x1 : Vec Ideal S1x2048x128 .bf16} {r : Fin 2048} {x : Fin 128 → ℝ} (h1 : ∀ d, x1 (ix3 0 r d) = (x d : EReal)) (d : Fin 128) :
    k0_pay6 x1 (ix2 r d) = ((maskq 1 x d * qscale : ℝ) : EReal) := by
  pointwise [k0_pay6, k0_pay3, k0_pay4]
  rw [sge64, h1, qscale_eq, maskq]
  split_ifs
  · rw [EReal.coe_mul]; rfl
  · rw [zero_mul]; rfl

/-! ### The block -/

theorem sums_pos (f g : ℕ → ℝ) : 0 < (∑ n ∈ Finset.range 8192, Real.exp (f n)) + ∑ n ∈ Finset.range 256, Real.exp (g n) := by
  have h : ∀ (k : ℕ) (f : ℕ → ℝ), 0 < k → 0 < ∑ n ∈ Finset.range k, Real.exp (f n) := fun k f hk =>
    Finset.sum_pos (fun n _ => Real.exp_pos _) ⟨0, Finset.mem_range.mpr hk⟩
  exact add_pos (h _ _ (by omega)) (h _ _ (by omega))

theorem attnBlock_val {x0 : Vec Ideal S4x64 .f32} {x1 : Vec Ideal S1x2048x128 .bf16} {x2 : Vec Ideal S1x8192x128 .bf16}
    {x3 : Vec Ideal S1x256x128 .bf16} {x4 : Vec Ideal S1x1x128x8192 .bf16} {x5 : Vec Ideal S1x1x128x256 .bf16} {x6 : Vec Ideal S1x128 .f32}
    {r : Fin 2048} {lam : ℝ} {X1 : Fin 128 → ℝ} {X2 X3 : ℕ → Fin 128 → ℝ} {X4 X5 : Fin 128 → ℕ → ℝ}
    (h0 : lamv (fun i k => x0 (ix2 i k)) = (lam : EReal))
    (h1 : ∀ d, x1 (ix3 0 r d) = (X1 d : EReal))
    (h2 : ∀ (n : ℕ) (h : n < 8192) d, x2 (ix3 0 ⟨n, h⟩ d) = (X2 n d : EReal))
    (h3 : ∀ (n : ℕ) (h : n < 256) d, x3 (ix3 0 ⟨n, h⟩ d) = (X3 n d : EReal))
    (h4 : ∀ v (n : ℕ) (h : n < 8192), x4 (ix4 0 0 v ⟨n, h⟩) = (X4 v n : EReal))
    (h5 : ∀ v (n : ℕ) (h : n < 256), x5 (ix4 0 0 v ⟨n, h⟩) = (X5 v n : EReal)) (d : Fin 128) :
    attnBlock x0 x1 x2 x3 x4 x5 x6 (ix3 0 r d)
      = finish (fun v => ((attended (fun p => sc (maskq p.val X1) X2) (fun p => sc (maskq p.val X1) X3) (X4 v) (X5 v) lam : ℝ) : EReal))
          (fun k => x6 (ix2 0 k)) d := by
  have hz : ∀ v : Fin 128, Ideal.div (valTotal (k0_pay5 x1) x2 x3 x4 x5 (ix2 v r)) (rowTotal (k0_pay5 x1) x2 x3 (ix2 0 r))
      - lamv (fun i k => x0 (ix2 i k)) * Ideal.div (valTotal (k0_pay6 x1) x2 x3 x4 x5 (ix2 v r)) (rowTotal (k0_pay6 x1) x2 x3 (ix2 0 r))
      = ((attended (fun p => sc (maskq p.val X1) X2) (fun p => sc (maskq p.val X1) X3) (X4 v) (X5 v) lam : ℝ) : EReal) := fun v => by
    rw [valTotal_val (q0_val h1) h2 h3 (h4 v) (h5 v), valTotal_val (q1_val h1) h2 h3 (h4 v) (h5 v), rowTotal_val (q0_val h1) h2 h3,
      rowTotal_val (q1_val h1) h2 h3, h0, div_coe_coe _ (sums_pos _ _).ne', div_coe_coe _ (sums_pos _ _).ne', ← EReal.coe_mul, ← EReal.coe_sub]
    rfl
  simp only [finish, ← hz, lamv]
  unfold attnBlock
  generalize rowTotal (k0_pay5 x1) x2 x3 = l₀, rowTotal (k0_pay6 x1) x2 x3 = l₁, valTotal (k0_pay5 x1) x2 x3 x4 x5 = a₀,
    valTotal (k0_pay6 x1) x2 x3 x4 x5 = a₁
  pointwise [k0_pay1, k0_pay132, k0_pay133, k0_pay134]

end Cert.Attn
end
-- ==== Proof.Attn.Blocks.lean ====
/-
  The kernel's input blocks, read at an index as elements of its arguments.
-/
module

public import proofs.«01_k».proof.Proof.Gen.KernelIdeal.Value
public import Idealize.ShloMosaic.Lib.StableHlo.ReadAt
public import Idealize.ShloMosaic.Lib.Pointwise

@[expose] public section

set_option maxRecDepth 16384

noncomputable section

namespace Cert.Attn.Blocks

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

/-- Argument 0 as launched. -/
abbrev arg0 : S4x8192x4x2x64.Idx → EReal := m ((c : Thread nD τ).loc main_arg0)

/-- Argument 1 as launched. -/
abbrev arg1 : S4x8192x4x2x64.Idx → EReal := m ((c : Thread nD τ).loc main_arg1)

/-- Argument 2 as launched. -/
abbrev arg2 : S4x256x4x2x64.Idx → EReal := m ((c : Thread nD τ).loc main_arg2)

/-- Argument 3 as launched. -/
abbrev arg3 : S4x8192x4x128.Idx → EReal := m ((c : Thread nD τ).loc main_arg3)

/-- Argument 4 as launched. -/
abbrev arg4 : S4x256x4x128.Idx → EReal := m ((c : Thread nD τ).loc main_arg4)

/-- Argument 5 as launched. -/
abbrev arg5 : S1x64.Idx → EReal := m ((c : Thread nD τ).loc main_arg5)

/-- Argument 6 as launched. -/
abbrev arg6 : S1x64.Idx → EReal := m ((c : Thread nD τ).loc main_arg6)

/-- Argument 7 as launched. -/
abbrev arg7 : S1x64.Idx → EReal := m ((c : Thread nD τ).loc main_arg7)

/-- Argument 8 as launched. -/
abbrev arg8 : S1x64.Idx → EReal := m ((c : Thread nD τ).loc main_arg8)

/-- Argument 9 as launched. -/
abbrev arg9 : S1x128.Idx → EReal := m ((c : Thread nD τ).loc main_arg9)

theorem q_at (b : Fin 4) (n : Fin 8192) (e : Fin 512) : (V m c main_v1 : S4x8192x512.Idx → EReal) (ix3 b n e)
    = arg0 m c (ix5 b n ⟨e.val / 128, by omega⟩ ⟨e.val / 64 % 2, by omega⟩ ⟨e.val % 64, by omega⟩) := by
  unfold V
  after_reads_at

theorem k_at (b : Fin 4) (n : Fin 8192) (e : Fin 512) : (V m c main_v3 : S4x8192x512.Idx → EReal) (ix3 b n e)
    = arg1 m c (ix5 b n ⟨e.val / 128, by omega⟩ ⟨e.val / 64 % 2, by omega⟩ ⟨e.val % 64, by omega⟩) := by
  unfold V
  after_reads_at

theorem kc_at (b : Fin 4) (n : Fin 256) (e : Fin 512) : (V m c main_v5 : S4x256x512.Idx → EReal) (ix3 b n e)
    = arg2 m c (ix5 b n ⟨e.val / 128, by omega⟩ ⟨e.val / 64 % 2, by omega⟩ ⟨e.val % 64, by omega⟩) := by
  unfold V
  after_reads_at

theorem v_at (b h : Fin 4) (v : Fin 128) (n : Fin 8192) : (V m c main_v7 : S4x4x128x8192.Idx → EReal) (ix4 b h v n)
    = arg3 m c (ix4 b n h v) := by
  unfold V
  after_reads_at

theorem vc_at (b h : Fin 4) (v : Fin 128) (n : Fin 256) : (V m c main_v9 : S4x4x128x256.Idx → EReal) (ix4 b h v n)
    = arg4 m c (ix4 b n h v) := by
  unfold V
  after_reads_at

theorem lam_at (i : Fin 4) (k : Fin 64) : (V m c main_v18 : S4x64.Idx → EReal) (ix2 i k)
    = ![arg5 m c, arg6 m c, arg7 m c, arg8 m c] i (ix2 0 k) := by
  unfold V
  after_reads_simp
  clean_types
  pointwise
  fin_cases i
  · rw [dif_pos (by decide)]
    after_reads_at
  · rw [dif_neg (by decide), dif_pos (by decide)]
    after_reads_at
  · rw [dif_neg (by decide), dif_neg (by decide), dif_pos (by decide)]
    after_reads_at
  · rw [dif_neg (by decide), dif_neg (by decide), dif_neg (by decide)]
    after_reads_at

theorem gain_at (k : Fin 128) : (V m c main_v20 : S1x128.Idx → EReal) (ix2 0 k) = arg9 m c (ix2 0 k) := by
  unfold V
  after_reads_at

theorem index_1 : ∀ t : Fin grid0.N, win0_1.index t = ![t.val / 16, t.val % 4, t.val / 4 % 4] := by decide +kernel
theorem index_2 : ∀ t : Fin grid0.N, win0_2.index t = ![t.val / 16, 0, t.val / 4 % 4] := by decide +kernel
theorem index_3 : ∀ t : Fin grid0.N, win0_3.index t = ![t.val / 16, 0, t.val / 4 % 4] := by decide +kernel
theorem index_4 : ∀ t : Fin grid0.N, win0_4.index t = ![t.val / 16, t.val / 4 % 4, 0, 0] := by decide +kernel
theorem index_5 : ∀ t : Fin grid0.N, win0_5.index t = ![t.val / 16, t.val / 4 % 4, 0, 0] := by decide +kernel
theorem index_0 : ∀ t : Fin grid0.N, win0_0.index t = ![0, 0] := by decide +kernel
theorem index_6 : ∀ t : Fin grid0.N, win0_6.index t = ![0, 0] := by decide +kernel
theorem index_7 : ∀ t : Fin grid0.N, win0_7.index t = ![t.val / 16, t.val % 4, t.val / 4 % 4] := by decide +kernel

theorem lt64 : t.val < 64 := t.isLt

theorem block_1 (r : Fin 2048) (d : Fin 128) : (iblk m c 1 t : S1x2048x128.Idx → EReal) (ix3 0 r d)
    = arg0 m c (ix5 ⟨t.val / 16, by have := lt64 t; omega⟩ ⟨2048 * (t.val % 4) + r.val, by omega⟩ ⟨t.val / 4 % 4, by omega⟩ ⟨d.val / 64, by omega⟩ ⟨d.val % 64, by omega⟩) := by
  have := lt64 t
  have e : (iblk m c 1 t : S1x2048x128.Idx → EReal) (ix3 0 r d)
      = (V m c main_v1 : S4x8192x512.Idx → EReal) (ix3 ⟨t.val / 16, by omega⟩ ⟨2048 * (t.val % 4) + r.val, by omega⟩ ⟨128 * (t.val / 4 % 4) + d.val, by omega⟩) := by
    unfold iblk
    rw [View.read_apply]
    show V m c main_v1 _ = V m c main_v1 _
    congr 1
    funext a
    apply Fin.ext
    match a with
    | ⟨0, _⟩ => show win0_1.index t 0 * 1 + 1 * 0 = t.val / 16; rw [index_1]; show t.val / 16 * 1 + 1 * 0 = _; omega
    | ⟨1, _⟩ => show win0_1.index t 1 * 2048 + 1 * r.val = _; rw [index_1]; show t.val % 4 * 2048 + 1 * r.val = 2048 * (t.val % 4) + r.val; omega
    | ⟨2, _⟩ => show win0_1.index t 2 * 128 + 1 * d.val = _; rw [index_1]; show t.val / 4 % 4 * 128 + 1 * d.val = 128 * (t.val / 4 % 4) + d.val; omega
  rw [e, q_at]
  congr 1
  funext a
  apply Fin.ext
  fin_cases a <;> simp [ix5] <;> omega

theorem block_2 (n : Fin 8192) (d : Fin 128) : (iblk m c 2 t : S1x8192x128.Idx → EReal) (ix3 0 n d)
    = arg1 m c (ix5 ⟨t.val / 16, by have := lt64 t; omega⟩ n ⟨t.val / 4 % 4, by omega⟩ ⟨d.val / 64, by omega⟩ ⟨d.val % 64, by omega⟩) := by
  have := lt64 t
  have e : (iblk m c 2 t : S1x8192x128.Idx → EReal) (ix3 0 n d)
      = (V m c main_v3 : S4x8192x512.Idx → EReal) (ix3 ⟨t.val / 16, by have := lt64 t; omega⟩ n ⟨128 * (t.val / 4 % 4) + d.val, by omega⟩) := by
    unfold iblk
    rw [View.read_apply]
    show V m c main_v3 _ = V m c main_v3 _
    congr 1
    funext a
    apply Fin.ext
    match a with
    | ⟨0, _⟩ => show win0_2.index t 0 * 1 + 1 * 0 = _; rw [index_2]; show t.val / 16 * 1 + 1 * 0 = t.val / 16; omega
    | ⟨1, _⟩ => show win0_2.index t 1 * 8192 + 1 * n.val = _; rw [index_2]; show 0 * 8192 + 1 * n.val = n.val; omega
    | ⟨2, _⟩ => show win0_2.index t 2 * 128 + 1 * d.val = _; rw [index_2]; show t.val / 4 % 4 * 128 + 1 * d.val = 128 * (t.val / 4 % 4) + d.val; omega
  rw [e, k_at]
  congr 1
  funext a
  apply Fin.ext
  fin_cases a <;> simp [ix5] <;> omega

theorem block_3 (n : Fin 256) (d : Fin 128) : (iblk m c 3 t : S1x256x128.Idx → EReal) (ix3 0 n d)
    = arg2 m c (ix5 ⟨t.val / 16, by have := lt64 t; omega⟩ n ⟨t.val / 4 % 4, by omega⟩ ⟨d.val / 64, by omega⟩ ⟨d.val % 64, by omega⟩) := by
  have := lt64 t
  have e : (iblk m c 3 t : S1x256x128.Idx → EReal) (ix3 0 n d)
      = (V m c main_v5 : S4x256x512.Idx → EReal) (ix3 ⟨t.val / 16, by have := lt64 t; omega⟩ n ⟨128 * (t.val / 4 % 4) + d.val, by omega⟩) := by
    unfold iblk
    rw [View.read_apply]
    show V m c main_v5 _ = V m c main_v5 _
    congr 1
    funext a
    apply Fin.ext
    match a with
    | ⟨0, _⟩ => show win0_3.index t 0 * 1 + 1 * 0 = _; rw [index_3]; show t.val / 16 * 1 + 1 * 0 = t.val / 16; omega
    | ⟨1, _⟩ => show win0_3.index t 1 * 256 + 1 * n.val = _; rw [index_3]; show 0 * 256 + 1 * n.val = n.val; omega
    | ⟨2, _⟩ => show win0_3.index t 2 * 128 + 1 * d.val = _; rw [index_3]; show t.val / 4 % 4 * 128 + 1 * d.val = 128 * (t.val / 4 % 4) + d.val; omega
  rw [e, kc_at]
  congr 1
  funext a
  apply Fin.ext
  fin_cases a <;> simp [ix5] <;> omega

theorem block_4 (v : Fin 128) (n : Fin 8192) : (iblk m c 4 t : S1x1x128x8192.Idx → EReal) (ix4 0 0 v n)
    = arg3 m c (ix4 ⟨t.val / 16, by have := lt64 t; omega⟩ n ⟨t.val / 4 % 4, by omega⟩ v) := by
  have := lt64 t
  have e : (iblk m c 4 t : S1x1x128x8192.Idx → EReal) (ix4 0 0 v n)
      = (V m c main_v7 : S4x4x128x8192.Idx → EReal) (ix4 ⟨t.val / 16, by have := lt64 t; omega⟩ ⟨t.val / 4 % 4, by omega⟩ v n) := by
    unfold iblk
    rw [View.read_apply]
    show V m c main_v7 _ = V m c main_v7 _
    congr 1
    funext a
    apply Fin.ext
    match a with
    | ⟨0, _⟩ => show win0_4.index t 0 * 1 + 1 * 0 = _; rw [index_4]; show t.val / 16 * 1 + 1 * 0 = t.val / 16; omega
    | ⟨1, _⟩ => show win0_4.index t 1 * 1 + 1 * 0 = _; rw [index_4]; show t.val / 4 % 4 * 1 + 1 * 0 = t.val / 4 % 4; omega
    | ⟨2, _⟩ => show win0_4.index t 2 * 128 + 1 * v.val = _; rw [index_4]; show 0 * 128 + 1 * v.val = v.val; omega
    | ⟨3, _⟩ => show win0_4.index t 3 * 8192 + 1 * n.val = _; rw [index_4]; show 0 * 8192 + 1 * n.val = n.val; omega
  rw [e, v_at]

theorem block_5 (v : Fin 128) (n : Fin 256) : (iblk m c 5 t : S1x1x128x256.Idx → EReal) (ix4 0 0 v n)
    = arg4 m c (ix4 ⟨t.val / 16, by have := lt64 t; omega⟩ n ⟨t.val / 4 % 4, by omega⟩ v) := by
  have := lt64 t
  have e : (iblk m c 5 t : S1x1x128x256.Idx → EReal) (ix4 0 0 v n)
      = (V m c main_v9 : S4x4x128x256.Idx → EReal) (ix4 ⟨t.val / 16, by have := lt64 t; omega⟩ ⟨t.val / 4 % 4, by omega⟩ v n) := by
    unfold iblk
    rw [View.read_apply]
    show V m c main_v9 _ = V m c main_v9 _
    congr 1
    funext a
    apply Fin.ext
    match a with
    | ⟨0, _⟩ => show win0_5.index t 0 * 1 + 1 * 0 = _; rw [index_5]; show t.val / 16 * 1 + 1 * 0 = t.val / 16; omega
    | ⟨1, _⟩ => show win0_5.index t 1 * 1 + 1 * 0 = _; rw [index_5]; show t.val / 4 % 4 * 1 + 1 * 0 = t.val / 4 % 4; omega
    | ⟨2, _⟩ => show win0_5.index t 2 * 128 + 1 * v.val = _; rw [index_5]; show 0 * 128 + 1 * v.val = v.val; omega
    | ⟨3, _⟩ => show win0_5.index t 3 * 256 + 1 * n.val = _; rw [index_5]; show 0 * 256 + 1 * n.val = n.val; omega
  rw [e, vc_at]

theorem block_0 (i : Fin 4) (k : Fin 64) : (iblk m c 0 t : S4x64.Idx → EReal) (ix2 i k)
    = ![arg5 m c, arg6 m c, arg7 m c, arg8 m c] i (ix2 0 k) := by
  have := lt64 t
  have e : (iblk m c 0 t : S4x64.Idx → EReal) (ix2 i k)
      = (V m c main_v18 : S4x64.Idx → EReal) (ix2 i k) := by
    unfold iblk
    rw [View.read_apply]
    show V m c main_v18 _ = V m c main_v18 _
    congr 1
    funext a
    apply Fin.ext
    match a with
    | ⟨0, _⟩ => show win0_0.index t 0 * 4 + 1 * i.val = _; rw [index_0]; show 0 * 4 + 1 * i.val = i.val; omega
    | ⟨1, _⟩ => show win0_0.index t 1 * 64 + 1 * k.val = _; rw [index_0]; show 0 * 64 + 1 * k.val = k.val; omega
  rw [e, lam_at]

theorem block_6 (k : Fin 128) : (iblk m c 6 t : S1x128.Idx → EReal) (ix2 0 k)
    = arg9 m c (ix2 0 k) := by
  have := lt64 t
  have e : (iblk m c 6 t : S1x128.Idx → EReal) (ix2 0 k)
      = (V m c main_v20 : S1x128.Idx → EReal) (ix2 0 k) := by
    unfold iblk
    rw [View.read_apply]
    show V m c main_v20 _ = V m c main_v20 _
    congr 1
    funext a
    apply Fin.ext
    match a with
    | ⟨0, _⟩ => show win0_6.index t 0 * 1 + 1 * 0 = _; rw [index_6]; show 0 * 1 + 1 * 0 = 0; omega
    | ⟨1, _⟩ => show win0_6.index t 1 * 128 + 1 * k.val = _; rw [index_6]; show 0 * 128 + 1 * k.val = k.val; omega
  rw [e, gain_at]

end Cert.Attn.Blocks
end
-- ==== Proof.Attn.Ref.lean ====
/-
  The reference read at an index: with every argument real, its attended value is the difference of the two quotients of
  sums over the latent and the context keys, and its result the closing steps of that.
-/
module

public import proofs.«01_k».proof.Proof.Gen.ReferenceIdeal.Read
public import proofs.«01_k».proof.Proof.Attn.Math
public import proofs.«01_k».proof.Proof.Attn.Closing
public import Idealize.ShloMosaic.Lib.Pointwise

@[expose] public section

set_option maxRecDepth 16384

noncomputable section

namespace Cert.Attn.Ref

open Cert.ReferenceIdeal Cert.ReferenceIdeal.Gen Cert.ReferenceIdeal.Read Idealize.ShloMosaic

/-- The value of `f` at a position, zero past its end. -/
def ext {n : ℕ} (f : Fin n → ℝ) (i : ℕ) : ℝ := if h : i < n then f ⟨i, h⟩ else 0

variable (X0 X1 : S4x8192x4x2x64.Idx → ℝ) (X2 : S4x256x4x2x64.Idx → ℝ) (X3 : S4x8192x4x128.Idx → ℝ) (X4 : S4x256x4x128.Idx → ℝ)
  (x5 x6 x7 x8 : S1x64.Idx → EReal) (x9 : S1x128.Idx → EReal)

/-- A latent key's scaled score. -/
def slat (b : Fin 4) (n : Fin 8192) (h : Fin 4) (p : Fin 2) (i : ℕ) : ℝ :=
  (∑ d : Fin 64, X0 (ix5 b n h p d) * ext (fun i => X1 (ix5 b i h p d)) i) * (1 / 8)

/-- A context key's scaled score. -/
def sctx (b : Fin 4) (n : Fin 8192) (h : Fin 4) (p : Fin 2) (i : ℕ) : ℝ :=
  (∑ d : Fin 64, X0 (ix5 b n h p d) * ext (fun i => X2 (ix5 b i h p d)) i) * (1 / 8)

/-- The scaled score with key `k` of all the keys, the context first. -/
def sall (b : Fin 4) (n : Fin 8192) (h : Fin 4) (p : Fin 2) (k : Fin 8448) : ℝ :=
  if k.val < 256 then sctx X0 X2 b n h p k.val else slat X0 X1 b n h p (k.val - 256)

/-- An array of reals. -/
abbrev re {s : Shape} (X : s.Idx → ℝ) (i : s.Idx) : EReal := (X i : ℝ)

theorem eighth : Ideal.ofBits .f32 0x3E000000#32 = ((1 / 8 : ℝ) : EReal) := by
  simp [Ideal.ofBits, Ideal.ieee, -EReal.coe_mul]; norm_num

theorem negInf : Ideal.ofBits .f32 0xFF800000#32 = ⊥ := by
  simp [Ideal.ofBits, Ideal.ieee, -EReal.coe_mul]

theorem zeroBits : Ideal.ofBits .f32 0x00000000#32 = 0 := by
  simp [Ideal.ofBits, Ideal.ieee, -EReal.coe_mul]

theorem v12_val (b : Fin 4) (k : Fin 8448) (h : Fin 4) (p : Fin 2) (d : Fin 64) :
    val_main_v12 (F := Ideal) (re X1) (re X2) (ix5 b k h p d)
      = ((if k.val < 256 then ext (fun i => X2 (ix5 b i h p d)) k.val else ext (fun i => X1 (ix5 b i h p d)) (k.val - 256) : ℝ) : EReal) := by
  pointwise [val_main_v12]
  split_ifs with hk
  · rw [ext, dif_pos hk]
  · rw [ext, dif_pos (by omega)]
  · exact absurd rfl ‹_›

theorem v13_val (b : Fin 4) (k : Fin 8448) (h : Fin 4) (v : Fin 128) :
    val_main_v13 (F := Ideal) (re X3) (re X4) (ix4 b k h v)
      = ((if k.val < 256 then ext (fun i => X4 (ix4 b i h v)) k.val else ext (fun i => X3 (ix4 b i h v)) (k.val - 256) : ℝ) : EReal) := by
  pointwise [val_main_v13]
  split_ifs with hk
  · rw [ext, dif_pos hk]
  · rw [ext, dif_pos (by omega)]
  · exact absurd rfl ‹_›

theorem v16_val (b : Fin 4) (h : Fin 4) (p : Fin 2) (n : Fin 8192) (k : Fin 8448) :
    val_main_v16 (F := Ideal) (re X0) (re X1) (re X2) (ix5 b h p n k) = ((sall X0 X1 X2 b n h p k : ℝ) : EReal) := by
  have e := v12_val X1 X2 b k h p
  revert e
  unfold val_main_v16 val_main_v14
  generalize val_main_v12 (F := Ideal) (re X1) (re X2) = y
  intro e
  pointwise [val_main_v15, val_main_cst_2]
  simp only [e, eighth, sall, slat, sctx, ← EReal.coe_mul, ← coe_sum]
  congr 1
  split_ifs <;> rfl

/-- The maximum of a nonempty family of reals, begun at `⊥`, is a real. -/
theorem fold_max_real {ι : Type*} [Fintype ι] [Nonempty ι] (f : ι → EReal) (hf : ∀ i, ∃ r : ℝ, f i = r) :
    ∃ M : ℝ, Finset.univ.fold max ⊥ f = (M : EReal) := by
  refine ⟨_, (EReal.coe_toReal (lt_top_iff_ne_top.mp ?_) (bot_lt_iff_ne_bot.mp ?_)).symm⟩
  · rw [Finset.fold_max_lt]
    refine ⟨bot_lt_top, fun i _ => ?_⟩
    obtain ⟨r, hr⟩ := hf i
    rw [hr]
    exact EReal.coe_lt_top r
  · rw [Finset.lt_fold_max]
    obtain ⟨i⟩ := ‹Nonempty ι›
    obtain ⟨r, hr⟩ := hf i
    exact Or.inr ⟨i, Finset.mem_univ i, hr ▸ EReal.bot_lt_coe r⟩

/-- The row maximum is a real. -/
theorem v19_real (b : Fin 4) (h : Fin 4) (p : Fin 2) (n : Fin 8192) :
    ∃ M : ℝ, val_main_v19 (F := Ideal) (re X0) (re X1) (re X2) (ix4 b h p n) = (M : EReal) := by
  have e : ∀ i, ∃ r : ℝ, val_main_v16 (F := Ideal) (re X0) (re X1) (re X2) i = (r : EReal) := fun i => by
    idx_vars i
    exact ⟨_, v16_val X0 X1 X2 _ _ _ _ _⟩
  haveI : Nonempty (Fin (S4x4x2x8192x8448.size 4)) := ⟨(0 : Fin 8448)⟩
  rw [val_main_v19_apply, val_main_v18_apply]
  unfold val_main_v17
  revert e
  generalize val_main_v16 (F := Ideal) (re X0) (re X1) (re X2) = y
  intro e
  rw [Host.reduce_eq_fold_single _ _ _ _ (by decide)]
  obtain ⟨M, hM⟩ := fold_max_real (y ∘ Shape.Reduces.lift (s := S4x4x2x8192x8448) (a := 4) (t := S4x4x2x8192) (by decide) (ix4 b h p n)) (fun i => e _)
  refine ⟨M, ?_⟩
  show max (Ideal.ofBits .f32 0xFF800000#32) (Finset.univ.fold max (Ideal.ofBits .f32 0xFF800000#32) _) = _
  rw [negInf, max_eq_right bot_le]
  exact hM

theorem v27_val (b : Fin 4) (h : Fin 4) (p : Fin 2) (n : Fin 8192) : ∃ M : ℝ, ∀ k : Fin 8448,
    val_main_v27 (F := Ideal) (re X0) (re X1) (re X2) (ix5 b h p n k)
      = ((Real.exp (sall X0 X1 X2 b n h p k - M) / ∑ k', Real.exp (sall X0 X1 X2 b n h p k' - M) : ℝ) : EReal) := by
  obtain ⟨M, hM⟩ := v19_real X0 X1 X2 b h p n
  refine ⟨M, fun k => ?_⟩
  have e := v16_val X0 X1 X2 b h p n
  revert e hM
  unfold val_main_v27 val_main_v26 val_main_v25 val_main_v24 val_main_v23 val_main_v22 val_main_v21 val_main_v20
  generalize val_main_v16 (F := Ideal) (re X0) (re X1) (re X2) = y
  generalize val_main_v19 (F := Ideal) (re X0) (re X1) (re X2) = z
  intro hM e
  have hpos : (∑ k' : Fin 8448, Real.exp (sall X0 X1 X2 b n h p k' - M)) ≠ 0 :=
    (Finset.sum_pos (fun k' _ => Real.exp_pos _) ⟨k, Finset.mem_univ k⟩).ne'
  pointwise [val_main_cst_5]
  simp only [e, hM, ← EReal.coe_sub, Ideal.exp_coe, ← coe_sum]
  exact div_coe_coe _ hpos

theorem sum_row (f : S64.Idx → EReal) : ∑ j : S64.Idx, f j = ∑ k : Fin 64, f (ix1 k) :=
  (Fintype.sum_equiv (Equiv.ofBijective (fun k : Fin 64 => (ix1 k : S64.Idx)) ⟨fun a b e =>
    (congrFun e 0 : (ix1 a : S64.Idx) 0 = (ix1 b : S64.Idx) 0), fun j => ⟨j 0, by funext a; fin_cases a; rfl⟩⟩) _ _ (fun _ => rfl)).symm

theorem v11_val (i : S_.Idx) : val_main_v11 (F := Ideal) x5 x6 x7 x8 i = lamv (fun i k => ![x5, x6, x7, x8] i (ix2 0 k)) := by
  rw [val_main_v11_apply, val_main_v10_apply, val_main_v9_apply, val_main_v8_apply, val_main_v4_apply, val_main_v3_apply, sum_row, sum_row]
  have e : ∀ k : Fin 64, val_main_v2 (F := Ideal) x5 x6 (ix1 k) = x5 (ix2 0 k) * x6 (ix2 0 k) := fun k => by
    pointwise [val_main_v2, val_main_v1, val_main_v0]
  have e' : ∀ k : Fin 64, val_main_v7 (F := Ideal) x7 x8 (ix1 k) = x7 (ix2 0 k) * x8 (ix2 0 k) := fun k => by
    pointwise [val_main_v7, val_main_v6, val_main_v5]
  simp only [e, e']
  show Ideal.exp (Ideal.ofBits .f32 0x00000000#32 + _) - Ideal.exp (Ideal.ofBits .f32 0x00000000#32 + _) + _ = _
  rw [zeroBits, zero_add, zero_add]
  rfl

theorem v29_val (y : S4x4x2x8192x8448.Idx → EReal) (b : Fin 4) (h : Fin 4) (n : Fin 8192) (k : Fin 8448) :
    shapeCast S4x4x8192x8448 (extractStridedSlice S4x4x1x8192x8448 ![0, 0, 0, 0, 0] y slices_S4x4x2x8192x8448_S4x4x1x8192x8448_0_0_0_0_0)
      shapeCasts_S4x4x1x8192x8448_S4x4x8192x8448 (ix4 b h n k) = y (ix5 b h 0 n k) := by
  pointwise

theorem v31_val (y : S4x4x2x8192x8448.Idx → EReal) (b : Fin 4) (h : Fin 4) (n : Fin 8192) (k : Fin 8448) :
    shapeCast S4x4x8192x8448 (extractStridedSlice S4x4x1x8192x8448 ![0, 0, 1, 0, 0] y slices_S4x4x2x8192x8448_S4x4x1x8192x8448_0_0_1_0_0)
      shapeCasts_S4x4x1x8192x8448_S4x4x8192x8448 (ix4 b h n k) = y (ix5 b h 1 n k) := by
  pointwise

theorem v34_val {lam : ℝ} (hlam : lamv (fun i k => ![x5, x6, x7, x8] i (ix2 0 k)) = (lam : EReal)) (b : Fin 4) (h : Fin 4) (n : Fin 8192) :
    ∃ M₀ M₁ : ℝ, ∀ k : Fin 8448, val_main_v34 (F := Ideal) (re X0) (re X1) (re X2) x5 x6 x7 x8 (ix4 b h n k)
      = ((Real.exp (sall X0 X1 X2 b n h 0 k - M₀) / (∑ k', Real.exp (sall X0 X1 X2 b n h 0 k' - M₀))
          - lam * (Real.exp (sall X0 X1 X2 b n h 1 k - M₁) / ∑ k', Real.exp (sall X0 X1 X2 b n h 1 k' - M₁)) : ℝ) : EReal) := by
  obtain ⟨M₀, h₀⟩ := v27_val X0 X1 X2 b h 0 n
  obtain ⟨M₁, h₁⟩ := v27_val X0 X1 X2 b h 1 n
  refine ⟨M₀, M₁, fun k => ?_⟩
  rw [val_main_v34_apply, val_main_v33_apply, val_main_v32_apply, v11_val, hlam]
  unfold val_main_v31 val_main_v30 val_main_v29 val_main_v28
  rw [v29_val, v31_val, h₀, h₁, EReal.coe_sub, EReal.coe_mul]
  rfl

/-- The attended value. -/
def att (lam : ℝ) (b : Fin 4) (n : Fin 8192) (h : Fin 4) (v : Fin 128) : ℝ :=
  attended (slat X0 X1 b n h) (sctx X0 X2 b n h) (ext fun i => X3 (ix4 b i h v)) (ext fun i => X4 (ix4 b i h v)) lam

theorem v36_val {lam : ℝ} (hlam : lamv (fun i k => ![x5, x6, x7, x8] i (ix2 0 k)) = (lam : EReal)) (b : Fin 4) (n : Fin 8192) (h : Fin 4) (v : Fin 128) :
    val_main_v36 (F := Ideal) (re X0) (re X1) (re X2) (re X3) (re X4) x5 x6 x7 x8 (ix4 b n h v) = ((att X0 X1 X2 X3 X4 lam b n h v : ℝ) : EReal) := by
  obtain ⟨M₀, M₁, e₃⟩ := v34_val X0 X1 X2 x5 x6 x7 x8 hlam b h n
  have e₁ := fun k => v13_val X3 X4 b k h v
  unfold att
  rw [← attended_eq _ _ _ _ _ M₀ M₁, coe_sum]
  revert e₁ e₃
  unfold val_main_v36 val_main_v35
  generalize val_main_v34 (F := Ideal) (re X0) (re X1) (re X2) x5 x6 x7 x8 = y
  generalize val_main_v13 (F := Ideal) (re X3) (re X4) = z
  intro e₃ e₁
  generalize hR : (∑ x : Fin 8448, _ : EReal) = R
  pointwise
  rw [← hR]
  refine Finset.sum_congr rfl fun k _ => ?_
  rw [e₁, e₃, ← EReal.coe_mul]
  rfl

theorem v52_val (b : Fin 4) (n : Fin 8192) (h : Fin 4) (v : Fin 128) (x0 x1 x2 x3 x4) :
    val_main_v52 (F := Ideal) x0 x1 x2 x3 x4 x5 x6 x7 x8 x9 (ix4 b n h v)
      = finish (fun v => val_main_v36 (F := Ideal) x0 x1 x2 x3 x4 x5 x6 x7 x8 (ix4 b n h v)) (fun k => x9 (ix2 0 k)) v := by
  rw [val_main_v52_apply, val_main_v50_apply, val_main_v46_apply, val_main_v45_apply, val_main_v44_apply, val_main_v43_apply, val_main_v41_apply,
    val_main_v39_apply, val_main_v38_apply]
  have hk : ∀ k, idx_main_v38 (idx_main_v39 (idx_main_v45 (ix4 b n h v))) k = ix4 b n h k := fun k => by funext a; fin_cases a <;> rfl
  have hg : val_main_v49 (F := Ideal) x9 (ix4 b n h v) = x9 (ix2 0 v) := by
    pointwise [val_main_v49, val_main_v48, val_main_v47]
  simp only [hk, hg, val_main_v37_apply]
  show _ * Ideal.rsqrt (Ideal.div (Ideal.ofBits .f32 0x00000000#32 + _) _ + _) * _ * _ = _
  rw [zeroBits, zero_add]
  rfl

theorem v54_val {lam : ℝ} (hlam : lamv (fun i k => ![x5, x6, x7, x8] i (ix2 0 k)) = (lam : EReal)) (b : Fin 4) (n : Fin 8192) (e : Fin 512) :
    val_main_v54 (F := Ideal) (re X0) (re X1) (re X2) (re X3) (re X4) x5 x6 x7 x8 x9 (ix3 b n e)
      = finish (fun v => ((att X0 X1 X2 X3 X4 lam b n ⟨e.val / 128, by omega⟩ v : ℝ) : EReal)) (fun k => x9 (ix2 0 k)) ⟨e.val % 128, by omega⟩ := by
  have h₁ := fun v => v36_val X0 X1 X2 X3 X4 x5 x6 x7 x8 hlam b n ⟨e.val / 128, by omega⟩ v
  simp only [← h₁]
  rw [← v52_val, val_main_v54_apply, val_main_v53_apply]
  have hi : idx_main_v53 (ix3 b n e) = ix4 b n ⟨e.val / 128, by omega⟩ ⟨e.val % 128, by omega⟩ := by
    funext a
    apply Fin.ext
    fin_cases a <;> simp [ix3, ix4] <;> omega
  rw [hi]
  rfl

end Cert.Attn.Ref
end
-- ==== Proof.Attn.Kernel.lean ====
/-
  The kernel's result array after its run: every element is the closing steps of the attended values of its row and head.
-/
module

public import proofs.«01_k».proof.Proof.Attn.Block
public import proofs.«01_k».proof.Proof.Attn.Read
public import proofs.«01_k».proof.Proof.Attn.Blocks
public import proofs.«01_k».proof.Proof.Attn.Ref

@[expose] public section

set_option maxRecDepth 16384

noncomputable section

namespace Cert.Attn.Result

open Cert.KernelIdeal Cert.KernelIdeal.Gen Cert.KernelIdeal.Value Cert.Attn.Blocks Idealize.ShloMosaic Idealize.ShloMosaic.TcCoe Idealize.SL.Sem
open Cert.Attn.Ref (re ext slat sctx att)

/-- A sum over 128 components of which only those of part `p` count is a sum over that part's 64. -/
theorem sum_mask (p : Fin 2) (f g : Fin 2 → Fin 64 → ℝ) :
    ∑ d : Fin 128, f ⟨d.val / 64, by omega⟩ ⟨d.val % 64, by omega⟩ * maskq p.val (fun d => g ⟨d.val / 64, by omega⟩ ⟨d.val % 64, by omega⟩) d
      = ∑ e : Fin 64, g p e * f p e := by
  rw [← (finProdFinEquiv (m := 2) (n := 64)).sum_comp, Fintype.sum_prod_type]
  have h₁ : ∀ (x : Fin 2) (y : Fin 64), (y.val + 64 * x.val) / 64 = x.val := fun x y => by omega
  have h₂ : ∀ (x : Fin 2) (y : Fin 64), (y.val + 64 * x.val) % 64 = y.val := fun x y => by omega
  simp only [maskq, finProdFinEquiv_apply_val, h₁, h₂, Fin.eta, Fin.val_inj]
  rw [Fintype.sum_eq_single p (fun x hx => Finset.sum_eq_zero fun y _ => by rw [if_neg hx, mul_zero])]
  exact Finset.sum_congr rfl fun y _ => by rw [if_pos rfl, mul_comm]

variable (X0 X1 : S4x8192x4x2x64.Idx → ℝ) (X2 : S4x256x4x2x64.Idx → ℝ) (X3 : S4x8192x4x128.Idx → ℝ) (X4 : S4x256x4x128.Idx → ℝ)

/-- The query row, key rows of one head with their two parts joined. -/
def qrow (b : Fin 4) (n : Fin 8192) (h : Fin 4) (d : Fin 128) : ℝ := X0 (ix5 b n h ⟨d.val / 64, by omega⟩ ⟨d.val % 64, by omega⟩)

def krow (b : Fin 4) (h : Fin 4) (i : ℕ) (d : Fin 128) : ℝ := ext (fun i => X1 (ix5 b i h ⟨d.val / 64, by omega⟩ ⟨d.val % 64, by omega⟩)) i

def kcrow (b : Fin 4) (h : Fin 4) (i : ℕ) (d : Fin 128) : ℝ := ext (fun i => X2 (ix5 b i h ⟨d.val / 64, by omega⟩ ⟨d.val % 64, by omega⟩)) i

theorem sc_lat (b : Fin 4) (n : Fin 8192) (h : Fin 4) :
    (fun p : Fin 2 => sc (maskq p.val (qrow X0 b n h)) (krow X1 b h)) = slat X0 X1 b n h := by
  funext p i
  exact congrArg (· * (1 / 8 : ℝ)) (sum_mask p (fun p e => ext (fun i => X1 (ix5 b i h p e)) i) (fun p e => X0 (ix5 b n h p e)))

theorem sc_ctx (b : Fin 4) (n : Fin 8192) (h : Fin 4) :
    (fun p : Fin 2 => sc (maskq p.val (qrow X0 b n h)) (kcrow X2 b h)) = sctx X0 X2 b n h := by
  funext p i
  exact congrArg (· * (1 / 8 : ℝ)) (sum_mask p (fun p e => ext (fun i => X2 (ix5 b i h p e)) i) (fun p e => X0 (ix5 b n h p e)))

variable (m : (ℓ : Loc nD τ sig) → Buf (Elt Ideal) ℓ) (c : Dev nD)

/-- The result array. -/
def result (lam : ℝ) (i : S4x8192x512.Idx) : EReal :=
  finish (fun v => ((att X0 X1 X2 X3 X4 lam (i 0) (i 1) ⟨(i 2).val / 128, by have : (i 2).val < 512 := (i 2).isLt; omega⟩ v : ℝ) : EReal))
    (fun k => arg9 m c (ix2 0 k)) ⟨(i 2).val % 128, by omega⟩

variable {X0 X1 X2 X3 X4} {lam : ℝ} (h0 : arg0 m c = re X0) (h1 : arg1 m c = re X1) (h2 : arg2 m c = re X2) (h3 : arg3 m c = re X3)
  (h4 : arg4 m c = re X4) (hlam : lamv (fun i k => ![arg5 m c, arg6 m c, arg7 m c, arg8 m c] i (ix2 0 k)) = (lam : EReal))

include h0 h1 h2 h3 h4 hlam in
theorem block_eq (t : Fin cfg0.N) (r : Fin 2048) (d : Fin 128) :
    attnBlock (iblk m c 0 t) (iblk m c 1 t) (iblk m c 2 t) (iblk m c 3 t) (iblk m c 4 t) (iblk m c 5 t) (iblk m c 6 t) (ix3 0 r d)
      = result X0 X1 X2 X3 X4 m c lam (ix3 ⟨t.val / 16, by have := lt64 t; omega⟩ ⟨2048 * (t.val % 4) + r.val, by omega⟩ ⟨128 * (t.val / 4 % 4) + d.val, by omega⟩) := by
  have := lt64 t
  let b : Fin 4 := ⟨t.val / 16, by omega⟩
  let n : Fin 8192 := ⟨2048 * (t.val % 4) + r.val, by omega⟩
  let h : Fin 4 := ⟨t.val / 4 % 4, by omega⟩
  rw [attnBlock_val (lam := lam) (X1 := qrow X0 b n h) (X2 := krow X1 b h) (X3 := kcrow X2 b h)
    (X4 := fun v => ext fun i => X3 (ix4 b i h v)) (X5 := fun v => ext fun i => X4 (ix4 b i h v))]
  · rw [sc_lat, sc_ctx]
    have e1 : (128 * (t.val / 4 % 4) + d.val) / 128 = t.val / 4 % 4 := by omega
    have e2 : (128 * (t.val / 4 % 4) + d.val) % 128 = d.val := by omega
    simp only [block_6]
    show finish _ _ _ = finish _ _ _
    congr 1
    · funext v
      show ((att X0 X1 X2 X3 X4 lam b n h v : ℝ) : EReal) = ((att X0 X1 X2 X3 X4 lam b n _ v : ℝ) : EReal)
      congr 2
      exact Fin.ext e1.symm
    · exact Fin.ext e2.symm
  · simp only [block_0]
    exact hlam
  · intro d
    rw [block_1, h0]
    rfl
  · intro n hn d
    rw [block_2, h1]
    show ((X1 _ : ℝ) : EReal) = ((krow X1 b h n d : ℝ) : EReal)
    rw [krow, ext, dif_pos hn]
  · intro n hn d
    rw [block_3, h2]
    show ((X2 _ : ℝ) : EReal) = ((kcrow X2 b h n d : ℝ) : EReal)
    rw [kcrow, ext, dif_pos hn]
  · intro v n hn
    rw [block_4, h3]
    rw [ext, dif_pos hn]
  · intro v n hn
    rw [block_5, h4]
    rw [ext, dif_pos hn]

include h0 h1 h2 h3 h4 hlam in
theorem flushed_eq (t : Fin cfg0.N) :
    (dats m 0 c).flushed 7 t = ((cfg0.win 7).blk t).view.read (Elt Ideal) (result X0 X1 X2 X3 X4 m c lam) := by
  rw [flushed7_A, out_eq]
  funext j
  rw [View.read_apply]
  obtain ⟨r, d, rfl⟩ : ∃ (r : Fin 2048) (d : Fin 128), j = (ix3 0 r d : S1x2048x128.Idx) := ⟨j 1, j 2, by
    funext a
    fin_cases a
    · exact Subsingleton.elim (α := Fin 1) _ _
    · rfl
    · rfl⟩
  refine (block_eq m c h0 h1 h2 h3 h4 hlam t r d).trans ?_
  show result X0 X1 X2 X3 X4 m c lam _ = result X0 X1 X2 X3 X4 m c lam _
  congr 1
  funext a
  apply Fin.ext
  have := lt64 t
  match a with
  | ⟨0, _⟩ => show t.val / 16 = win0_7.index t 0 * 1 + 1 * 0; rw [index_7]; show t.val / 16 = t.val / 16 * 1 + 1 * 0; omega
  | ⟨1, _⟩ => show 2048 * (t.val % 4) + r.val = win0_7.index t 1 * 2048 + 1 * r.val; rw [index_7]; show _ = t.val % 4 * 2048 + 1 * r.val; omega
  | ⟨2, _⟩ => show 128 * (t.val / 4 % 4) + d.val = win0_7.index t 2 * 128 + 1 * d.val; rw [index_7]; show _ = t.val / 4 % 4 * 128 + 1 * d.val; omega

include h0 h1 h2 h3 h4 hlam in
/-- The result array after the run. -/
theorem final : (dats m 0 c).arrAt 7 cfg0.N = result X0 X1 X2 X3 X4 m c lam :=
  (dats m 0 c).arrAt_eq_of_cover 7 (result X0 X1 X2 X3 X4 m c lam) (fun t _ => flushed_eq m c h0 h1 h2 h3 h4 hlam t) fun i => by
    have i0 : (i 0 : ℕ) < 4 := (i 0).isLt
    have i1 : (i 1 : ℕ) < 8192 := (i 1).isLt
    have i2 : (i 2 : ℕ) < 512 := (i 2).isLt
    let t : Fin cfg0.N := ⟨16 * (i 0 : ℕ) + 4 * ((i 2 : ℕ) / 128) + (i 1 : ℕ) / 2048, by show _ < 64; omega⟩
    refine ⟨t, flush0_7 t, ?_⟩
    show i ∈ ((View.whole main_v21_0).slice (win0_7.rect t)).set
    rw [View.set_slice_whole, Rect.mem_set_unit]
    have ht : t.val = 16 * (i 0 : ℕ) + 4 * ((i 2 : ℕ) / 128) + (i 1 : ℕ) / 2048 := rfl
    intro a
    match a with
    | ⟨0, _⟩ => show win0_7.index t 0 * 1 ≤ (i 0 : ℕ) ∧ (i 0 : ℕ) < win0_7.index t 0 * 1 + 1; rw [index_7]; show t.val / 16 * 1 ≤ _ ∧ _ < t.val / 16 * 1 + 1; omega
    | ⟨1, _⟩ => show win0_7.index t 1 * 2048 ≤ (i 1 : ℕ) ∧ (i 1 : ℕ) < win0_7.index t 1 * 2048 + 2048; rw [index_7]; show t.val % 4 * 2048 ≤ _ ∧ _ < t.val % 4 * 2048 + 2048; omega
    | ⟨2, _⟩ => show win0_7.index t 2 * 128 ≤ (i 2 : ℕ) ∧ (i 2 : ℕ) < win0_7.index t 2 * 128 + 128; rw [index_7]; show t.val / 4 % 4 * 128 ≤ _ ∧ _ < t.val / 4 % 4 * 128 + 128; omega

end Cert.Attn.Result
end
-- ==== Proof.Attn.Claims.lean ====
/-
  The claims about the attention call: what the arguments' finiteness says, and the kernel's result beside the reference's.
-/
module

public import proofs.«01_k».proof.Defs
public import proofs.«01_k».proof.Proof.Attn.Kernel
public import proofs.«01_k».proof.Proof.Gen.Kernel.Frame
public import proofs.«01_k».proof.Proof.Gen.ReferenceIdeal.Run
public import Idealize.ShloMosaic.PureOps.IdealRules
public import Idealize.ShloMosaic.Lib.Quiescent

@[expose] public section

set_option maxRecDepth 16384

noncomputable section

namespace Cert.Attn

open Idealize.ShloMosaic Idealize.ShloMosaic.TcCoe Idealize.SL.Sem
open Cert.Attn.Ref (re)

theorem preFacts : Cert.Pre_finite.Facts where
  bcast_S_S4x8192x4x2x64 := by decide
  bcast_S_S4x256x4x2x64 := by decide
  bcast_S_S4x8192x4x128 := by decide
  bcast_S_S4x256x4x128 := by decide
  bcast_S_S1x64 := by decide

theorem posInf : Ideal.ofBits .f32 0x7F800000#32 = ⊤ := by
  simp [Ideal.ofBits, Ideal.ieee, -EReal.coe_mul]

/-- An array whose absolute values all compare below `⊤` is an array of reals. -/
theorem reals {s u : Shape} {x : s.Idx → EReal} {dims : Fin u.rank → Fin s.rank} {hb : u.BroadcastsInDim s dims}
    (h : cmpf (F := Ideal) (φ := .f32) .olt (Host.absf (F := Ideal) (φ := .f32) x) (broadcastInDim s dims hb (constant u .f32 0x7F800000#32)) = fun _ => 1#1) :
    ∃ X : s.Idx → ℝ, x = re X := by
  refine ⟨fun i => (x i).toReal, funext fun i => ?_⟩
  have e : BitVec.ofBool (decide (max (x i) (-(x i)) < Ideal.ofBits .f32 0x7F800000#32)) = 1#1 := congrFun h i
  rw [posInf] at e
  have e' : max (x i) (-(x i)) < ⊤ := by
    by_contra hn
    rw [decide_eq_false hn] at e
    exact absurd e (by decide)
  refine (EReal.coe_toReal (fun hx => ?_) (fun hx => ?_)).symm
  · rw [hx] at e'
    exact absurd e' (by simp)
  · rw [hx] at e'
    exact absurd e' (by simp)

/-- The mixing factor of real vectors is a real. -/
theorem lamv_real (L : Fin 4 → Fin 64 → ℝ) : ∃ lam : ℝ, lamv (fun i k => (L i k : EReal)) = (lam : EReal) := by
  have hc : ∃ r : ℝ, Ideal.ofBits .f32 0x3E4CCCCD#32 = (r : EReal) := by
    simp only [Ideal.ofBits, Ideal.ieee]
    exact ⟨_, rfl⟩
  obtain ⟨r, hr⟩ := hc
  refine ⟨Real.exp (∑ k, L 0 k * L 1 k) - Real.exp (∑ k, L 2 k * L 3 k) + r, ?_⟩
  simp only [lamv, hr, ← EReal.coe_mul, ← coe_sum, Ideal.exp_coe, ← EReal.coe_sub, ← EReal.coe_add]

theorem frame_kernel : Cert.quiescent_Kernel (hKernel := Cert.Kernel.Gen.facts) := fun m ρ _ => Cert.Kernel.Gen.frame m ρ

theorem frame_kernelIdeal : Cert.quiescent_KernelIdeal (hKernelIdeal := Cert.KernelIdeal.Gen.facts) := fun m ρ _ => Cert.KernelIdeal.Gen.frame m ρ

theorem frame_referenceIdeal : Cert.quiescent_ReferenceIdeal (hReferenceIdeal := Cert.ReferenceIdeal.Gen.facts) := fun m ρ _ =>
  (θ_run _ _ _).mono (fun r h => ⟨fun c => (h c).2, sem_eq_zero_of_no_sems rfl r.2⟩) (Cert.ReferenceIdeal.Value.run m ρ)

theorem preserves : Cert.preserves_Kernel_KernelIdeal :=
  IdealRules.named_const.statement Cert.KernelIdeal.κ "qscale" .f32 0x3E38AA3B#32 (((1 / 8) * (Real.log 2)⁻¹ : ℝ) : EReal) rfl

theorem algebraic : Cert.algebraic_KernelIdeal_ReferenceIdeal_pre_finite (hKernelIdeal := Cert.KernelIdeal.Gen.facts)
    (hReferenceIdeal := Cert.ReferenceIdeal.Gen.facts) (hPre_finite := preFacts) := by
  intro m g m' g' hpre hagree
  refine ⟨fun c => (Cert.KernelIdeal.Gen.dats m 0 c).arrAt 7 Cert.KernelIdeal.cfg0.N, ?_, ?_⟩
  · exact (θ_run _ _ _).mono (fun r h c => ⟨(h c).1, (h c).2.2⟩) (Cert.KernelIdeal.Value.run_blocks m g)
  · refine (θ_run _ _ _).mono (fun r h c => ⟨(h c).1.trans ?_, (h c).2⟩) (Cert.ReferenceIdeal.Value.run m' g')
    obtain ⟨p0, p1, p2, p3, p4, p5, p6, p7, p8⟩ := hpre c
    obtain ⟨X0, h0⟩ := reals p0
    obtain ⟨X1, h1⟩ := reals p1
    obtain ⟨X2, h2⟩ := reals p2
    obtain ⟨X3, h3⟩ := reals p3
    obtain ⟨X4, h4⟩ := reals p4
    obtain ⟨X5, h5⟩ := reals p5
    obtain ⟨X6, h6⟩ := reals p6
    obtain ⟨X7, h7⟩ := reals p7
    obtain ⟨X8, h8⟩ := reals p8
    obtain ⟨lam, hl⟩ := lamv_real (fun i k => ![X5, X6, X7, X8] i (ix2 0 k))
    have hlam : lamv (fun i k => ![Blocks.arg5 m c, Blocks.arg6 m c, Blocks.arg7 m c, Blocks.arg8 m c] i (ix2 0 k)) = (lam : EReal) := by
      rw [← hl]
      congr 1
      funext i k
      fin_cases i
      · exact congrFun h5 _
      · exact congrFun h6 _
      · exact congrFun h7 _
      · exact congrFun h8 _
    obtain ⟨a0, a1, a2, a3, a4, a5, a6, a7, a8, a9⟩ := hagree c
    refine Eq.trans ?_ (Result.final m c h0 h1 h2 h3 h4 hlam).symm
    rw [Cert.ReferenceIdeal.Read.val_main_v54_eq, a0, a1, a2, a3, a4, a5, a6, a7, a8, a9]
    funext i
    idx_vars i
    refine Eq.trans ?_ (Ref.v54_val X0 X1 X2 X3 X4 _ _ _ _ _ hlam _ _ _)
    show Cert.ReferenceIdeal.Read.val_main_v54 (F := Ideal) (Blocks.arg0 m c) (Blocks.arg1 m c) (Blocks.arg2 m c) (Blocks.arg3 m c) (Blocks.arg4 m c) _ _ _ _ _ _ = _
    rw [show Blocks.arg0 m c = re X0 from h0, show Blocks.arg1 m c = re X1 from h1, show Blocks.arg2 m c = re X2 from h2,
      show Blocks.arg3 m c = re X3 from h3, show Blocks.arg4 m c = re X4 from h4]
    rfl

end Cert.Attn
end
-- ==== Proof.Tail.Row.lean ====
/-
  The tail of the layer on one row of 1024 channels: the residual after the output projection, the modulated norm, the
  four parts of the in-projection, and the gated three-tap convolution.
-/
module

public import Idealize.ShloMosaic.PureOps.Ideal

@[expose] public section

noncomputable section

namespace Cert.Tail

open Idealize.ShloMosaic

/-- One row of channels. -/
abbrev Row := Fin 1024 → EReal

/-- A row plus the gated product of a second row with a square matrix. -/
def resid (x y g : Row) (W : Fin 1024 → Row) : Row := fun d => x d + g d * ∑ k, y k * W k d

/-- The row over its root mean square, with its gain, scale and shift. -/
def normed (x gain scale shift : Row) : Row := fun d =>
  x d * Ideal.rsqrt ((∑ k, x k * x k) * Ideal.ofBits .f32 0x3A800000#32 + Ideal.ofBits .f32 0x358637BD#32) * gain d * (1 + scale d) + shift d

/-- Part `p` of the product of a row with the wide matrix. -/
def part (h : Row) (w : Fin 1024 → Fin 4096 → EReal) (p : Fin 4) : Row := fun c => ∑ k, h k * w k ⟨1024 * p.val + c.val, by omega⟩

/-- What the convolution reads of a row. -/
def lag (h : Row) (w : Fin 1024 → Fin 4096 → EReal) : Row := fun c => part h w 1 c * part h w 2 c

/-- The three taps on three rows. -/
def taps (cw : Fin 3 → Row) (a b c : Row) : Row := fun k => cw 0 k * a k + cw 1 k * b k + cw 2 k * c k

/-- A convolved row between the first part and the fourth part's gate. -/
def zed (h : Row) (w : Fin 1024 → Fin 4096 → EReal) (T : Row) : Row := fun k =>
  part h w 0 k * T k * (part h w 3 k * Ideal.div 1 (1 + Ideal.exp (0 - part h w 3 k)))

/-- The row if the condition holds, else zeros. -/
def keep (p : Prop) [Decidable p] (a : Row) : Row := fun c => if p then a c else 0

/-- The gated row that the output projection takes: the first half from `f`, the second from `a`. -/
def mixIn (f a : Fin 512 → EReal) (g : Row) : Row := fun k => (if h : k.val < 512 then f ⟨k.val, h⟩ else a ⟨k.val - 512, by omega⟩) * g k

/-- What the tail of the layer takes: the stream, the two mixers' outputs, their gate, the modulation rows and the weights. -/
structure Args where
  x : Fin 4 → Fin 8192 → Row
  f : Fin 4 → Fin 8192 → Fin 512 → EReal
  a : Fin 4 → Fin 8192 → Fin 512 → EReal
  s : Fin 4 → Fin 8192 → Row
  gate : Fin 4 → Row
  shift : Fin 4 → Row
  scale : Fin 4 → Row
  gate' : Fin 4 → Row
  gain : Row
  W : Fin 1024 → Row
  w : Fin 1024 → Fin 4096 → EReal
  cw : Fin 3 → Row
  Wo : Fin 1024 → Row

namespace Args

variable (A : Args) (b : Fin 4)

/-- Row `n` after the first residual. -/
def res (n : Fin 8192) : Row := resid (A.x b n) (mixIn (A.f b n) (A.a b n) (A.s b n)) (A.gate b) A.W

/-- Row `n` after the norm. -/
def hid (n : Fin 8192) : Row := normed (A.res b n) A.gain (A.scale b) (A.shift b)

/-- Row `p` of what the convolution reads, with one row of zeros before and one after. -/
def pad (p : ℕ) : Row := fun c => if h : 1 ≤ p ∧ p - 1 < 8192 then lag (A.hid b ⟨p - 1, h.2⟩) A.w c else 0

/-- Row `n` of the result. -/
def out (n : Fin 8192) : Row :=
  resid (A.res b n) (zed (A.hid b n) A.w (taps A.cw (A.pad b n.val) (A.pad b (1 + n.val)) (A.pad b (2 + n.val)))) (A.gate' b) A.Wo

end Args

/-- A sum over 1024 channels by halves. -/
theorem sum_halves (f : Row) : ∑ k, f k = ∑ j : Fin 512, f ⟨j.val, by omega⟩ + ∑ j : Fin 512, f ⟨512 + j.val, by omega⟩ :=
  Fin.sum_univ_add (a := 512) (b := 512) f

/-- A sum over 1024 channels by quarters. -/
theorem sum_quarters (f : Row) : ∑ k, f k = ∑ j : Fin 256, f ⟨j.val, by omega⟩ + ∑ j : Fin 256, f ⟨256 + j.val, by omega⟩
    + ∑ j : Fin 256, f ⟨512 + j.val, by omega⟩ + ∑ j : Fin 256, f ⟨768 + j.val, by omega⟩ :=
  (Fin.sum_univ_add (a := 768) (b := 256) f).trans (congrArg (· + _) ((Fin.sum_univ_add (a := 512) (b := 256) _).trans
    (congrArg (· + _) (Fin.sum_univ_add (a := 256) (b := 256) _))))

/-- Rows of a block between the sixteen before it and the sixteen after it. -/
def ext {α : Type} (p : Fin 16 → α) (m : Fin 1024 → α) (n : Fin 16 → α) (e : Fin 1056) : α :=
  if h : e.val < 16 then p ⟨e.val, h⟩ else if h' : e.val - 16 < 1024 then m ⟨e.val - 16, h'⟩ else n ⟨e.val - 16 - 1024, by omega⟩

end Cert.Tail
end
-- ==== Proof.Tail.Read.lean ====
/-
  The values that the body of the tail computes, read at an index over the extended reals.
-/
module

public import proofs.«01_k».proof.Proof.Gen.Kernel2Ideal.Value
public import proofs.«01_k».proof.Proof.Tail.Row
public import Idealize.ShloMosaic.Lib.Pointwise
public import Idealize.ShloMosaic.Lib.Pipeline.Value

@[expose] public section

set_option maxRecDepth 16384

noncomputable section

namespace Cert.Tail

open Cert.Kernel2Ideal Cert.Kernel2Ideal.Gen Idealize.ShloMosaic

/-! ### Loads of a window at an offset -/

theorem ld_wide (x : Vec Ideal S1024x4096 .bf16) (o : ℕ) (h) (a : Fin 1024) (b : Fin 256) :
    View.ld x (Rect.unit (s := S1024x4096) ![0, o] S1024x256.size h) (ix2 a b) = x (ix2 a ⟨o + b.val, by have := h 1; simp at this; omega⟩) := by
  show x ((Rect.unit (s := S1024x4096) _ S1024x256.size h).emb (ix2 a b)) = _
  refine congrArg x (funext fun i => Fin.ext ?_)
  rw [Rect.emb_apply]
  fin_cases i <;> simp [ix2]

theorem ld_half (x : Vec Ideal S1024x1024 .bf16) (o₀ o : ℕ) (h) (a : Fin 512) (b : Fin 256) :
    View.ld x (Rect.unit (s := S1024x1024) ![o₀, o] S512x256.size h) (ix2 a b)
      = x (ix2 ⟨o₀ + a.val, by have := h 0; simp at this; omega⟩ ⟨o + b.val, by have := h 1; simp at this; omega⟩) := by
  show x ((Rect.unit (s := S1024x1024) _ S512x256.size h).emb (ix2 a b)) = _
  refine congrArg x (funext fun i => Fin.ext ?_)
  rw [Rect.emb_apply]
  fin_cases i <;> simp [ix2]

theorem ld_rows (x : Vec Ideal S1024x1024 .bf16) (o : ℕ) (h) (a : Fin 256) (b : Fin 1024) :
    View.ld x (Rect.unit (s := S1024x1024) ![o, 0] S256x1024.size h) (ix2 a b)
      = x (ix2 ⟨o + a.val, by have := h 0; simp at this; omega⟩ b) := by
  show x ((Rect.unit (s := S1024x1024) _ S256x1024.size h).emb (ix2 a b)) = _
  refine congrArg x (funext fun i => Fin.ext ?_)
  rw [Rect.emb_apply]
  fin_cases i <;> simp [ix2]

/-! ### The rows with their neighbours -/

theorem pay2_apply (v0 : Vec Ideal S16x1024 .f32) (v2 : Vec Ideal S1024x1024 .f32) (v4 : Vec Ideal S16x1024 .f32) (e : Fin 1056) (k : Fin 1024) :
    k0_pay2 v0 v2 v4 (ix2 e k) = ext (fun r => v0 (ix2 r k)) (fun r => v2 (ix2 r k)) (fun r => v4 (ix2 r k)) e := by
  pointwise [k0_pay2]
  rfl

theorem pay3_apply (v7 : Vec Ideal S16x1024 .bf16) (v9 : Vec Ideal S1024x1024 .bf16) (v11 : Vec Ideal S16x1024 .bf16) (e : Fin 1056) (k : Fin 1024) :
    k0_pay3 v7 v9 v11 (ix2 e k) = ext (fun r => v7 (ix2 r k)) (fun r => v9 (ix2 r k)) (fun r => v11 (ix2 r k)) e := by
  pointwise [k0_pay3]
  rfl

theorem pay4_apply (v7 : Vec Ideal S16x1024 .bf16) (v9 : Vec Ideal S1024x1024 .bf16) (v11 : Vec Ideal S16x1024 .bf16) (v15 : Vec Ideal S16x512 .f32) (v17 : Vec Ideal S1024x512 .f32) (v19 : Vec Ideal S16x512 .f32) (e : Fin 1056) (j : Fin 512) :
    k0_pay4 v7 v9 v11 v15 v17 v19 (ix2 e j) = ext (fun r => v15 (ix2 r j)) (fun r => v17 (ix2 r j)) (fun r => v19 (ix2 r j)) e
      * ext (fun r => v7 (ix2 r ⟨j.val, by omega⟩)) (fun r => v9 (ix2 r ⟨j.val, by omega⟩)) (fun r => v11 (ix2 r ⟨j.val, by omega⟩)) e := by
  rw [← pay3_apply]
  pointwise [k0_pay4]
  rfl

theorem pay5_apply (v7 : Vec Ideal S16x1024 .bf16) (v9 : Vec Ideal S1024x1024 .bf16) (v11 : Vec Ideal S16x1024 .bf16) (v25 : Vec Ideal S16x512 .bf16) (v27 : Vec Ideal S1024x512 .bf16) (v29 : Vec Ideal S16x512 .bf16) (e : Fin 1056) (j : Fin 512) :
    k0_pay5 v7 v9 v11 v25 v27 v29 (ix2 e j) = ext (fun r => v25 (ix2 r j)) (fun r => v27 (ix2 r j)) (fun r => v29 (ix2 r j)) e
      * ext (fun r => v7 (ix2 r ⟨512 + j.val, by omega⟩)) (fun r => v9 (ix2 r ⟨512 + j.val, by omega⟩)) (fun r => v11 (ix2 r ⟨512 + j.val, by omega⟩)) e := by
  rw [← pay3_apply]
  pointwise [k0_pay5]
  rfl

/-! ### The first residual by quarters -/

section First

variable {v6 : FVec Ideal S1056x1024 .f32} {v24 : FVec Ideal S1056x512 .bf16} {v34 : FVec Ideal S1056x512 .f32} {v36 : Vec Ideal S1x1x1024 .f32}
  {v38 v41 : Vec Ideal S512x256 .bf16} {X Y g : Row} {W : Fin 1024 → Row} {e : Fin 1056}
  (hX : ∀ k, v6 (ix2 e k) = X k) (hY : ∀ j : Fin 512, v24 (ix2 e j) = Y ⟨j.val, by omega⟩) (hY' : ∀ j : Fin 512, v34 (ix2 e j) = Y ⟨512 + j.val, by omega⟩)
  (hg : ∀ k, v36 (ix3 0 0 k) = g k)

include hX hY hY' hg

theorem pay8_val (d : Fin 256) (h : ∀ j : Fin 512, v38 (ix2 j d) = W ⟨j.val, by omega⟩ ⟨d.val, by omega⟩) (h' : ∀ j : Fin 512, v41 (ix2 j d) = W ⟨512 + j.val, by omega⟩ ⟨d.val, by omega⟩) :
    k0_pay8 v6 v24 v34 v36 v38 v41 (ix2 e d) = resid X Y g W ⟨d.val, by omega⟩ := by
  pointwise [k0_pay8, k0_pay6, k0_pay7]
  simp only [hX, hY, hY', hg, h, h']
  rw [resid, sum_halves]

theorem pay9_val (d : Fin 256) (h : ∀ j : Fin 512, v38 (ix2 j d) = W ⟨j.val, by omega⟩ ⟨256 + d.val, by omega⟩) (h' : ∀ j : Fin 512, v41 (ix2 j d) = W ⟨512 + j.val, by omega⟩ ⟨256 + d.val, by omega⟩) :
    k0_pay9 v6 v24 v34 v36 v38 v41 (ix2 e d) = resid X Y g W ⟨256 + d.val, by omega⟩ := by
  pointwise [k0_pay9, k0_pay6, k0_pay7]
  simp only [hX, hY, hY', hg, h, h']
  rw [resid, sum_halves]

theorem pay12_val (d : Fin 256) (h : ∀ j : Fin 512, v38 (ix2 j d) = W ⟨j.val, by omega⟩ ⟨512 + d.val, by omega⟩) (h' : ∀ j : Fin 512, v41 (ix2 j d) = W ⟨512 + j.val, by omega⟩ ⟨512 + d.val, by omega⟩) :
    k0_pay12 v6 (k0_pay6 v34) (k0_pay7 v36) (k0_pay11 v24 v38) v41 (ix2 e d) = resid X Y g W ⟨512 + d.val, by omega⟩ := by
  pointwise [k0_pay12, k0_pay11, k0_pay6, k0_pay7]
  simp only [hX, hY, hY', hg, h, h']
  rw [resid, sum_halves]

theorem pay13_val (d : Fin 256) (h : ∀ j : Fin 512, v38 (ix2 j d) = W ⟨j.val, by omega⟩ ⟨768 + d.val, by omega⟩) (h' : ∀ j : Fin 512, v41 (ix2 j d) = W ⟨512 + j.val, by omega⟩ ⟨768 + d.val, by omega⟩) :
    k0_pay13 v6 v24 (k0_pay6 v34) (k0_pay7 v36) v38 v41 (ix2 e d) = resid X Y g W ⟨768 + d.val, by omega⟩ := by
  pointwise [k0_pay13, k0_pay6, k0_pay7]
  simp only [hX, hY, hY', hg, h, h']
  rw [resid, sum_halves]

end First

/-- The four quarters side by side. -/
theorem pay14_val {v6 : FVec Ideal S1056x1024 .f32} {v24 v35 : FVec Ideal S1056x512 .bf16} {v37 : FVec Ideal S1x1024 .f32} {v49 v64 v71 : FVec Ideal S1056x256 .f32}
    {v72 v85 v88 : Vec Ideal S512x256 .bf16} {R : Row} {e : Fin 1056}
    (h0 : ∀ d : Fin 256, v49 (ix2 e d) = R ⟨d.val, by omega⟩) (h1 : ∀ d : Fin 256, v64 (ix2 e d) = R ⟨256 + d.val, by omega⟩)
    (h2 : ∀ d : Fin 256, k0_pay12 v6 v35 v37 v71 v72 (ix2 e d) = R ⟨512 + d.val, by omega⟩)
    (h3 : ∀ d : Fin 256, k0_pay13 v6 v24 v35 v37 v85 v88 (ix2 e d) = R ⟨768 + d.val, by omega⟩) (k : Fin 1024) :
    k0_pay14 v6 v24 v35 v37 v49 v64 v71 v72 v85 v88 (ix2 e k) = R k := by
  pointwise [k0_pay14]
  simp only [h0, h1, h2, h3]
  by_cases c0 : k.val < 256
  · simp only [dif_pos c0]
  · by_cases c1 : k.val - 256 < 256
    · simp only [dif_neg c0, dif_pos c1]
      exact congrArg R (Fin.ext (show 256 + (k.val - 256) = k.val by omega))
    · by_cases c2 : k.val - 256 - 256 < 256
      · simp only [dif_neg c0, dif_neg c1, dif_pos c2]
        exact congrArg R (Fin.ext (show 512 + (k.val - 256 - 256) = k.val by omega))
      · simp only [dif_neg c0, dif_neg c1, dif_neg c2]
        exact congrArg R (Fin.ext (show 768 + (k.val - 256 - 256 - 256) = k.val by omega))

theorem pay10_apply (v6 : FVec Ideal S1056x1024 .f32) (v24 : FVec Ideal S1056x512 .bf16) (v34 : FVec Ideal S1056x512 .f32) (v36 : Vec Ideal S1x1x1024 .f32)
    (v38 v41 v53 v56 : Vec Ideal S512x256 .bf16) (e : Fin 1056) :
    k0_pay10 v6 v24 v34 v36 v38 v41 v53 v56 (ix2 e 0)
      = (∑ d : Fin 256, k0_pay8 v6 v24 v34 v36 v38 v41 (ix2 e d) * k0_pay8 v6 v24 v34 v36 v38 v41 (ix2 e d))
        + ∑ d : Fin 256, k0_pay9 v6 v24 v34 v36 v53 v56 (ix2 e d) * k0_pay9 v6 v24 v34 v36 v53 v56 (ix2 e d) := by
  pointwise [k0_pay10]

theorem pay15_apply (v6 : FVec Ideal S1056x1024 .f32) (v24 v35 : FVec Ideal S1056x512 .bf16) (v37 : FVec Ideal S1x1024 .f32) (v49 v64 : FVec Ideal S1056x256 .f32) (v68 : FVec Ideal S1056x1 .f32) (v71 : FVec Ideal S1056x256 .f32) (v72 v85 v88 : Vec Ideal S512x256 .bf16) (v109 : Vec Ideal S1x1024 .f32) (e : Fin 1056) (k : Fin 1024) :
    k0_pay15 v6 v24 v35 v37 v49 v64 v68 v71 v72 v85 v88 v109 (ix2 e k)
      = k0_pay14 v6 v24 v35 v37 v49 v64 v71 v72 v85 v88 (ix2 e k)
        * Ideal.rsqrt ((v68 (ix2 e 0) + (∑ x, k0_pay12 v6 v35 v37 v71 v72 (ix2 e x) * k0_pay12 v6 v35 v37 v71 v72 (ix2 e x))
            + ∑ x, k0_pay13 v6 v24 v35 v37 v85 v88 (ix2 e x) * k0_pay13 v6 v24 v35 v37 v85 v88 (ix2 e x)) * Ideal.ofBits .f32 0x3A800000#32 + Ideal.ofBits .f32 0x358637BD#32)
        * v109 (ix2 0 k) := by
  pointwise [k0_pay15]

theorem pay18_apply (v112 : FVec Ideal S1056x1024 .f32) (v113 v119 : Vec Ideal S1x1x1024 .f32) (e : Fin 1056) (k : Fin 1024) :
    k0_pay18 v112 (k0_pay16 v113) (k0_pay17 (F := Ideal)) v119 (ix2 e k) = v112 (ix2 e k) * (1 + v113 (ix3 0 0 k)) + v119 (ix3 0 0 k) := by
  pointwise [k0_pay18, k0_pay16, k0_pay17]

/-! ### Which rows lie in the sequence -/

/-- Row `e` of point `t`'s extended block is a row of the same sequence. -/
abbrev inSeq (t : Fin 32) (e : Fin 1056) : Prop := (t.val % 8 = 0 → 16 ≤ e.val) ∧ (t.val % 8 = 7 → e.val < 1040)

theorem pay19_apply (t : Fin 32) (e : Fin 1056) (k : Fin 256) :
    k0_pay19 (BitVec.ofNat 32 t.val) (ix2 e k) = if inSeq t e then 1#1 else 0#1 := by
  pointwise [k0_pay19]
  have lo : ∀ t : Fin 32, Scalar.select (Scalar.cmpi CmpIPredicate.eq (Scalar.select (Scalar.andi (Scalar.xori
      (Scalar.cmpi CmpIPredicate.slt (Scalar.remsi (BitVec.ofNat 32 t.val) (Scalar.select (Scalar.cmpi CmpIPredicate.eq 8#32 0#32) 1#32 8#32)) 0#32)
      (Scalar.cmpi CmpIPredicate.slt (Scalar.select (Scalar.cmpi CmpIPredicate.eq 8#32 0#32) 1#32 8#32) 0#32))
      (Scalar.cmpi CmpIPredicate.ne (Scalar.remsi (BitVec.ofNat 32 t.val) (Scalar.select (Scalar.cmpi CmpIPredicate.eq 8#32 0#32) 1#32 8#32)) 0#32))
      (Scalar.addi (Scalar.remsi (BitVec.ofNat 32 t.val) (Scalar.select (Scalar.cmpi CmpIPredicate.eq 8#32 0#32) 1#32 8#32))
        (Scalar.select (Scalar.cmpi CmpIPredicate.eq 8#32 0#32) 1#32 8#32))
      (Scalar.remsi (BitVec.ofNat 32 t.val) (Scalar.select (Scalar.cmpi CmpIPredicate.eq 8#32 0#32) 1#32 8#32))) 0#32) 16#32 0#32
      = if t.val % 8 = 0 then 16#32 else 0#32 := by decide
  have hi : ∀ t : Fin 32, Scalar.select (Scalar.cmpi CmpIPredicate.eq (Scalar.select (Scalar.andi (Scalar.xori
      (Scalar.cmpi CmpIPredicate.slt (Scalar.remsi (BitVec.ofNat 32 t.val) (Scalar.select (Scalar.cmpi CmpIPredicate.eq 8#32 0#32) 1#32 8#32)) 0#32)
      (Scalar.cmpi CmpIPredicate.slt (Scalar.select (Scalar.cmpi CmpIPredicate.eq 8#32 0#32) 1#32 8#32) 0#32))
      (Scalar.cmpi CmpIPredicate.ne (Scalar.remsi (BitVec.ofNat 32 t.val) (Scalar.select (Scalar.cmpi CmpIPredicate.eq 8#32 0#32) 1#32 8#32)) 0#32))
      (Scalar.addi (Scalar.remsi (BitVec.ofNat 32 t.val) (Scalar.select (Scalar.cmpi CmpIPredicate.eq 8#32 0#32) 1#32 8#32))
        (Scalar.select (Scalar.cmpi CmpIPredicate.eq 8#32 0#32) 1#32 8#32))
      (Scalar.remsi (BitVec.ofNat 32 t.val) (Scalar.select (Scalar.cmpi CmpIPredicate.eq 8#32 0#32) 1#32 8#32))) 7#32) 1040#32 1056#32
      = if t.val % 8 = 7 then 1040#32 else 1056#32 := by decide
  have cl : ∀ e : Fin 1056, IntOp.cmpi CmpIPredicate.sge (BitVec.ofNat 32 e.val) 16#32 = if 16 ≤ e.val then 1#1 else 0#1 := by decide +kernel
  have cl' : ∀ e : Fin 1056, IntOp.cmpi CmpIPredicate.sge (BitVec.ofNat 32 e.val) 0#32 = 1#1 := by decide +kernel
  have ch : ∀ e : Fin 1056, IntOp.cmpi CmpIPredicate.slt (BitVec.ofNat 32 e.val) 1040#32 = if e.val < 1040 then 1#1 else 0#1 := by decide +kernel
  have ch' : ∀ e : Fin 1056, IntOp.cmpi CmpIPredicate.slt (BitVec.ofNat 32 e.val) 1056#32 = 1#1 := by decide +kernel
  rw [lo, hi]
  by_cases h0 : t.val % 8 = 0
  · have h7 : ¬ t.val % 8 = 7 := by omega
    rw [if_pos h0, if_neg h7, cl, ch']
    by_cases he : 16 ≤ e.val
    · rw [if_pos he, if_pos ⟨fun _ => he, fun h => absurd h h7⟩]; rfl
    · rw [if_neg he, if_neg fun h => he (h.1 h0)]; rfl
  · by_cases h7 : t.val % 8 = 7
    · rw [if_neg h0, if_pos h7, cl', ch]
      by_cases he : e.val < 1040
      · rw [if_pos he, if_pos ⟨fun h => absurd h h0, fun _ => he⟩]; rfl
      · rw [if_neg he, if_neg fun h => he (h.2 h7)]; rfl
    · rw [if_neg h0, if_neg h7, cl', ch', if_pos ⟨fun h => absurd h h0, fun h => absurd h h7⟩]; rfl

end Cert.Tail
end
-- ==== Proof.Tail.Conv.lean ====
/-
  The gated convolution of a block, by quarters of its channels.
-/
module

public import proofs.«01_k».proof.Proof.Tail.Read

@[expose] public section

set_option maxRecDepth 16384

noncomputable section

namespace Cert.Tail

open Cert.Kernel2Ideal Cert.Kernel2Ideal.Gen Idealize.ShloMosaic

theorem select_ite (p : Prop) [Decidable p] (a b : EReal) : Scalar.select (if p then 1#1 else 0#1) a b = if p then a else b := by
  by_cases h : p
  · rw [if_pos h, if_pos h]; rfl
  · rw [if_neg h, if_neg h]; rfl

section Conv

variable {v123 : FVec Ideal S1056x1024 .bf16} {v153 : IVec S1056x256 1} {v154 : Vec Ideal S3x1024 .f32} {v157 v160 v182 v185 v273 : Vec Ideal S1024x256 .bf16}
  {v199 : Vec Ideal S256x1024 .bf16} {t : Fin 32} {H : Fin 1056 → Row} {w : Fin 1024 → Fin 4096 → EReal} {cw : Fin 3 → Row} {Wo : Fin 1024 → Row}
  (hH : ∀ e k, v123 (ix2 e k) = H e k) (hm : ∀ e d, v153 (ix2 e d) = if inSeq t e then 1#1 else 0#1) (hc : ∀ q k, v154 (ix2 q k) = cw q k)

include hH hm hc

theorem conv0 (hB : ∀ x d, v157 (ix2 x d) = w x ⟨1024 * (1 : Fin 4).val + d.val, by omega⟩) (hC : ∀ x d, v160 (ix2 x d) = w x ⟨1024 * (2 : Fin 4).val + d.val, by omega⟩) (hA : ∀ x d, v182 (ix2 x d) = w x ⟨1024 * (0 : Fin 4).val + d.val, by omega⟩) (r : Fin 1024) (d : Fin 256) :
    k0_pay23 v123 v153 v154 v157 v160 v182 (ix2 r d) = part (H ⟨16 + r.val, by omega⟩) w 0 ⟨d.val, by omega⟩ * taps cw (keep (inSeq t ⟨15 + r.val, by omega⟩) (lag (H ⟨15 + r.val, by omega⟩) w)) (keep (inSeq t ⟨16 + r.val, by omega⟩) (lag (H ⟨16 + r.val, by omega⟩) w)) (keep (inSeq t ⟨17 + r.val, by omega⟩) (lag (H ⟨17 + r.val, by omega⟩) w)) ⟨d.val, by omega⟩ := by
  have e₁ : (16 + r.val + 1056 - 1) % 1056 = 15 + r.val := by omega
  have e₂ : (16 + r.val + 1056 - 1055) % 1056 = 17 + r.val := by omega
  pointwise [k0_pay23, k0_pay20, k0_pay21]
  simp only [e₁, e₂, hH, hm, hc, hB, hC, hA, select_ite]
  simp only [taps, keep, lag, part, mul_ite, mul_zero]

theorem conv1 (hB : ∀ x d, v157 (ix2 x d) = w x ⟨1024 * (1 : Fin 4).val + (256 + d.val), by omega⟩) (hC : ∀ x d, v160 (ix2 x d) = w x ⟨1024 * (2 : Fin 4).val + (256 + d.val), by omega⟩) (hA : ∀ x d, v182 (ix2 x d) = w x ⟨1024 * (0 : Fin 4).val + (256 + d.val), by omega⟩) (r : Fin 1024) (d : Fin 256) :
    k0_pay28 v123 v153 (k0_pay20 v154) (k0_pay21 v123) v157 v160 v182 (ix2 r d) = part (H ⟨16 + r.val, by omega⟩) w 0 ⟨256 + d.val, by omega⟩ * taps cw (keep (inSeq t ⟨15 + r.val, by omega⟩) (lag (H ⟨15 + r.val, by omega⟩) w)) (keep (inSeq t ⟨16 + r.val, by omega⟩) (lag (H ⟨16 + r.val, by omega⟩) w)) (keep (inSeq t ⟨17 + r.val, by omega⟩) (lag (H ⟨17 + r.val, by omega⟩) w)) ⟨256 + d.val, by omega⟩ := by
  have e₁ : (16 + r.val + 1056 - 1) % 1056 = 15 + r.val := by omega
  have e₂ : (16 + r.val + 1056 - 1055) % 1056 = 17 + r.val := by omega
  pointwise [k0_pay28, k0_pay20, k0_pay21]
  simp only [e₁, e₂, hH, hm, hc, hB, hC, hA, select_ite]
  simp only [taps, keep, lag, part, mul_ite, mul_zero]

theorem conv2 (hB : ∀ x d, v157 (ix2 x d) = w x ⟨1024 * (1 : Fin 4).val + (512 + d.val), by omega⟩) (hC : ∀ x d, v160 (ix2 x d) = w x ⟨1024 * (2 : Fin 4).val + (512 + d.val), by omega⟩) (r : Fin 1024) (d : Fin 256) :
    k0_pay31 v123 v153 (k0_pay20 v154) v157 v160 (ix2 r d) = taps cw (keep (inSeq t ⟨15 + r.val, by omega⟩) (lag (H ⟨15 + r.val, by omega⟩) w)) (keep (inSeq t ⟨16 + r.val, by omega⟩) (lag (H ⟨16 + r.val, by omega⟩) w)) (keep (inSeq t ⟨17 + r.val, by omega⟩) (lag (H ⟨17 + r.val, by omega⟩) w)) ⟨512 + d.val, by omega⟩ := by
  have e₁ : (16 + r.val + 1056 - 1) % 1056 = 15 + r.val := by omega
  have e₂ : (16 + r.val + 1056 - 1055) % 1056 = 17 + r.val := by omega
  pointwise [k0_pay31, k0_pay20, k0_pay21]
  simp only [e₁, e₂, hH, hm, hc, hB, hC, select_ite]
  simp only [taps, keep, lag, part, mul_ite, mul_zero]

theorem conv3 (hB : ∀ x d, v157 (ix2 x d) = w x ⟨1024 * (1 : Fin 4).val + (768 + d.val), by omega⟩) (hC : ∀ x d, v160 (ix2 x d) = w x ⟨1024 * (2 : Fin 4).val + (768 + d.val), by omega⟩) (r : Fin 1024) (d : Fin 256) :
    k0_pay34 v123 v153 (k0_pay20 v154) v157 v160 (ix2 r d) = taps cw (keep (inSeq t ⟨15 + r.val, by omega⟩) (lag (H ⟨15 + r.val, by omega⟩) w)) (keep (inSeq t ⟨16 + r.val, by omega⟩) (lag (H ⟨16 + r.val, by omega⟩) w)) (keep (inSeq t ⟨17 + r.val, by omega⟩) (lag (H ⟨17 + r.val, by omega⟩) w)) ⟨768 + d.val, by omega⟩ := by
  have e₁ : (16 + r.val + 1056 - 1) % 1056 = 15 + r.val := by omega
  have e₂ : (16 + r.val + 1056 - 1055) % 1056 = 17 + r.val := by omega
  pointwise [k0_pay34, k0_pay20, k0_pay21]
  simp only [e₁, e₂, hH, hm, hc, hB, hC, select_ite]
  simp only [taps, keep, lag, part, mul_ite, mul_zero]

end Conv

section Out

variable {v123 : FVec Ideal S1056x1024 .bf16} {v101 : FVec Ideal S1056x1024 .f32} {v201 : FVec Ideal S1024x1024 .f32} {q : FVec Ideal S1024x256 .f32} {v185 v273 : Vec Ideal S1024x256 .bf16}
  {v199 : Vec Ideal S256x1024 .bf16} {v341 : Vec Ideal S1x1x1024 .f32} {H : Fin 1056 → Row} {w : Fin 1024 → Fin 4096 → EReal} {T : Row} {Wo : Fin 1024 → Row}
  (r : Fin 1024) (k : Fin 1024) (hH : ∀ e k, v123 (ix2 e k) = H e k)

include hH

theorem out0 (hq : ∀ d, q (ix2 r d) = part (H ⟨16 + r.val, by omega⟩) w 0 ⟨d.val, by omega⟩ * T ⟨d.val, by omega⟩)
    (hD : ∀ x d, v185 (ix2 x d) = w x ⟨1024 * (3 : Fin 4).val + d.val, by omega⟩) (hW : ∀ d, v199 (ix2 d k) = Wo ⟨d.val, by omega⟩ k) :
    k0_pay26 (k0_pay22 v123 v185) q (k0_pay24 v123 v185) (k0_pay25 (F := Ideal)) v199 (ix2 r k)
      = ∑ d : Fin 256, zed (H ⟨16 + r.val, by omega⟩) w T ⟨d.val, by omega⟩ * Wo ⟨d.val, by omega⟩ k := by
  pointwise [k0_pay26, k0_pay22, k0_pay24, k0_pay25, k0_pay21]
  simp only [hH, hq, hD, hW]
  rfl

theorem out1 (hq : ∀ d, q (ix2 r d) = part (H ⟨16 + r.val, by omega⟩) w 0 ⟨256 + d.val, by omega⟩ * T ⟨256 + d.val, by omega⟩)
    (hD : ∀ x d, v185 (ix2 x d) = w x ⟨1024 * (3 : Fin 4).val + (256 + d.val), by omega⟩) (hW : ∀ d, v199 (ix2 d k) = Wo ⟨256 + d.val, by omega⟩ k) :
    k0_pay30 v201 (k0_pay27 (k0_pay21 v123) v185) q (k0_pay29 (k0_pay21 v123) v185) v199 (ix2 r k)
      = v201 (ix2 r k) + ∑ d : Fin 256, zed (H ⟨16 + r.val, by omega⟩) w T ⟨256 + d.val, by omega⟩ * Wo ⟨256 + d.val, by omega⟩ k := by
  pointwise [k0_pay30, k0_pay27, k0_pay29, k0_pay21]
  simp only [hH, hq, hD, hW]
  rfl

theorem out2 (hq : ∀ d, q (ix2 r d) = T ⟨512 + d.val, by omega⟩) (hA : ∀ x d, v273 (ix2 x d) = w x ⟨1024 * (0 : Fin 4).val + (512 + d.val), by omega⟩)
    (hD : ∀ x d, v185 (ix2 x d) = w x ⟨1024 * (3 : Fin 4).val + (512 + d.val), by omega⟩) (hW : ∀ d, v199 (ix2 d k) = Wo ⟨512 + d.val, by omega⟩ k) :
    k0_pay33 (k0_pay21 v123) v201 q (k0_pay32 (k0_pay21 v123) v273) v185 v199 (ix2 r k)
      = v201 (ix2 r k) + ∑ d : Fin 256, zed (H ⟨16 + r.val, by omega⟩) w T ⟨512 + d.val, by omega⟩ * Wo ⟨512 + d.val, by omega⟩ k := by
  pointwise [k0_pay33, k0_pay32, k0_pay21]
  simp only [hH, hq, hA, hD, hW]
  rfl

theorem out3 (hq : ∀ d, q (ix2 r d) = T ⟨768 + d.val, by omega⟩) (hA : ∀ x d, v273 (ix2 x d) = w x ⟨1024 * (0 : Fin 4).val + (768 + d.val), by omega⟩)
    (hD : ∀ x d, v185 (ix2 x d) = w x ⟨1024 * (3 : Fin 4).val + (768 + d.val), by omega⟩) (hW : ∀ d, v199 (ix2 d k) = Wo ⟨768 + d.val, by omega⟩ k) :
    k0_pay1 v101 (k0_pay21 v123) v201 q v273 v185 v199 v341 (ix2 r k)
      = v101 (ix2 ⟨16 + r.val, by omega⟩ k) + v341 (ix3 0 0 k) * (v201 (ix2 r k)
          + ∑ d : Fin 256, zed (H ⟨16 + r.val, by omega⟩) w T ⟨768 + d.val, by omega⟩ * Wo ⟨768 + d.val, by omega⟩ k) := by
  pointwise [k0_pay1, k0_pay21]
  simp only [hH, hq, hA, hD, hW]
  rfl

end Out

end Cert.Tail
end
-- ==== Proof.Tail.Block.lean ====
/-
  The block that the body of the tail writes, row by row.
-/
module

public import proofs.«01_k».proof.Proof.Tail.Conv

@[expose] public section

set_option maxRecDepth 16384

noncomputable section

namespace Cert.Tail

open Cert.Kernel2Ideal Cert.Kernel2Ideal.Gen Idealize.ShloMosaic

section Block

variable (i : grid0.Coords) (t : Fin 32) (x0 : Vec Ideal S16x1024 .f32) (x1 : Vec Ideal S1024x1024 .f32) (x2 : Vec Ideal S16x1024 .f32) (x3 : Vec Ideal S16x512 .f32) (x4 : Vec Ideal S1024x512 .f32) (x5 : Vec Ideal S16x512 .f32) (x6 : Vec Ideal S16x512 .bf16) (x7 : Vec Ideal S1024x512 .bf16) (x8 : Vec Ideal S16x512 .bf16) (x9 : Vec Ideal S16x1024 .bf16) (x10 : Vec Ideal S1024x1024 .bf16) (x11 : Vec Ideal S16x1024 .bf16) (x12 : Vec Ideal S1x1x1024 .f32) (x13 : Vec Ideal S1024x1024 .bf16) (x14 : Vec Ideal S1x1024 .f32) (x15 : Vec Ideal S1x1x1024 .f32) (x16 : Vec Ideal S1x1x1024 .f32) (x17 : Vec Ideal S1024x4096 .bf16) (x18 : Vec Ideal S3x1024 .f32) (x19 : Vec Ideal S1x1x1024 .f32) (x20 : Vec Ideal S1024x1024 .bf16)

/-- The rows of the first operand with their neighbours. -/
def bX (e : Fin 1056) : Row := fun k => ext (fun r => x0 (ix2 r k)) (fun r => x1 (ix2 r k)) (fun r => x2 (ix2 r k)) e

/-- The gated rows with their neighbours. -/
def bY (e : Fin 1056) : Row := mixIn (fun j => ext (fun r => x3 (ix2 r j)) (fun r => x4 (ix2 r j)) (fun r => x5 (ix2 r j)) e)
  (fun j => ext (fun r => x6 (ix2 r j)) (fun r => x7 (ix2 r j)) (fun r => x8 (ix2 r j)) e)
  (fun k => ext (fun r => x9 (ix2 r k)) (fun r => x10 (ix2 r k)) (fun r => x11 (ix2 r k)) e)

/-- The rows after the first residual. -/
def bR (e : Fin 1056) : Row := resid (bX x0 x1 x2 e) (bY x3 x4 x5 x6 x7 x8 x9 x10 x11 e) (fun k => x12 (ix3 0 0 k)) (fun k d => x13 (ix2 k d))

/-- The rows after the norm. -/
def bH (e : Fin 1056) : Row := normed (bR x0 x1 x2 x3 x4 x5 x6 x7 x8 x9 x10 x11 x12 x13 e) (fun k => x14 (ix2 0 k)) (fun k => x16 (ix3 0 0 k)) (fun k => x15 (ix3 0 0 k))

theorem out_val (hi : (i 0).val = t.val) (r k : Fin 1024) :
    out0_21 i x0 x1 x2 x3 x4 x5 x6 x7 x8 x9 x10 x11 x12 x13 x14 x15 x16 x17 x18 x19 x20 (ix2 r k)
      = resid (bR x0 x1 x2 x3 x4 x5 x6 x7 x8 x9 x10 x11 x12 x13 ⟨16 + r.val, by omega⟩)
          (zed (bH x0 x1 x2 x3 x4 x5 x6 x7 x8 x9 x10 x11 x12 x13 x14 x15 x16 ⟨16 + r.val, by omega⟩) (fun k d => x17 (ix2 k d))
            (taps (fun q k => x18 (ix2 q k))
              (keep (inSeq t ⟨15 + r.val, by omega⟩) (lag (bH x0 x1 x2 x3 x4 x5 x6 x7 x8 x9 x10 x11 x12 x13 x14 x15 x16 ⟨15 + r.val, by omega⟩) (fun k d => x17 (ix2 k d))))
              (keep (inSeq t ⟨16 + r.val, by omega⟩) (lag (bH x0 x1 x2 x3 x4 x5 x6 x7 x8 x9 x10 x11 x12 x13 x14 x15 x16 ⟨16 + r.val, by omega⟩) (fun k d => x17 (ix2 k d))))
              (keep (inSeq t ⟨17 + r.val, by omega⟩) (lag (bH x0 x1 x2 x3 x4 x5 x6 x7 x8 x9 x10 x11 x12 x13 x14 x15 x16 ⟨17 + r.val, by omega⟩) (fun k d => x17 (ix2 k d))))))
          (fun k => x19 (ix3 0 0 k)) (fun k d => x20 (ix2 k d)) k := by
  have hz2 : (![0, 0] : Fin 2 → ℕ) = fun _ => 0 := by decide
  have hz3 : (![0, 0, 0] : Fin 3 → ℕ) = fun _ => 0 := by decide
  unfold_out out0_21
  rw [View.canon_cons_unit_zero (S := S1024x1024) (by decide)]
  simp only [View.ld_unit_zero (S := S16x1024) hz2, View.ld_unit_zero (S := S1024x1024) hz2, View.ld_unit_zero (S := S16x512) hz2, View.ld_unit_zero (S := S1024x512) hz2,
    View.ld_unit_zero (S := S1x1x1024) hz3, View.ld_unit_zero (S := S1x1024) hz2, View.ld_unit_zero (S := S3x1024) hz2]
  generalize hP35 : k0_pay2 x0 x1 x2 = P35
  generalize hP36 : k0_pay4 x9 x10 x11 x3 x4 x5 = P36
  generalize hP37 : k0_pay5 x9 x10 x11 x6 x7 x8 = P37
  have hX : ∀ e k, P35 (ix2 e k) = bX x0 x1 x2 e k := fun e k => by rw [← hP35, pay2_apply]; rfl
  have hY : ∀ e (j : Fin 512), P36 (ix2 e j) = bY x3 x4 x5 x6 x7 x8 x9 x10 x11 e ⟨j.val, by omega⟩ := fun e j => by
    rw [← hP36, pay4_apply, bY, mixIn, dif_pos j.isLt]
  have hY' : ∀ e (j : Fin 512), P37 (ix2 e j) = bY x3 x4 x5 x6 x7 x8 x9 x10 x11 e ⟨512 + j.val, by omega⟩ := fun e j => by
    rw [← hP37, pay5_apply, bY, mixIn, dif_neg (show ¬ 512 + j.val < 512 by omega)]
    simp only [Nat.add_sub_cancel_left]
  have hW : ∀ (a b : ℕ) (h) (j : Fin 512) (d : Fin 256) (p q : Fin 1024), a + j.val = p.val → b + d.val = q.val →
      View.ld x13 (Rect.unit (s := S1024x1024) ![a, b] S512x256.size h) (ix2 j d) = x13 (ix2 p q) := fun a b h j d p q hp hq => by
    rw [ld_half]
    congr 2 <;> exact Fin.ext (by assumption)
  have hw : ∀ (b : ℕ) (h) (x : Fin 1024) (d : Fin 256) (q : Fin 4096), b + d.val = q.val →
      View.ld x17 (Rect.unit (s := S1024x4096) ![0, b] S1024x256.size h) (ix2 x d) = x17 (ix2 x q) := fun b h x d q hq => by
    rw [ld_wide]
    congr 2; exact Fin.ext hq
  have hV : ∀ (a : ℕ) (h) (d : Fin 256) (k p : Fin 1024), a + d.val = p.val →
      View.ld x20 (Rect.unit (s := S1024x1024) ![a, 0] S256x1024.size h) (ix2 d k) = x20 (ix2 p k) := fun a h d k p hp => by
    rw [ld_rows]
    congr 2; exact Fin.ext hp
  have q0 := fun e (d : Fin 256) => pay8_val (W := fun k d => x13 (ix2 k d)) (g := fun k => x12 (ix3 0 0 k)) (hX e) (hY e) (hY' e) (fun _ => rfl) d
    (v38 := View.ld x13 r0_5) (v41 := View.ld x13 r0_6) (fun j => hW _ _ _ _ _ _ _ (by simp) (by simp)) (fun j => hW _ _ _ _ _ _ _ (by simp) (by simp))
  have q1 := fun e (d : Fin 256) => pay9_val (W := fun k d => x13 (ix2 k d)) (g := fun k => x12 (ix3 0 0 k)) (hX e) (hY e) (hY' e) (fun _ => rfl) d
    (v38 := View.ld x13 r0_7) (v41 := View.ld x13 r0_8) (fun j => hW _ _ _ _ _ _ _ (by simp) (by simp)) (fun j => hW _ _ _ _ _ _ _ (by simp) (by simp))
  have q2 := fun e (d : Fin 256) => pay12_val (W := fun k d => x13 (ix2 k d)) (g := fun k => x12 (ix3 0 0 k)) (hX e) (hY e) (hY' e) (fun _ => rfl) d
    (v38 := View.ld x13 r0_9) (v41 := View.ld x13 r0_10) (fun j => hW _ _ _ _ _ _ _ (by simp) (by simp)) (fun j => hW _ _ _ _ _ _ _ (by simp) (by simp))
  have q3 := fun e (d : Fin 256) => pay13_val (W := fun k d => x13 (ix2 k d)) (g := fun k => x12 (ix3 0 0 k)) (hX e) (hY e) (hY' e) (fun _ => rfl) d
    (v38 := View.ld x13 r0_11) (v41 := View.ld x13 r0_12) (fun j => hW _ _ _ _ _ _ _ (by simp) (by simp)) (fun j => hW _ _ _ _ _ _ _ (by simp) (by simp))
  have hR := fun e (k : Fin 1024) => pay14_val (R := bR x0 x1 x2 x3 x4 x5 x6 x7 x8 x9 x10 x11 x12 x13 e) (q0 e) (q1 e) (q2 e) (q3 e) k
  generalize hP43 : k0_pay18 (F := Ideal) _ _ _ _ = P43
  have hH : ∀ e k, P43 (ix2 e k) = bH x0 x1 x2 x3 x4 x5 x6 x7 x8 x9 x10 x11 x12 x13 x14 x15 x16 e k := fun e k => by
    rw [← hP43, pay18_apply, pay15_apply, hR, pay10_apply]
    simp only [q0, q1, q2, q3]
    rw [bH, normed, sum_quarters]
    rfl
  rw [show BitVec.ofNat 32 (i 0).val = BitVec.ofNat 32 t.val from congrArg _ hi]
  have hm := pay19_apply t
  rw [out3 (w := fun k d => x17 (ix2 k d)) (Wo := fun k d => x20 (ix2 k d)) r k hH
    (fun d => conv3 (w := fun k d => x17 (ix2 k d)) hH hm (fun q k => rfl) (fun x d => hw _ _ _ _ _ (by simp; omega)) (fun x d => hw _ _ _ _ _ (by simp; omega)) r d)
    (fun x d => hw _ _ _ _ _ (by simp)) (fun x d => hw _ _ _ _ _ (by simp; omega)) (fun d => hV _ _ _ _ _ (by simp))]
  rw [out2 (w := fun k d => x17 (ix2 k d)) (Wo := fun k d => x20 (ix2 k d)) r k hH
    (fun d => conv2 (w := fun k d => x17 (ix2 k d)) hH hm (fun q k => rfl) (fun x d => hw _ _ _ _ _ (by simp; omega)) (fun x d => hw _ _ _ _ _ (by simp; omega)) r d)
    (fun x d => hw _ _ _ _ _ (by simp)) (fun x d => hw _ _ _ _ _ (by simp; omega)) (fun d => hV _ _ _ _ _ (by simp))]
  rw [out1 (w := fun k d => x17 (ix2 k d)) (Wo := fun k d => x20 (ix2 k d)) r k hH
    (fun d => conv1 (w := fun k d => x17 (ix2 k d)) hH hm (fun q k => rfl) (fun x d => hw _ _ _ _ _ (by simp; omega)) (fun x d => hw _ _ _ _ _ (by simp; omega)) (fun x d => hw _ _ _ _ _ (by simp)) r d)
    (fun x d => hw _ _ _ _ _ (by simp; omega)) (fun d => hV _ _ _ _ _ (by simp))]
  rw [out0 (w := fun k d => x17 (ix2 k d)) (Wo := fun k d => x20 (ix2 k d)) r k hH
    (fun d => conv0 (w := fun k d => x17 (ix2 k d)) hH hm (fun q k => rfl) (fun x d => hw _ _ _ _ _ (by simp)) (fun x d => hw _ _ _ _ _ (by simp)) (fun x d => hw _ _ _ _ _ (by simp)) r d)
    (fun x d => hw _ _ _ _ _ (by simp)) (fun d => hV _ _ _ _ _ (by simp))]
  rw [hR]
  show _ = resid _ _ _ _ _
  rw [resid, sum_quarters]

end Block

end Cert.Tail
end
-- ==== Proof.Tail.Blocks.lean ====
/-
  The tail kernel's input blocks, read at an index as elements of its arguments.
-/
module

public import proofs.«01_k».proof.Proof.Gen.Kernel2Ideal.Value
public import proofs.«01_k».proof.Proof.Tail.Read
public import Idealize.ShloMosaic.Lib.StableHlo.ReadAt
public import Idealize.ShloMosaic.Lib.Pointwise

@[expose] public section

set_option maxRecDepth 16384

noncomputable section

namespace Cert.Tail.Blocks

open Cert.Kernel2Ideal Cert.Kernel2Ideal.Gen Idealize.ShloMosaic Idealize.ShloMosaic.TcCoe Idealize.SL.Sem

variable (m : (ℓ : Loc nD τ sig) → Buf (Elt Ideal) ℓ) (c : Dev nD) (t : Fin cfg0.N)

/-- Argument 0 as launched. -/
abbrev arg0 : S4x8192x1024.Idx → EReal := m ((c : Thread nD τ).loc main_arg0)

/-- Argument 1 as launched. -/
abbrev arg1 : S4x8192x512.Idx → EReal := m ((c : Thread nD τ).loc main_arg1)

/-- Argument 2 as launched. -/
abbrev arg2 : S4x8192x512.Idx → EReal := m ((c : Thread nD τ).loc main_arg2)

/-- Argument 3 as launched. -/
abbrev arg3 : S4x8192x1024.Idx → EReal := m ((c : Thread nD τ).loc main_arg3)

/-- Argument 4 as launched. -/
abbrev arg4 : S2x8x3072.Idx → EReal := m ((c : Thread nD τ).loc main_arg4)

/-- Argument 5 as launched. -/
abbrev arg5 : S2x1024.Idx → EReal := m ((c : Thread nD τ).loc main_arg5)

/-- Argument 6 as launched. -/
abbrev arg6 : S1x1024x1024.Idx → EReal := m ((c : Thread nD τ).loc main_arg6)

/-- Argument 7 as launched. -/
abbrev arg7 : S1x1024x4096.Idx → EReal := m ((c : Thread nD τ).loc main_arg7)

/-- Argument 8 as launched. -/
abbrev arg8 : S1x3x1024.Idx → EReal := m ((c : Thread nD τ).loc main_arg8)

/-- Argument 9 as launched. -/
abbrev arg9 : S1x1024x1024.Idx → EReal := m ((c : Thread nD τ).loc main_arg9)

theorem lt32 : t.val < 32 := t.isLt

theorem index_0 : ∀ t : Fin grid0.N, win0_0.index t = ![64 * t.val - 1, 0] := by decide +kernel
theorem index_1 : ∀ t : Fin grid0.N, win0_1.index t = ![t.val, 0] := by decide +kernel
theorem index_2 : ∀ t : Fin grid0.N, win0_2.index t = ![min (64 * (t.val + 1)) 2047, 0] := by decide +kernel
theorem index_3 : ∀ t : Fin grid0.N, win0_3.index t = ![64 * t.val - 1, 0] := by decide +kernel
theorem index_4 : ∀ t : Fin grid0.N, win0_4.index t = ![t.val, 0] := by decide +kernel
theorem index_5 : ∀ t : Fin grid0.N, win0_5.index t = ![min (64 * (t.val + 1)) 2047, 0] := by decide +kernel
theorem index_6 : ∀ t : Fin grid0.N, win0_6.index t = ![64 * t.val - 1, 0] := by decide +kernel
theorem index_7 : ∀ t : Fin grid0.N, win0_7.index t = ![t.val, 0] := by decide +kernel
theorem index_8 : ∀ t : Fin grid0.N, win0_8.index t = ![min (64 * (t.val + 1)) 2047, 0] := by decide +kernel
theorem index_9 : ∀ t : Fin grid0.N, win0_9.index t = ![64 * t.val - 1, 0] := by decide +kernel
theorem index_10 : ∀ t : Fin grid0.N, win0_10.index t = ![t.val, 0] := by decide +kernel
theorem index_11 : ∀ t : Fin grid0.N, win0_11.index t = ![min (64 * (t.val + 1)) 2047, 0] := by decide +kernel
theorem index_12 : ∀ t : Fin grid0.N, win0_12.index t = ![t.val / 8, 0, 0] := by decide +kernel
theorem index_13 : ∀ t : Fin grid0.N, win0_13.index t = ![0, 0] := by decide +kernel
theorem index_14 : ∀ t : Fin grid0.N, win0_14.index t = ![0, 0] := by decide +kernel
theorem index_15 : ∀ t : Fin grid0.N, win0_15.index t = ![t.val / 8, 0, 0] := by decide +kernel
theorem index_16 : ∀ t : Fin grid0.N, win0_16.index t = ![t.val / 8, 0, 0] := by decide +kernel
theorem index_17 : ∀ t : Fin grid0.N, win0_17.index t = ![0, 0] := by decide +kernel
theorem index_18 : ∀ t : Fin grid0.N, win0_18.index t = ![0, 0] := by decide +kernel
theorem index_19 : ∀ t : Fin grid0.N, win0_19.index t = ![t.val / 8, 0, 0] := by decide +kernel
theorem index_20 : ∀ t : Fin grid0.N, win0_20.index t = ![0, 0] := by decide +kernel
theorem index_21 : ∀ t : Fin grid0.N, win0_21.index t = ![t.val, 0] := by decide +kernel
theorem coord_eq : ∀ t : Fin grid0.N, (grid0.coords t 0).val = t.val := by decide +kernel

/-- Rows of the whole array with their neighbours: those that lie in the sequence are consecutive rows of it. -/
theorem ext_rows {α : Type} (A : Fin 32768 → α) {p : Fin 16 → α} {q : Fin 1024 → α} {n : Fin 16 → α}
    (hp : ∀ r, p r = A ⟨16 * (64 * t.val - 1) + r.val, by have := lt32 t; omega⟩)
    (hq : ∀ r, q r = A ⟨1024 * t.val + r.val, by have := lt32 t; omega⟩)
    (hn : ∀ r, n r = A ⟨16 * (min (64 * (t.val + 1)) 2047) + r.val, by have := lt32 t; omega⟩)
    (e : Fin 1056) (he : inSeq t e) (i : Fin 32768) (hi : i.val + 16 = 1024 * t.val + e.val) : ext p q n e = A i := by
  have ht := lt32 t
  obtain ⟨h₁, h₂⟩ := he
  unfold ext
  split_ifs with c₁ c₂
  · rw [hp]
    exact congrArg A (Fin.ext (show 16 * (64 * t.val - 1) + e.val = i.val by omega))
  · rw [hq]
    exact congrArg A (Fin.ext (show 1024 * t.val + (e.val - 16) = i.val by omega))
  · rw [hn]
    exact congrArg A (Fin.ext (show 16 * (min (64 * (t.val + 1)) 2047) + (e.val - 16 - 1024) = i.val by omega))

theorem main_v15_at (n : Fin 32768) (d : Fin 1024) : (V m c main_v15 : S32768x1024.Idx → EReal) (ix2 n d) = arg0 m c (ix3 ⟨n.val / 8192, by omega⟩ ⟨n.val % 8192, by omega⟩ d) := by
  unfold V
  after_reads_at

theorem block_0 (r : Fin 16) (d : Fin 1024) : (iblk m c 0 t : S16x1024.Idx → EReal) (ix2 r d)
    = (V m c main_v15 : S32768x1024.Idx → EReal) (ix2 ⟨16 * (64 * t.val - 1) + r.val, by have := lt32 t; omega⟩ d) := by
  unfold iblk
  rw [View.read_apply]
  show V m c main_v15 _ = V m c main_v15 _
  congr 1
  funext a
  apply Fin.ext
  match a with
  | ⟨0, _⟩ => show win0_0.index t 0 * 16 + 1 * r.val = _; rw [index_0]; show (64 * t.val - 1) * 16 + 1 * r.val = 16 * (64 * t.val - 1) + r.val; omega
  | ⟨1, _⟩ => show win0_0.index t 1 * 1024 + 1 * d.val = _; rw [index_0]; show 0 * 1024 + 1 * d.val = d.val; omega

theorem block_1 (r : Fin 1024) (d : Fin 1024) : (iblk m c 1 t : S1024x1024.Idx → EReal) (ix2 r d)
    = (V m c main_v15 : S32768x1024.Idx → EReal) (ix2 ⟨1024 * t.val + r.val, by have := lt32 t; omega⟩ d) := by
  unfold iblk
  rw [View.read_apply]
  show V m c main_v15 _ = V m c main_v15 _
  congr 1
  funext a
  apply Fin.ext
  match a with
  | ⟨0, _⟩ => show win0_1.index t 0 * 1024 + 1 * r.val = _; rw [index_1]; show t.val * 1024 + 1 * r.val = 1024 * t.val + r.val; omega
  | ⟨1, _⟩ => show win0_1.index t 1 * 1024 + 1 * d.val = _; rw [index_1]; show 0 * 1024 + 1 * d.val = d.val; omega

theorem block_2 (r : Fin 16) (d : Fin 1024) : (iblk m c 2 t : S16x1024.Idx → EReal) (ix2 r d)
    = (V m c main_v15 : S32768x1024.Idx → EReal) (ix2 ⟨16 * (min (64 * (t.val + 1)) 2047) + r.val, by have := lt32 t; omega⟩ d) := by
  unfold iblk
  rw [View.read_apply]
  show V m c main_v15 _ = V m c main_v15 _
  congr 1
  funext a
  apply Fin.ext
  match a with
  | ⟨0, _⟩ => show win0_2.index t 0 * 16 + 1 * r.val = _; rw [index_2]; show (min (64 * (t.val + 1)) 2047) * 16 + 1 * r.val = 16 * (min (64 * (t.val + 1)) 2047) + r.val; omega
  | ⟨1, _⟩ => show win0_2.index t 1 * 1024 + 1 * d.val = _; rw [index_2]; show 0 * 1024 + 1 * d.val = d.val; omega

theorem main_v16_at (n : Fin 32768) (d : Fin 512) : (V m c main_v16 : S32768x512.Idx → EReal) (ix2 n d) = arg1 m c (ix3 ⟨n.val / 8192, by omega⟩ ⟨n.val % 8192, by omega⟩ d) := by
  unfold V
  after_reads_at

theorem block_3 (r : Fin 16) (d : Fin 512) : (iblk m c 3 t : S16x512.Idx → EReal) (ix2 r d)
    = (V m c main_v16 : S32768x512.Idx → EReal) (ix2 ⟨16 * (64 * t.val - 1) + r.val, by have := lt32 t; omega⟩ d) := by
  unfold iblk
  rw [View.read_apply]
  show V m c main_v16 _ = V m c main_v16 _
  congr 1
  funext a
  apply Fin.ext
  match a with
  | ⟨0, _⟩ => show win0_3.index t 0 * 16 + 1 * r.val = _; rw [index_3]; show (64 * t.val - 1) * 16 + 1 * r.val = 16 * (64 * t.val - 1) + r.val; omega
  | ⟨1, _⟩ => show win0_3.index t 1 * 512 + 1 * d.val = _; rw [index_3]; show 0 * 512 + 1 * d.val = d.val; omega

theorem block_4 (r : Fin 1024) (d : Fin 512) : (iblk m c 4 t : S1024x512.Idx → EReal) (ix2 r d)
    = (V m c main_v16 : S32768x512.Idx → EReal) (ix2 ⟨1024 * t.val + r.val, by have := lt32 t; omega⟩ d) := by
  unfold iblk
  rw [View.read_apply]
  show V m c main_v16 _ = V m c main_v16 _
  congr 1
  funext a
  apply Fin.ext
  match a with
  | ⟨0, _⟩ => show win0_4.index t 0 * 1024 + 1 * r.val = _; rw [index_4]; show t.val * 1024 + 1 * r.val = 1024 * t.val + r.val; omega
  | ⟨1, _⟩ => show win0_4.index t 1 * 512 + 1 * d.val = _; rw [index_4]; show 0 * 512 + 1 * d.val = d.val; omega

theorem block_5 (r : Fin 16) (d : Fin 512) : (iblk m c 5 t : S16x512.Idx → EReal) (ix2 r d)
    = (V m c main_v16 : S32768x512.Idx → EReal) (ix2 ⟨16 * (min (64 * (t.val + 1)) 2047) + r.val, by have := lt32 t; omega⟩ d) := by
  unfold iblk
  rw [View.read_apply]
  show V m c main_v16 _ = V m c main_v16 _
  congr 1
  funext a
  apply Fin.ext
  match a with
  | ⟨0, _⟩ => show win0_5.index t 0 * 16 + 1 * r.val = _; rw [index_5]; show (min (64 * (t.val + 1)) 2047) * 16 + 1 * r.val = 16 * (min (64 * (t.val + 1)) 2047) + r.val; omega
  | ⟨1, _⟩ => show win0_5.index t 1 * 512 + 1 * d.val = _; rw [index_5]; show 0 * 512 + 1 * d.val = d.val; omega

theorem main_v17_at (n : Fin 32768) (d : Fin 512) : (V m c main_v17 : S32768x512.Idx → EReal) (ix2 n d) = arg2 m c (ix3 ⟨n.val / 8192, by omega⟩ ⟨n.val % 8192, by omega⟩ d) := by
  unfold V
  after_reads_at

theorem block_6 (r : Fin 16) (d : Fin 512) : (iblk m c 6 t : S16x512.Idx → EReal) (ix2 r d)
    = (V m c main_v17 : S32768x512.Idx → EReal) (ix2 ⟨16 * (64 * t.val - 1) + r.val, by have := lt32 t; omega⟩ d) := by
  unfold iblk
  rw [View.read_apply]
  show V m c main_v17 _ = V m c main_v17 _
  congr 1
  funext a
  apply Fin.ext
  match a with
  | ⟨0, _⟩ => show win0_6.index t 0 * 16 + 1 * r.val = _; rw [index_6]; show (64 * t.val - 1) * 16 + 1 * r.val = 16 * (64 * t.val - 1) + r.val; omega
  | ⟨1, _⟩ => show win0_6.index t 1 * 512 + 1 * d.val = _; rw [index_6]; show 0 * 512 + 1 * d.val = d.val; omega

theorem block_7 (r : Fin 1024) (d : Fin 512) : (iblk m c 7 t : S1024x512.Idx → EReal) (ix2 r d)
    = (V m c main_v17 : S32768x512.Idx → EReal) (ix2 ⟨1024 * t.val + r.val, by have := lt32 t; omega⟩ d) := by
  unfold iblk
  rw [View.read_apply]
  show V m c main_v17 _ = V m c main_v17 _
  congr 1
  funext a
  apply Fin.ext
  match a with
  | ⟨0, _⟩ => show win0_7.index t 0 * 1024 + 1 * r.val = _; rw [index_7]; show t.val * 1024 + 1 * r.val = 1024 * t.val + r.val; omega
  | ⟨1, _⟩ => show win0_7.index t 1 * 512 + 1 * d.val = _; rw [index_7]; show 0 * 512 + 1 * d.val = d.val; omega

theorem block_8 (r : Fin 16) (d : Fin 512) : (iblk m c 8 t : S16x512.Idx → EReal) (ix2 r d)
    = (V m c main_v17 : S32768x512.Idx → EReal) (ix2 ⟨16 * (min (64 * (t.val + 1)) 2047) + r.val, by have := lt32 t; omega⟩ d) := by
  unfold iblk
  rw [View.read_apply]
  show V m c main_v17 _ = V m c main_v17 _
  congr 1
  funext a
  apply Fin.ext
  match a with
  | ⟨0, _⟩ => show win0_8.index t 0 * 16 + 1 * r.val = _; rw [index_8]; show (min (64 * (t.val + 1)) 2047) * 16 + 1 * r.val = 16 * (min (64 * (t.val + 1)) 2047) + r.val; omega
  | ⟨1, _⟩ => show win0_8.index t 1 * 512 + 1 * d.val = _; rw [index_8]; show 0 * 512 + 1 * d.val = d.val; omega

theorem main_v18_at (n : Fin 32768) (d : Fin 1024) : (V m c main_v18 : S32768x1024.Idx → EReal) (ix2 n d) = arg3 m c (ix3 ⟨n.val / 8192, by omega⟩ ⟨n.val % 8192, by omega⟩ d) := by
  unfold V
  after_reads_at

theorem block_9 (r : Fin 16) (d : Fin 1024) : (iblk m c 9 t : S16x1024.Idx → EReal) (ix2 r d)
    = (V m c main_v18 : S32768x1024.Idx → EReal) (ix2 ⟨16 * (64 * t.val - 1) + r.val, by have := lt32 t; omega⟩ d) := by
  unfold iblk
  rw [View.read_apply]
  show V m c main_v18 _ = V m c main_v18 _
  congr 1
  funext a
  apply Fin.ext
  match a with
  | ⟨0, _⟩ => show win0_9.index t 0 * 16 + 1 * r.val = _; rw [index_9]; show (64 * t.val - 1) * 16 + 1 * r.val = 16 * (64 * t.val - 1) + r.val; omega
  | ⟨1, _⟩ => show win0_9.index t 1 * 1024 + 1 * d.val = _; rw [index_9]; show 0 * 1024 + 1 * d.val = d.val; omega

theorem block_10 (r : Fin 1024) (d : Fin 1024) : (iblk m c 10 t : S1024x1024.Idx → EReal) (ix2 r d)
    = (V m c main_v18 : S32768x1024.Idx → EReal) (ix2 ⟨1024 * t.val + r.val, by have := lt32 t; omega⟩ d) := by
  unfold iblk
  rw [View.read_apply]
  show V m c main_v18 _ = V m c main_v18 _
  congr 1
  funext a
  apply Fin.ext
  match a with
  | ⟨0, _⟩ => show win0_10.index t 0 * 1024 + 1 * r.val = _; rw [index_10]; show t.val * 1024 + 1 * r.val = 1024 * t.val + r.val; omega
  | ⟨1, _⟩ => show win0_10.index t 1 * 1024 + 1 * d.val = _; rw [index_10]; show 0 * 1024 + 1 * d.val = d.val; omega

theorem block_11 (r : Fin 16) (d : Fin 1024) : (iblk m c 11 t : S16x1024.Idx → EReal) (ix2 r d)
    = (V m c main_v18 : S32768x1024.Idx → EReal) (ix2 ⟨16 * (min (64 * (t.val + 1)) 2047) + r.val, by have := lt32 t; omega⟩ d) := by
  unfold iblk
  rw [View.read_apply]
  show V m c main_v18 _ = V m c main_v18 _
  congr 1
  funext a
  apply Fin.ext
  match a with
  | ⟨0, _⟩ => show win0_11.index t 0 * 16 + 1 * r.val = _; rw [index_11]; show (min (64 * (t.val + 1)) 2047) * 16 + 1 * r.val = 16 * (min (64 * (t.val + 1)) 2047) + r.val; omega
  | ⟨1, _⟩ => show win0_11.index t 1 * 1024 + 1 * d.val = _; rw [index_11]; show 0 * 1024 + 1 * d.val = d.val; omega

theorem main_v2_at (b : Fin 8) (d : Fin 1024) : (V m c main_v2 : S8x1x1024.Idx → EReal) (ix3 b 0 d) = arg4 m c (ix3 0 b ⟨2048 + d.val, by omega⟩) := by
  unfold V
  after_reads_at

theorem block_12 (d : Fin 1024) : (iblk m c 12 t : S1x1x1024.Idx → EReal) (ix3 0 0 d) = arg4 m c (ix3 0 ⟨t.val / 8, by have := lt32 t; omega⟩ ⟨2048 + d.val, by omega⟩) := by
  have ht := lt32 t
  refine Eq.trans ?_ (main_v2_at m c ⟨t.val / 8, by omega⟩ d)
  unfold iblk
  rw [View.read_apply]
  show V m c main_v2 _ = V m c main_v2 _
  congr 1
  funext a
  apply Fin.ext
  match a with
  | ⟨0, _⟩ => show win0_12.index t 0 * 1 + 1 * 0 = _; rw [index_12]; show t.val / 8 * 1 + 1 * 0 = t.val / 8; omega
  | ⟨1, _⟩ => show win0_12.index t 1 * 1 + 1 * 0 = _; rw [index_12]; show 0 * 1 + 1 * 0 = 0; omega
  | ⟨2, _⟩ => show win0_12.index t 2 * 1024 + 1 * d.val = _; rw [index_12]; show 0 * 1024 + 1 * d.val = d.val; omega

theorem main_v5_at (b : Fin 8) (d : Fin 1024) : (V m c main_v5 : S8x1x1024.Idx → EReal) (ix3 b 0 d) = arg4 m c (ix3 1 b ⟨d.val, by omega⟩) := by
  unfold V
  after_reads_at

theorem block_15 (d : Fin 1024) : (iblk m c 15 t : S1x1x1024.Idx → EReal) (ix3 0 0 d) = arg4 m c (ix3 1 ⟨t.val / 8, by have := lt32 t; omega⟩ ⟨d.val, by omega⟩) := by
  have ht := lt32 t
  refine Eq.trans ?_ (main_v5_at m c ⟨t.val / 8, by omega⟩ d)
  unfold iblk
  rw [View.read_apply]
  show V m c main_v5 _ = V m c main_v5 _
  congr 1
  funext a
  apply Fin.ext
  match a with
  | ⟨0, _⟩ => show win0_15.index t 0 * 1 + 1 * 0 = _; rw [index_15]; show t.val / 8 * 1 + 1 * 0 = t.val / 8; omega
  | ⟨1, _⟩ => show win0_15.index t 1 * 1 + 1 * 0 = _; rw [index_15]; show 0 * 1 + 1 * 0 = 0; omega
  | ⟨2, _⟩ => show win0_15.index t 2 * 1024 + 1 * d.val = _; rw [index_15]; show 0 * 1024 + 1 * d.val = d.val; omega

theorem main_v8_at (b : Fin 8) (d : Fin 1024) : (V m c main_v8 : S8x1x1024.Idx → EReal) (ix3 b 0 d) = arg4 m c (ix3 1 b ⟨1024 + d.val, by omega⟩) := by
  unfold V
  after_reads_at

theorem block_16 (d : Fin 1024) : (iblk m c 16 t : S1x1x1024.Idx → EReal) (ix3 0 0 d) = arg4 m c (ix3 1 ⟨t.val / 8, by have := lt32 t; omega⟩ ⟨1024 + d.val, by omega⟩) := by
  have ht := lt32 t
  refine Eq.trans ?_ (main_v8_at m c ⟨t.val / 8, by omega⟩ d)
  unfold iblk
  rw [View.read_apply]
  show V m c main_v8 _ = V m c main_v8 _
  congr 1
  funext a
  apply Fin.ext
  match a with
  | ⟨0, _⟩ => show win0_16.index t 0 * 1 + 1 * 0 = _; rw [index_16]; show t.val / 8 * 1 + 1 * 0 = t.val / 8; omega
  | ⟨1, _⟩ => show win0_16.index t 1 * 1 + 1 * 0 = _; rw [index_16]; show 0 * 1 + 1 * 0 = 0; omega
  | ⟨2, _⟩ => show win0_16.index t 2 * 1024 + 1 * d.val = _; rw [index_16]; show 0 * 1024 + 1 * d.val = d.val; omega

theorem main_v11_at (b : Fin 8) (d : Fin 1024) : (V m c main_v11 : S8x1x1024.Idx → EReal) (ix3 b 0 d) = arg4 m c (ix3 1 b ⟨2048 + d.val, by omega⟩) := by
  unfold V
  after_reads_at

theorem block_19 (d : Fin 1024) : (iblk m c 19 t : S1x1x1024.Idx → EReal) (ix3 0 0 d) = arg4 m c (ix3 1 ⟨t.val / 8, by have := lt32 t; omega⟩ ⟨2048 + d.val, by omega⟩) := by
  have ht := lt32 t
  refine Eq.trans ?_ (main_v11_at m c ⟨t.val / 8, by omega⟩ d)
  unfold iblk
  rw [View.read_apply]
  show V m c main_v11 _ = V m c main_v11 _
  congr 1
  funext a
  apply Fin.ext
  match a with
  | ⟨0, _⟩ => show win0_19.index t 0 * 1 + 1 * 0 = _; rw [index_19]; show t.val / 8 * 1 + 1 * 0 = t.val / 8; omega
  | ⟨1, _⟩ => show win0_19.index t 1 * 1 + 1 * 0 = _; rw [index_19]; show 0 * 1 + 1 * 0 = 0; omega
  | ⟨2, _⟩ => show win0_19.index t 2 * 1024 + 1 * d.val = _; rw [index_19]; show 0 * 1024 + 1 * d.val = d.val; omega

theorem main_v20_at (r : Fin 1024) (d : Fin 1024) : (V m c main_v20 : S1024x1024.Idx → EReal) (ix2 r d) = arg6 m c (ix3 0 r d) := by
  unfold V
  after_reads_at

theorem block_13 (r : Fin 1024) (d : Fin 1024) : (iblk m c 13 t : S1024x1024.Idx → EReal) (ix2 r d) = arg6 m c (ix3 0 r d) := by
  refine Eq.trans ?_ (main_v20_at m c r d)
  unfold iblk
  rw [View.read_apply]
  show V m c main_v20 _ = V m c main_v20 _
  congr 1
  funext a
  apply Fin.ext
  match a with
  | ⟨0, _⟩ => show win0_13.index t 0 * 1024 + 1 * r.val = _; rw [index_13]; show 0 * 1024 + 1 * r.val = r.val; omega
  | ⟨1, _⟩ => show win0_13.index t 1 * 1024 + 1 * d.val = _; rw [index_13]; show 0 * 1024 + 1 * d.val = d.val; omega

theorem main_v14_at (r : Fin 1) (d : Fin 1024) : (V m c main_v14 : S1x1024.Idx → EReal) (ix2 r d) = arg5 m c (ix2 1 d) := by
  unfold V
  after_reads_at

theorem block_14 (r : Fin 1) (d : Fin 1024) : (iblk m c 14 t : S1x1024.Idx → EReal) (ix2 r d) = arg5 m c (ix2 1 d) := by
  refine Eq.trans ?_ (main_v14_at m c r d)
  unfold iblk
  rw [View.read_apply]
  show V m c main_v14 _ = V m c main_v14 _
  congr 1
  funext a
  apply Fin.ext
  match a with
  | ⟨0, _⟩ => show win0_14.index t 0 * 1 + 1 * r.val = _; rw [index_14]; show 0 * 1 + 1 * r.val = r.val; omega
  | ⟨1, _⟩ => show win0_14.index t 1 * 1024 + 1 * d.val = _; rw [index_14]; show 0 * 1024 + 1 * d.val = d.val; omega

theorem main_v22_at (r : Fin 1024) (d : Fin 4096) : (V m c main_v22 : S1024x4096.Idx → EReal) (ix2 r d) = arg7 m c (ix3 0 r d) := by
  unfold V
  after_reads_at

theorem block_17 (r : Fin 1024) (d : Fin 4096) : (iblk m c 17 t : S1024x4096.Idx → EReal) (ix2 r d) = arg7 m c (ix3 0 r d) := by
  refine Eq.trans ?_ (main_v22_at m c r d)
  unfold iblk
  rw [View.read_apply]
  show V m c main_v22 _ = V m c main_v22 _
  congr 1
  funext a
  apply Fin.ext
  match a with
  | ⟨0, _⟩ => show win0_17.index t 0 * 1024 + 1 * r.val = _; rw [index_17]; show 0 * 1024 + 1 * r.val = r.val; omega
  | ⟨1, _⟩ => show win0_17.index t 1 * 4096 + 1 * d.val = _; rw [index_17]; show 0 * 4096 + 1 * d.val = d.val; omega

theorem main_v23_at (r : Fin 3) (d : Fin 1024) : (V m c main_v23 : S3x1024.Idx → EReal) (ix2 r d) = arg8 m c (ix3 0 r d) := by
  unfold V
  after_reads_at

theorem block_18 (r : Fin 3) (d : Fin 1024) : (iblk m c 18 t : S3x1024.Idx → EReal) (ix2 r d) = arg8 m c (ix3 0 r d) := by
  refine Eq.trans ?_ (main_v23_at m c r d)
  unfold iblk
  rw [View.read_apply]
  show V m c main_v23 _ = V m c main_v23 _
  congr 1
  funext a
  apply Fin.ext
  match a with
  | ⟨0, _⟩ => show win0_18.index t 0 * 3 + 1 * r.val = _; rw [index_18]; show 0 * 3 + 1 * r.val = r.val; omega
  | ⟨1, _⟩ => show win0_18.index t 1 * 1024 + 1 * d.val = _; rw [index_18]; show 0 * 1024 + 1 * d.val = d.val; omega

theorem main_v25_at (r : Fin 1024) (d : Fin 1024) : (V m c main_v25 : S1024x1024.Idx → EReal) (ix2 r d) = arg9 m c (ix3 0 r d) := by
  unfold V
  after_reads_at

theorem block_20 (r : Fin 1024) (d : Fin 1024) : (iblk m c 20 t : S1024x1024.Idx → EReal) (ix2 r d) = arg9 m c (ix3 0 r d) := by
  refine Eq.trans ?_ (main_v25_at m c r d)
  unfold iblk
  rw [View.read_apply]
  show V m c main_v25 _ = V m c main_v25 _
  congr 1
  funext a
  apply Fin.ext
  match a with
  | ⟨0, _⟩ => show win0_20.index t 0 * 1024 + 1 * r.val = _; rw [index_20]; show 0 * 1024 + 1 * r.val = r.val; omega
  | ⟨1, _⟩ => show win0_20.index t 1 * 1024 + 1 * d.val = _; rw [index_20]; show 0 * 1024 + 1 * d.val = d.val; omega

end Cert.Tail.Blocks
end
-- ==== Proof.Tail.Ref.lean ====
/-
  The reference's tail, row by row.
-/
module

public import proofs.«01_k».proof.Proof.Gen.Reference2Ideal.Read
public import proofs.«01_k».proof.Proof.Tail.Row
public import Idealize.ShloMosaic.Lib.Pointwise
public import Idealize.ShloMosaic.PureOps.Ideal.Laws

@[expose] public section

set_option maxRecDepth 16384

noncomputable section

namespace Cert.Tail.Ref

open Cert.Reference2Ideal Cert.Reference2Ideal.Gen Cert.Reference2Ideal.Read Idealize.ShloMosaic

/-- The tail's arguments, from arrays. -/
def args (x0 : Vec Ideal S4x8192x1024 .f32) (x1 : Vec Ideal S4x8192x512 .f32) (x2 : Vec Ideal S4x8192x512 .bf16) (x3 : Vec Ideal S4x8192x1024 .bf16) (x4 : Vec Ideal S2x8x3072 .f32) (x5 : Vec Ideal S2x1024 .f32) (x6 : Vec Ideal S1x1024x1024 .f32) (x7 : Vec Ideal S1x1024x4096 .f32) (x8 : Vec Ideal S1x3x1024 .f32) (x9 : Vec Ideal S1x1024x1024 .f32) : Args where
  x := fun b n k => x0 (ix3 b n k)
  f := fun b n j => x1 (ix3 b n j)
  a := fun b n j => x2 (ix3 b n j)
  s := fun b n k => x3 (ix3 b n k)
  gate := fun b k => x4 (ix3 0 ⟨b.val, by omega⟩ ⟨2048 + k.val, by omega⟩)
  shift := fun b k => x4 (ix3 1 ⟨b.val, by omega⟩ ⟨k.val, by omega⟩)
  scale := fun b k => x4 (ix3 1 ⟨b.val, by omega⟩ ⟨1024 + k.val, by omega⟩)
  gate' := fun b k => x4 (ix3 1 ⟨b.val, by omega⟩ ⟨2048 + k.val, by omega⟩)
  gain := fun k => x5 (ix2 1 k)
  W := fun k d => x6 (ix3 0 k d)
  w := fun k d => x7 (ix3 0 k d)
  cw := fun q k => x8 (ix3 0 q k)
  Wo := fun k d => x9 (ix3 0 k d)

/-- Division by 1024 is the product with its inverse. -/
theorem div_width (s : EReal) : Ideal.div s (Ideal.ofBits .f32 0x44800000#32) = s * Ideal.ofBits .f32 0x3A800000#32 := by
  have h : Ideal.ofBits .f32 0x44800000#32 = ((1024 : ℝ) : EReal) := by
    simp [Ideal.ofBits, Ideal.ieee, -EReal.coe_mul]; norm_num
  have h' : Ideal.ofBits .f32 0x3A800000#32 = ((1 / 1024 : ℝ) : EReal) := by
    simp [Ideal.ofBits, Ideal.ieee, -EReal.coe_mul]; norm_num
  rw [h, h', Ideal.div_coe (by norm_num)]

variable (x0 : Vec Ideal S4x8192x1024 .f32) (x1 : Vec Ideal S4x8192x512 .f32) (x2 : Vec Ideal S4x8192x512 .bf16) (x3 : Vec Ideal S4x8192x1024 .bf16) (x4 : Vec Ideal S2x8x3072 .f32) (x5 : Vec Ideal S2x1024 .f32) (x6 : Vec Ideal S1x1024x1024 .f32) (x7 : Vec Ideal S1x1024x4096 .f32) (x8 : Vec Ideal S1x3x1024 .f32) (x9 : Vec Ideal S1x1024x1024 .f32) (b : Fin 4) (n : Fin 8192) (k : Fin 1024)

theorem res_val : val_main_v19 (F := Ideal) x0 x1 x2 x3 x4 x6 (ix3 b n k) = (args x0 x1 x2 x3 x4 x5 x6 x7 x8 x9).res b n k := by
  have h : ∀ k, val_main_v13 (F := Ideal) x1 x2 x3 (ix3 b n k) = mixIn (fun j => x1 (ix3 b n j)) (fun j => x2 (ix3 b n j)) (fun k => x3 (ix3 b n k)) k := fun k => by
    pointwise [val_main_v13, val_main_v12, val_main_v11, val_main_v10]
    rfl
  pointwise [val_main_v19, val_main_v18, val_main_v17, val_main_v16, val_main_v15, val_main_v14, val_main_v4, val_main_v3, val_main_v2, val_main_v1, val_main_v0]
  simp only [h]
  rfl

theorem hid_val : val_main_v42 (F := Ideal) x0 x1 x2 x3 x4 x5 x6 (ix3 b n k) = (args x0 x1 x2 x3 x4 x5 x6 x7 x8 x9).hid b n k := by
  pointwise [val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v9, val_main_v8, val_main_v7, val_main_v6, val_main_v5, val_main_v3, val_main_v2, val_main_v1, val_main_v0, val_main_cst, val_main_cst_0, val_main_cst_1, val_main_cst_2]
  simp only [res_val x0 x1 x2 x3 x4 x5 x6 x7 x8 x9, div_width, zero_add]
  rfl

theorem part_val (p : Fin 4) (d : Fin 4096) (hd : d.val = 1024 * p.val + k.val) : val_main_v44 (F := Ideal) x0 x1 x2 x3 x4 x5 x6 x7 (ix3 b n d)
    = part ((args x0 x1 x2 x3 x4 x5 x6 x7 x8 x9).hid b n) (fun k d => x7 (ix3 0 k d)) p k := by
  rw [show d = ⟨1024 * p.val + k.val, by omega⟩ from Fin.ext hd]
  pointwise [val_main_v44, val_main_v43]
  simp only [hid_val x0 x1 x2 x3 x4 x5 x6 x7 x8 x9]
  rfl

theorem pad_val (p : Fin 8194) : val_main_v50 (F := Ideal) x0 x1 x2 x3 x4 x5 x6 x7 (ix3 b p k) = (args x0 x1 x2 x3 x4 x5 x6 x7 x8 x9).pad b p.val k := by
  have h : ∀ n, val_main_v49 (F := Ideal) x0 x1 x2 x3 x4 x5 x6 x7 (ix3 b n k) = lag ((args x0 x1 x2 x3 x4 x5 x6 x7 x8 x9).hid b n) (fun k d => x7 (ix3 0 k d)) k := fun n => by
    pointwise [val_main_v49, val_main_v46, val_main_v47]
    rw [part_val x0 x1 x2 x3 x4 x5 x6 x7 x8 x9 b n k 1 _ (by simp), part_val x0 x1 x2 x3 x4 x5 x6 x7 x8 x9 b n k 2 _ (by simp)]
    rfl
  have z : FloatOps.sitofp (F := Ideal) .f32 0#32 = 0 := by
    show ((((0#32).toInt : ℤ) : ℝ) : EReal) = 0
    simp
  pointwise [val_main_v50, val_main_call0_v0, val_main_c]
  rw [z]
  simp only [h]
  rfl

theorem zed_val : val_main_v76 (F := Ideal) x0 x1 x2 x3 x4 x5 x6 x7 x8 (ix3 b n k)
    = zed ((args x0 x1 x2 x3 x4 x5 x6 x7 x8 x9).hid b n) (fun k d => x7 (ix3 0 k d)) (taps (fun q k => x8 (ix3 0 q k))
        ((args x0 x1 x2 x3 x4 x5 x6 x7 x8 x9).pad b n.val) ((args x0 x1 x2 x3 x4 x5 x6 x7 x8 x9).pad b (1 + n.val)) ((args x0 x1 x2 x3 x4 x5 x6 x7 x8 x9).pad b (2 + n.val))) k := by
  have h : val_main_v74 (F := Ideal) x0 x1 x2 x3 x4 x5 x6 x7 x8 (ix3 b n k) = part ((args x0 x1 x2 x3 x4 x5 x6 x7 x8 x9).hid b n) (fun k d => x7 (ix3 0 k d)) 0 k
      * taps (fun q k => x8 (ix3 0 q k)) ((args x0 x1 x2 x3 x4 x5 x6 x7 x8 x9).pad b n.val) ((args x0 x1 x2 x3 x4 x5 x6 x7 x8 x9).pad b (1 + n.val))
          ((args x0 x1 x2 x3 x4 x5 x6 x7 x8 x9).pad b (2 + n.val)) k := by
    pointwise [val_main_v74, val_main_v45, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_cst_3]
    simp only [pad_val x0 x1 x2 x3 x4 x5 x6 x7 x8 x9, part_val x0 x1 x2 x3 x4 x5 x6 x7 x8 x9 b n k 0 ⟨k.val, by omega⟩ (show k.val = 1024 * (0 : Fin 4).val + k.val by simp), zero_add]
    rfl
  pointwise [val_main_v76, val_main_v75, val_main_v48, val_main_call1_v0, val_main_call1_v1, val_main_call1_v2, val_main_call1_v3, val_main_call1_v4, val_main_call1_v5, val_main_call1_cst, val_main_call1_cst_0]
  simp only [h, part_val x0 x1 x2 x3 x4 x5 x6 x7 x8 x9 b n k 3 ⟨3072 + k.val, by omega⟩ (show 3072 + k.val = 1024 * (3 : Fin 4).val + k.val by simp)]
  simp only [zed, zero_sub]

theorem out_val (i : Fin 32768) : val_main_v82 (F := Ideal) x0 x1 x2 x3 x4 x5 x6 x7 x8 x9 (ix2 i k)
    = (args x0 x1 x2 x3 x4 x5 x6 x7 x8 x9).out ⟨i.val / 8192, by omega⟩ ⟨i.val % 8192, by omega⟩ k := by
  pointwise [val_main_v82, val_main_v81, val_main_v80, val_main_v79, val_main_v78, val_main_v77, val_main_v73, val_main_v9, val_main_v8, val_main_v7, val_main_v6, val_main_v5, val_main_v3, val_main_v2, val_main_v1, val_main_v0]
  simp only [res_val x0 x1 x2 x3 x4 x5 x6 x7 x8 x9, zed_val x0 x1 x2 x3 x4 x5 x6 x7 x8 x9]
  rfl

end Cert.Tail.Ref
end
-- ==== Proof.Tail.Kernel.lean ====
/-
  The tail kernel's result: each block's rows are the tail's rows at their place in the sequence.
-/
module

public import proofs.«01_k».proof.Proof.Tail.Block
public import proofs.«01_k».proof.Proof.Tail.Blocks
public import proofs.«01_k».proof.Proof.Tail.Ref

@[expose] public section

set_option maxRecDepth 16384

noncomputable section

namespace Cert.Tail.Result

open Cert.Kernel2Ideal Cert.Kernel2Ideal.Gen Cert.Kernel2Ideal.Value Cert.Tail.Blocks Idealize.ShloMosaic Idealize.ShloMosaic.TcCoe Idealize.SL.Sem

variable (m : (ℓ : Loc nD τ sig) → Buf (Elt Ideal) ℓ) (c : Dev nD)

/-- The tail's arguments as launched. -/
abbrev args : Args := Ref.args (arg0 m c) (arg1 m c) (arg2 m c) (arg3 m c) (arg4 m c) (arg5 m c) (arg6 m c) (arg7 m c) (arg8 m c) (arg9 m c)

/-- The result array. -/
def result (i : S32768x1024.Idx) : EReal :=
  (args m c).out ⟨(i 0).val / 8192, by have : (i 0).val < 32768 := (i 0).isLt; omega⟩ ⟨(i 0).val % 8192, by omega⟩ (i 1)

section Row

variable (t : Fin cfg0.N) (e : Fin 1056) (he : inSeq t e) (b : Fin 4) (hb : b.val = t.val / 8) (n : Fin 8192) (hn : n.val + 16 = 1024 * (t.val % 8) + e.val)

include he hb hn

theorem bX_eq : bX (iblk m c 0 t) (iblk m c 1 t) (iblk m c 2 t) e = (args m c).x b n := by
  have ht := lt32 t
  funext k
  refine (ext_rows t (fun i => (V m c main_v15 : S32768x1024.Idx → EReal) (ix2 i k)) (fun r => block_0 m c t r k) (fun r => block_1 m c t r k) (fun r => block_2 m c t r k)
    e he ⟨8192 * b.val + n.val, by omega⟩ (show 8192 * b.val + n.val + 16 = _ by omega)).trans ((main_v15_at m c _ k).trans ?_)
  show arg0 m c _ = arg0 m c _
  congr 2 <;> apply Fin.ext <;> dsimp only <;> omega

theorem bY_eq : bY (iblk m c 3 t) (iblk m c 4 t) (iblk m c 5 t) (iblk m c 6 t) (iblk m c 7 t) (iblk m c 8 t) (iblk m c 9 t) (iblk m c 10 t) (iblk m c 11 t) e = mixIn ((args m c).f b n) ((args m c).a b n) ((args m c).s b n) := by
  have ht := lt32 t
  have hi : 8192 * b.val + n.val + 16 = 1024 * t.val + e.val := by omega
  have hq : (8192 * b.val + n.val) / 8192 = b.val := by omega
  have hr : (8192 * b.val + n.val) % 8192 = n.val := by omega
  unfold bY
  congr 1
  · funext k
    refine (ext_rows t (fun i => (V m c main_v16 : S32768x512.Idx → EReal) (ix2 i k)) (fun r => block_3 m c t r k) (fun r => block_4 m c t r k) (fun r => block_5 m c t r k)
      e he ⟨8192 * b.val + n.val, by omega⟩ hi).trans ((main_v16_at m c _ k).trans ?_)
    show arg1 m c _ = arg1 m c _
    congr 2 <;> apply Fin.ext <;> assumption
  · funext k
    refine (ext_rows t (fun i => (V m c main_v17 : S32768x512.Idx → EReal) (ix2 i k)) (fun r => block_6 m c t r k) (fun r => block_7 m c t r k) (fun r => block_8 m c t r k)
      e he ⟨8192 * b.val + n.val, by omega⟩ hi).trans ((main_v17_at m c _ k).trans ?_)
    show arg2 m c _ = arg2 m c _
    congr 2 <;> apply Fin.ext <;> assumption
  · funext k
    refine (ext_rows t (fun i => (V m c main_v18 : S32768x1024.Idx → EReal) (ix2 i k)) (fun r => block_9 m c t r k) (fun r => block_10 m c t r k) (fun r => block_11 m c t r k)
      e he ⟨8192 * b.val + n.val, by omega⟩ hi).trans ((main_v18_at m c _ k).trans ?_)
    show arg3 m c _ = arg3 m c _
    congr 2 <;> apply Fin.ext <;> assumption

theorem bR_eq : bR (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) e = (args m c).res b n := by
  have ht := lt32 t
  have hlt : t.val / 8 < 4 := by clear hb; omega
  obtain rfl : b = ⟨t.val / 8, hlt⟩ := Fin.ext hb
  unfold bR Args.res
  rw [bX_eq m c t e he ⟨t.val / 8, hlt⟩ rfl n hn, bY_eq m c t e he ⟨t.val / 8, hlt⟩ rfl n hn]
  simp only [block_12, block_13]
  rfl

theorem bH_eq : bH (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) e = (args m c).hid b n := by
  have ht := lt32 t
  have hlt : t.val / 8 < 4 := by clear hb; omega
  obtain rfl : b = ⟨t.val / 8, hlt⟩ := Fin.ext hb
  unfold bH Args.hid
  rw [bR_eq m c t e he ⟨t.val / 8, hlt⟩ rfl n hn]
  simp only [block_14, block_15, block_16]
  rfl

end Row

/-- A row that the convolution reads: the masked rows are the rows of zeros around the sequence. -/
theorem pad_eq (t : Fin cfg0.N) (e : Fin 1056) (b : Fin 4) (hb : b.val = t.val / 8) (p : ℕ) (hp : p + 15 = 1024 * (t.val % 8) + e.val) (h₁ : 15 ≤ e.val) (h₂ : e.val ≤ 1040) :
    keep (inSeq t e) (lag (bH (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) e) (fun k d => (iblk m c 17 t : S1024x4096.Idx → EReal) (ix2 k d))) = (args m c).pad b p := by
  have ht := lt32 t
  funext k
  unfold keep Args.pad
  by_cases he : inSeq t e
  · have hr : 1 ≤ p ∧ p - 1 < 8192 := by
      obtain ⟨g₁, g₂⟩ := he
      omega
    rw [if_pos he, dif_pos hr, bH_eq m c t e he b hb ⟨p - 1, hr.2⟩ (show p - 1 + 16 = _ by omega)]
    simp only [block_17]
    rfl
  · have hr : ¬ (1 ≤ p ∧ p - 1 < 8192) := fun h => he (by
      constructor <;> intro <;> omega)
    rw [if_neg he, dif_neg hr]

theorem block_eq (t : Fin cfg0.N) (r k : Fin 1024) :
    out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (ix2 r k) = result m c (ix2 ⟨1024 * t.val + r.val, by have := lt32 t; omega⟩ k) := by
  have ht := lt32 t
  have hr : inSeq t ⟨16 + r.val, by omega⟩ := ⟨fun _ => show 16 ≤ 16 + r.val by omega, fun _ => show 16 + r.val < 1040 by omega⟩
  let b : Fin 4 := ⟨t.val / 8, by omega⟩
  let n : Fin 8192 := ⟨1024 * (t.val % 8) + r.val, by omega⟩
  rw [out_val (grid0.coords t) t _ _ _ _ _ _ _ _ _ _ _ _ _ _ _ _ _ _ _ _ _ (coord_eq t) r k]
  have e₀ : 1024 * (t.val % 8) + r.val + 16 = 1024 * (t.val % 8) + (16 + r.val) := by omega
  rw [pad_eq m c t ⟨15 + r.val, by omega⟩ b rfl n.val (show 1024 * (t.val % 8) + r.val + 15 = 1024 * (t.val % 8) + (15 + r.val) by omega) (show 15 ≤ 15 + r.val by omega) (show 15 + r.val ≤ 1040 by omega),
    pad_eq m c t ⟨16 + r.val, by omega⟩ b rfl (1 + n.val) (show 1 + (1024 * (t.val % 8) + r.val) + 15 = 1024 * (t.val % 8) + (16 + r.val) by omega) (show 15 ≤ 16 + r.val by omega) (show 16 + r.val ≤ 1040 by omega),
    pad_eq m c t ⟨17 + r.val, by omega⟩ b rfl (2 + n.val) (show 2 + (1024 * (t.val % 8) + r.val) + 15 = 1024 * (t.val % 8) + (17 + r.val) by omega) (show 15 ≤ 17 + r.val by omega) (show 17 + r.val ≤ 1040 by omega),
    bR_eq m c t _ hr b rfl n e₀, bH_eq m c t _ hr b rfl n e₀]
  simp only [block_17, block_18, block_19, block_20]
  have hq : (⟨(1024 * t.val + r.val) / 8192, by omega⟩ : Fin 4) = b := Fin.ext (show (1024 * t.val + r.val) / 8192 = t.val / 8 by omega)
  have hm : (⟨(1024 * t.val + r.val) % 8192, by omega⟩ : Fin 8192) = n := Fin.ext (show (1024 * t.val + r.val) % 8192 = 1024 * (t.val % 8) + r.val by omega)
  show _ = (args m c).out ⟨(1024 * t.val + r.val) / 8192, _⟩ ⟨(1024 * t.val + r.val) % 8192, _⟩ k
  rw [hq, hm]
  rfl

theorem flushed_eq (t : Fin cfg0.N) : (dats m 0 c).flushed 21 t = ((cfg0.win 21).blk t).view.read (Elt Ideal) (result m c) := by
  rw [flushed21]
  funext j
  rw [View.read_apply]
  obtain ⟨r, k, rfl⟩ : ∃ (r k : Fin 1024), j = (ix2 r k : S1024x1024.Idx) := ⟨j 0, j 1, by
    funext a
    fin_cases a <;> rfl⟩
  refine (block_eq m c t r k).trans ?_
  show result m c _ = result m c _
  congr 1
  funext a
  apply Fin.ext
  match a with
  | ⟨0, _⟩ => show 1024 * t.val + r.val = win0_21.index t 0 * 1024 + 1 * r.val; rw [index_21]; show _ = t.val * 1024 + 1 * r.val; omega
  | ⟨1, _⟩ => show k.val = win0_21.index t 1 * 1024 + 1 * k.val; rw [index_21]; show _ = 0 * 1024 + 1 * k.val; omega

/-- The result array after the run. -/
theorem final : (dats m 0 c).arrAt 21 cfg0.N = result m c :=
  (dats m 0 c).arrAt_eq_of_cover 21 (result m c) (fun t _ => flushed_eq m c t) fun i => by
    have i0 : (i 0 : ℕ) < 32768 := (i 0).isLt
    have i1 : (i 1 : ℕ) < 1024 := (i 1).isLt
    let t : Fin cfg0.N := ⟨(i 0 : ℕ) / 1024, by show _ < 32; omega⟩
    refine ⟨t, flush0_21 t, ?_⟩
    show i ∈ ((View.whole main_v26).slice (win0_21.rect t)).set
    rw [View.set_slice_whole, Rect.mem_set_unit]
    have ht : t.val = (i 0 : ℕ) / 1024 := rfl
    intro a
    match a with
    | ⟨0, _⟩ => show win0_21.index t 0 * 1024 ≤ (i 0 : ℕ) ∧ (i 0 : ℕ) < win0_21.index t 0 * 1024 + 1024; rw [index_21]; show t.val * 1024 ≤ _ ∧ _ < t.val * 1024 + 1024; omega
    | ⟨1, _⟩ => show win0_21.index t 1 * 1024 ≤ (i 1 : ℕ) ∧ (i 1 : ℕ) < win0_21.index t 1 * 1024 + 1024; rw [index_21]; show 0 * 1024 ≤ _ ∧ _ < 0 * 1024 + 1024; omega

end Cert.Tail.Result
end
-- ==== Proof.Tail.Claims.lean ====
/-
  The claims about the tail call: the kernel's result beside the reference's.
-/
module

public import proofs.«01_k».proof.Defs
public import proofs.«01_k».proof.Proof.Tail.Kernel
public import proofs.«01_k».proof.Proof.Gen.Kernel2.Frame
public import proofs.«01_k».proof.Proof.Gen.Reference2Ideal.Run
public import Idealize.ShloMosaic.Lib.Quiescent

@[expose] public section

set_option maxRecDepth 16384

noncomputable section

namespace Cert.Tail

open Idealize.ShloMosaic Idealize.ShloMosaic.TcCoe Idealize.SL.Sem

theorem frame_kernel : Cert.quiescent_Kernel2 (hKernel2 := Cert.Kernel2.Gen.facts) := fun m ρ _ => Cert.Kernel2.Gen.frame m ρ

theorem frame_kernelIdeal : Cert.quiescent_Kernel2Ideal (hKernel2Ideal := Cert.Kernel2Ideal.Gen.facts) := fun m ρ _ => Cert.Kernel2Ideal.Gen.frame m ρ

theorem frame_referenceIdeal : Cert.quiescent_Reference2Ideal (hReference2Ideal := Cert.Reference2Ideal.Gen.facts) := fun m ρ _ =>
  (θ_run _ _ _).mono (fun r h => ⟨fun c => (h c).2, sem_eq_zero_of_no_sems rfl r.2⟩) (Cert.Reference2Ideal.Value.run m ρ)

theorem algebraic : Cert.algebraic_Kernel2Ideal_Reference2Ideal (hKernel2Ideal := Cert.Kernel2Ideal.Gen.facts)
    (hReference2Ideal := Cert.Reference2Ideal.Gen.facts) := by
  intro m g m' g' _ hagree
  refine ⟨fun c => (Cert.Kernel2Ideal.Gen.dats m 0 c).arrAt 21 Cert.Kernel2Ideal.cfg0.N, ?_, ?_⟩
  · exact Cert.Kernel2Ideal.Value.run_blocks m g
  · refine (θ_run _ _ _).mono (fun r h c => ⟨(h c).1.trans ?_, (h c).2⟩) (Cert.Reference2Ideal.Value.run m' g')
    obtain ⟨a0, a1, a2, a3, a4, a5, a6, a7, a8, a9⟩ := hagree c
    refine Eq.trans ?_ (Result.final m c).symm
    rw [Cert.Reference2Ideal.Read.val_main_v82_eq, a0, a1, a2, a3, a4, a5, a6, a7, a8, a9]
    funext i
    idx_vars i
    exact Ref.out_val (Blocks.arg0 m c) (Blocks.arg1 m c) (Blocks.arg2 m c) (Blocks.arg3 m c) (Blocks.arg4 m c) (Blocks.arg5 m c)
      (Blocks.arg6 m c) (Blocks.arg7 m c) (Blocks.arg8 m c) (Blocks.arg9 m c) _ _

end Cert.Tail
end
-- ==== Proof.Proj.Row.lean ====
/-
  The in-projection of the layer on one row of 1024 channels: the modulated norm, the products with the columns of the
  weight, the norm of each group of 64 channels, and the rotation of the queries and keys.
-/
module

public import Idealize.ShloMosaic.PureOps.Ideal
public import Idealize.ShloMosaic.PureOps.Ideal.Laws

@[expose] public section

noncomputable section

namespace Cert.Proj

open Idealize.ShloMosaic

/-- One row of channels. -/
abbrev Row := Fin 1024 → EReal

/-- One row of the queries' or keys' channels: eight groups of 64. -/
abbrev Heads := Fin 512 → EReal

/-- The row over its root mean square, with its gain, scale and shift. -/
def normed (x gain scale shift : Row) : Row := fun d =>
  x d * Ideal.rsqrt (Ideal.div (∑ k, x k * x k) (Ideal.ofBits .f32 0x44800000#32) + Ideal.ofBits .f32 0x358637BD#32) * gain d * (1 + scale d) + shift d

/-- The product of a row with one column of the weight. -/
def column (h : Row) (w : Fin 1024 → Fin 3072 → EReal) (d : Fin 3072) : EReal := ∑ k, h k * w k d

/-- A group's channels over their root mean square, with the gain. -/
def grouped (p : Heads) (gain : Fin 64 → EReal) : Heads := fun d =>
  p d * Ideal.rsqrt (Ideal.div (∑ j : Fin 64, p ⟨d.val / 64 * 64 + j.val, by omega⟩ * p ⟨d.val / 64 * 64 + j.val, by omega⟩) (Ideal.ofBits .f32 0x42800000#32) + Ideal.ofBits .f32 0x358637BD#32)
    * gain ⟨d.val % 64, by omega⟩

/-- The four quarters of a group: two pairs, the first rotated by the row's angle and the second by the column's. -/
def rotated (t : Heads) (cosR sinR cosC sinC : Fin 16 → EReal) : Heads := fun d =>
  if h₀ : d.val % 64 < 16 then t d * cosR ⟨d.val % 64, h₀⟩ - t ⟨d.val + 16, by omega⟩ * sinR ⟨d.val % 64, h₀⟩
  else if h₁ : d.val % 64 < 32 then t ⟨d.val - 16, by omega⟩ * sinR ⟨d.val % 64 - 16, by omega⟩ + t d * cosR ⟨d.val % 64 - 16, by omega⟩
  else if h₂ : d.val % 64 < 48 then t d * cosC ⟨d.val % 64 - 32, by omega⟩ - t ⟨d.val + 16, by omega⟩ * sinC ⟨d.val % 64 - 32, by omega⟩
  else t ⟨d.val - 16, by omega⟩ * sinC ⟨d.val % 64 - 48, by omega⟩ + t d * cosC ⟨d.val % 64 - 48, by omega⟩

/-- A quantity between itself and the inverse of one plus the exponential of its negative. -/
def gated (g : EReal) : EReal := g * Ideal.div 1 (1 + Ideal.exp (-g))

/-- A whole number below 2³¹ as a real. -/
def whole (n : Nat) : EReal := (((BitVec.ofNat 32 n).toInt : ℝ) : EReal)

/-- The frequency of a pair of channels. -/
def freq (j : Fin 16) : EReal := Ideal.pow (Ideal.ofBits .f32 0x461C4000#32) (Ideal.div (-(Ideal.ofBits .f32 0x40000000#32 * whole j.val)) (Ideal.ofBits .f32 0x42000000#32))

/-- The angle of a pair at place `n`, from its row of 64 places. -/
def rowAngle (n : Fin 8192) (j : Fin 16) : EReal := whole (n.val / 64) * freq j

/-- The angle of a pair at place `n`, from its place in the row. -/
def colAngle (n : Fin 8192) (j : Fin 16) : EReal := whole (n.val % 64) * freq j

/-- What the in-projection takes: the stream, the modulation rows, the weights, the gains and the rotation tables. -/
structure Args where
  x : Fin 4 → Fin 8192 → Row
  shift : Fin 4 → Row
  scale : Fin 4 → Row
  gain : Row
  w : Fin 1024 → Fin 3072 → EReal
  qg : Fin 64 → EReal
  kg : Fin 64 → EReal
  cosR : Fin 8192 → Fin 16 → EReal
  sinR : Fin 8192 → Fin 16 → EReal
  cosC : Fin 8192 → Fin 16 → EReal
  sinC : Fin 8192 → Fin 16 → EReal

namespace Args

variable (A : Args) (b : Fin 4) (n : Fin 8192)

/-- Row `n` after the norm. -/
def hid : Row := normed (A.x b n) A.gain (A.scale b) (A.shift b)

/-- Row `n` of the Fourier mixer's columns. -/
def u : Heads := fun d => column (A.hid b n) A.w ⟨d.val, by omega⟩

/-- Row `n` of the queries. -/
def q : Heads := rotated (grouped (fun d => column (A.hid b n) A.w ⟨512 + d.val, by omega⟩) A.qg) (A.cosR n) (A.sinR n) (A.cosC n) (A.sinC n)

/-- Row `n` of the keys. -/
def k : Heads := rotated (grouped (fun d => column (A.hid b n) A.w ⟨1024 + d.val, by omega⟩) A.kg) (A.cosR n) (A.sinR n) (A.cosC n) (A.sinC n)

/-- Row `n` of the values. -/
def v : Heads := fun d => column (A.hid b n) A.w ⟨1536 + d.val, by omega⟩

/-- Row `n` of the gate. -/
def g : Row := fun d => gated (column (A.hid b n) A.w ⟨2048 + d.val, by omega⟩)

end Args

/-! ### The kernel's forms -/

/-- Division by 64 is the product with its inverse. -/
theorem div_group (s : EReal) : Ideal.div s (Ideal.ofBits .f32 0x42800000#32) = s * Ideal.ofBits .f32 0x3C800000#32 := by
  have h : Ideal.ofBits .f32 0x42800000#32 = ((64 : ℝ) : EReal) := by
    simp [Ideal.ofBits, Ideal.ieee, -EReal.coe_mul]; norm_num
  have h' : Ideal.ofBits .f32 0x3C800000#32 = ((1 / 64 : ℝ) : EReal) := by
    simp [Ideal.ofBits, Ideal.ieee, -EReal.coe_mul]; norm_num
  rw [h, h', Ideal.div_coe (by norm_num)]

/-- A sum over 256 channels weighted by membership in one group of 64 is the sum over the group. -/
theorem sum_group (f : Fin 256 → EReal) (g : Fin 4) (m : Fin 256 → EReal) (hm : ∀ x : Fin 256, m x = if x.val / 64 = g.val then 1 else 0) :
    ∑ x, f x * m x = ∑ j : Fin 64, f ⟨g.val * 64 + j.val, by omega⟩ := by
  have e : ∀ h : Fin 256 → EReal, ∑ x, h x = ∑ a : Fin 4, ∑ j : Fin 64, h ⟨a.val * 64 + j.val, by omega⟩ := fun h => by
    refine Eq.trans ?_ (Fintype.sum_prod_type' (fun (a : Fin 4) (j : Fin 64) => h ⟨a.val * 64 + j.val, by omega⟩))
    refine (Fintype.sum_equiv (finProdFinEquiv (m := 4) (n := 64)) _ _ fun p => ?_).symm
    exact congrArg h (Fin.ext (show p.1.val * 64 + p.2.val = p.2.val + 64 * p.1.val by omega))
  rw [e, Finset.sum_eq_single g]
  · refine Finset.sum_congr rfl fun j _ => ?_
    rw [hm, if_pos (show (g.val * 64 + j.val) / 64 = g.val by omega), mul_one]
  · intro a _ ha
    refine Finset.sum_eq_zero fun j _ => ?_
    rw [hm, if_neg (show ¬ (a.val * 64 + j.val) / 64 = g.val from fun h => ha (Fin.ext (by omega))), mul_zero]
  · exact fun h => absurd (Finset.mem_univ g) h

/-- The group norm with the sum over 256 channels weighted by membership. -/
def groupedBy (p : Heads) (gain : Heads) (m : Fin 256 → Fin 256 → EReal) : Heads := fun d =>
  p d * Ideal.rsqrt ((if h : d.val < 256 then ∑ x : Fin 256, p ⟨x.val, by omega⟩ * p ⟨x.val, by omega⟩ * m x ⟨d.val, h⟩
      else ∑ x : Fin 256, p ⟨256 + x.val, by omega⟩ * p ⟨256 + x.val, by omega⟩ * m x ⟨d.val - 256, by omega⟩) * Ideal.ofBits .f32 0x3C800000#32 + Ideal.ofBits .f32 0x358637BD#32)
    * gain d

theorem groupedBy_eq (p gain' : Heads) (gain : Fin 64 → EReal) (m : Fin 256 → Fin 256 → EReal) (hm : ∀ x y : Fin 256, m x y = if x.val / 64 = y.val / 64 then 1 else 0)
    (hg : ∀ d : Fin 512, gain' d = gain ⟨d.val % 64, by omega⟩) : groupedBy p gain' m = grouped p gain := by
  funext d
  unfold groupedBy grouped
  rw [div_group, hg]
  by_cases h : d.val < 256
  · rw [dif_pos h, sum_group (fun x => p ⟨x.val, by omega⟩ * p ⟨x.val, by omega⟩) ⟨d.val / 64, by omega⟩ (fun x => m x ⟨d.val, h⟩) (fun x => hm _ _)]
  · rw [dif_neg h, sum_group (fun x => p ⟨256 + x.val, by omega⟩ * p ⟨256 + x.val, by omega⟩) ⟨(d.val - 256) / 64, by omega⟩ (fun x => m x ⟨d.val - 256, by omega⟩) (fun x => hm _ _)]
    have e : ∀ j : Fin 64, (⟨256 + ((d.val - 256) / 64 * 64 + j.val), by omega⟩ : Fin 512) = ⟨d.val / 64 * 64 + j.val, by omega⟩ := fun j => Fin.ext (by
      show 256 + ((d.val - 256) / 64 * 64 + j.val) = d.val / 64 * 64 + j.val
      omega)
    simp only [e]

/-- The rotation as one product with a row of cosines and one of the partner channels with a row of signed sines. -/
def rotatedBy (t cs sn : Heads) : Heads := fun d =>
  t d * cs d + (if d.val % 32 < 16 then t ⟨(d.val + 16) % 512, by omega⟩ else t ⟨(d.val + 496) % 512, by omega⟩) * sn d

/-- One group's table from its four quarters. -/
def table (a b c e : Fin 16 → EReal) (d : Fin 512) : EReal :=
  if h₀ : d.val % 64 < 16 then a ⟨d.val % 64, h₀⟩ else if h₁ : d.val % 64 < 32 then b ⟨d.val % 64 - 16, by omega⟩
  else if h₂ : d.val % 64 < 48 then c ⟨d.val % 64 - 32, by omega⟩ else e ⟨d.val % 64 - 48, by omega⟩

theorem rotatedBy_eq (t : Heads) (cosR sinR cosC sinC : Fin 16 → EReal) :
    rotatedBy t (table cosR cosR cosC cosC) (table (fun j => -sinR j) sinR (fun j => -sinC j) sinC) = rotated t cosR sinR cosC sinC := by
  funext d
  unfold rotatedBy rotated table
  by_cases h₀ : d.val % 64 < 16
  · simp only [dif_pos h₀]
    rw [if_pos (by omega), mul_neg, sub_eq_add_neg]
    have e : (d.val + 16) % 512 = d.val + 16 := by omega
    simp only [e]
  · by_cases h₁ : d.val % 64 < 32
    · simp only [dif_neg h₀, dif_pos h₁]
      rw [if_neg (by omega), add_comm]
      have e : (d.val + 496) % 512 = d.val - 16 := by omega
      simp only [e]
    · by_cases h₂ : d.val % 64 < 48
      · simp only [dif_neg h₀, dif_neg h₁, dif_pos h₂]
        rw [if_pos (by omega), mul_neg, sub_eq_add_neg]
        have e : (d.val + 16) % 512 = d.val + 16 := by omega
        simp only [e]
      · simp only [dif_neg h₀, dif_neg h₁, dif_neg h₂]
        rw [if_neg (by omega), add_comm]
        have e : (d.val + 496) % 512 = d.val - 16 := by omega
        simp only [e]

end Cert.Proj
end
-- ==== Proof.Proj.Read.lean ====
/-
  The values that the body of the in-projection computes, read at an index over the extended reals.
-/
module

public import proofs.«01_k».proof.Proof.Gen.Kernel3Ideal.Value
public import proofs.«01_k».proof.Proof.Proj.Row
public import Idealize.ShloMosaic.Lib.Pointwise
public import Idealize.ShloMosaic.Lib.Pipeline.Value

@[expose] public section

set_option maxRecDepth 16384

noncomputable section

namespace Cert.Proj

open Cert.Kernel3Ideal Cert.Kernel3Ideal.Gen Idealize.ShloMosaic

theorem hid_apply (v0 : Vec Ideal S1024x1024 .f32) (v2 : Vec Ideal S1x1024 .f32) (v4 v6 : Vec Ideal S1x1x1024 .f32) (r k : Fin 1024) :
    k0_pay2 v0 v2 v4 v6 (ix2 r k) = normed (fun k => v0 (ix2 r k)) (fun k => v2 (ix2 0 k)) (fun k => v6 (ix3 0 0 k)) (fun k => v4 (ix3 0 0 k)) k := by
  pointwise [k0_pay2]
  rfl

section Heads

variable (h : FVec Ideal S1024x1024 .bf16) (cs sn : FVec Ideal S1024x128 .f32) (bd : FVec Ideal S256x256 .bf16) (w : Vec Ideal S1024x512 .bf16) (g : Vec Ideal S1x512 .f32) (r : Fin 1024) (d : Fin 512)

theorem grouped_apply : k0_pay365 h bd w g (ix2 r d)
    = groupedBy (fun d => ∑ k, h (ix2 r k) * w (ix2 k d)) (fun d => g (ix2 0 d)) (fun x y => bd (ix2 x y)) d := by
  pointwise [k0_pay365]
  rfl

theorem lane_lt : ∀ d : Fin 512, IntOp.cmpi CmpIPredicate.slt (IntOp.andi (BitVec.ofNat 32 d.val) 31#32) 16#32 = if d.val % 32 < 16 then 1#1 else 0#1 := by
  decide +kernel

theorem partner_apply : k0_pay366 h bd w g (ix2 r d)
    = if d.val % 32 < 16 then k0_pay365 h bd w g (ix2 r ⟨(d.val + 16) % 512, by omega⟩) else k0_pay365 h bd w g (ix2 r ⟨(d.val + 496) % 512, by omega⟩) := by
  have e₁ : (d.val + 512 - 496) % 512 = (d.val + 16) % 512 := by omega
  have e₂ : (d.val + 512 - 16) % 512 = (d.val + 496) % 512 := by omega
  pointwise [k0_pay366]
  simp only [e₁, e₂, lane_lt]
  by_cases c : d.val % 32 < 16
  · rw [if_pos c, if_pos c]; rfl
  · rw [if_neg c, if_neg c]; rfl

theorem repeated_apply : k0_pay367 sn (ix2 r d) = sn (ix2 r ⟨d.val % 128, by omega⟩) := by
  pointwise [k0_pay367]
  split_ifs <;> congr 2 <;> apply Fin.ext <;> dsimp only <;> omega

theorem heads_apply : k0_pay369 (k0_pay366 h bd w g) (k0_pay367 sn) (k0_pay368 h cs bd w g) (ix2 r d)
    = rotatedBy (groupedBy (fun d => ∑ k, h (ix2 r k) * w (ix2 k d)) (fun d => g (ix2 0 d)) (fun x y => bd (ix2 x y)))
        (fun d => cs (ix2 r ⟨d.val % 128, by omega⟩)) (fun d => sn (ix2 r ⟨d.val % 128, by omega⟩)) d := by
  have e : k0_pay368 h cs bd w g = mulf (k0_pay365 h bd w g) (k0_pay367 cs) := rfl
  rw [e]
  pointwise [k0_pay369]
  rw [partner_apply, repeated_apply, repeated_apply]
  simp only [grouped_apply]
  rfl

theorem keys_eq : k0_pay370 h cs sn bd w g = k0_pay369 (k0_pay366 h bd w g) (k0_pay367 sn) (k0_pay368 h cs bd w g) := rfl

end Heads

theorem value0 (h : FVec Ideal S1024x1024 .bf16) (w : Vec Ideal S1024x512 .bf16) (r : Fin 1024) (d : Fin 128) :
    k0_pay372 h w (ix4 0 0 d r) = ∑ k, h (ix2 r k) * w (ix2 k ⟨d.val, by omega⟩) := by
  pointwise [k0_pay372, k0_pay371]

theorem value1 (h : FVec Ideal S1024x1024 .bf16) (w : Vec Ideal S1024x512 .bf16) (r : Fin 1024) (d : Fin 128) :
    k0_pay373 h w (ix4 0 0 d r) = ∑ k, h (ix2 r k) * w (ix2 k ⟨128 + d.val, by omega⟩) := by
  pointwise [k0_pay373, k0_pay371]

theorem value2 (h : FVec Ideal S1024x1024 .bf16) (w : Vec Ideal S1024x512 .bf16) (r : Fin 1024) (d : Fin 128) :
    k0_pay374 h w (ix4 0 0 d r) = ∑ k, h (ix2 r k) * w (ix2 k ⟨256 + d.val, by omega⟩) := by
  pointwise [k0_pay374, k0_pay371]

theorem value3 (h : FVec Ideal S1024x1024 .bf16) (w : Vec Ideal S1024x512 .bf16) (r : Fin 1024) (d : Fin 128) :
    k0_pay375 h w (ix4 0 0 d r) = ∑ k, h (ix2 r k) * w (ix2 k ⟨384 + d.val, by omega⟩) := by
  pointwise [k0_pay375, k0_pay371]

theorem gate_apply (h : FVec Ideal S1024x1024 .bf16) (w : Vec Ideal S1024x1024 .bf16) (r d : Fin 1024) :
    k0_pay1 (k0_pay376 h w) (k0_pay377 h w) k0_pay378 (ix2 r d) = gated (∑ k, h (ix2 r k) * w (ix2 k d)) := by
  pointwise [k0_pay1, k0_pay376, k0_pay377, k0_pay378]
  rw [zero_sub, gated]

end Cert.Proj
end
-- ==== Proof.Proj.Block.lean ====
/-
  The blocks that one grid point of the in-projection leaves: the body's stores read back as functions of its input blocks.
-/
module

public import proofs.«01_k».proof.Proof.Proj.Read
public import Idealize.ShloMosaic.Lib.Pipeline.ValueKit.Tiles

@[expose] public section

set_option maxRecDepth 16384

noncomputable section

namespace Cert.Proj

open Cert.Kernel3Ideal Cert.Kernel3Ideal.Gen Idealize.ShloMosaic Idealize.ShloMosaic.TcCoe

section Heads

variable {F : FTy → Type} [FloatOps F]

/-- Four heads' values, one above the other. -/
def heads (v₀ v₁ v₂ v₃ : Vec F S1x1x128x1024 .bf16) : Vec F S1x4x128x1024 .bf16 :=
  View.canon [⟨Rect.unit ![0, 3, 0, 0] ![1, 1, 128, 1024] inb_S1x4x128x1024_S1x1x128x1024_0_3_0_0, v₃⟩,
    ⟨Rect.unit ![0, 2, 0, 0] ![1, 1, 128, 1024] inb_S1x4x128x1024_S1x1x128x1024_0_2_0_0, v₂⟩,
    ⟨Rect.unit ![0, 1, 0, 0] ![1, 1, 128, 1024] inb_S1x4x128x1024_S1x1x128x1024_0_1_0_0, v₁⟩,
    ⟨Rect.unit ![0, 0, 0, 0] ![1, 1, 128, 1024] inb_S1x4x128x1024_S1x1x128x1024_0_0_0_0, v₀⟩]

/-- One head's piece, where it holds an index. -/
theorem tileAt (a : Fin 4) (d : Fin 128) (r : Fin 1024) (o : Nat) (w : Vec F S1x1x128x1024 .bf16) (v : F .bf16)
    (h : a.val = o → w (ix4 0 0 d r) = v) : View.TileAt (Val := Elt F) (S := S1x4x128x1024) (e := .bf16) (ix4 0 a d r) ![0, o, 0, 0] ![1, 1, 128, 1024] w v := by
  intro x hx
  have h₁ : a.val = o + (x 1).val := hx 1
  have h₂ : d.val = 0 + (x 2).val := hx 2
  have h₃ : r.val = 0 + (x 3).val := hx 3
  have l₀ : (x 0).val < 1 := (x 0).isLt
  have l₁ : (x 1).val < 1 := (x 1).isLt
  have e : x = ix4 0 0 d r := by
    funext q
    match q with
    | ⟨0, _⟩ => exact Fin.ext (show (x 0).val = 0 by omega)
    | ⟨1, _⟩ => exact Fin.ext (show (x 1).val = 0 by omega)
    | ⟨2, _⟩ => exact Fin.ext (show (x 2).val = d.val by omega)
    | ⟨3, _⟩ => exact Fin.ext (show (x 3).val = r.val by omega)
  rw [e]
  exact h (by omega)

theorem heads_at (v₀ v₁ v₂ v₃ : Vec F S1x1x128x1024 .bf16) (a : Fin 4) (d : Fin 128) (r : Fin 1024) (v : F .bf16) (h₀ : a.val = 0 → v₀ (ix4 0 0 d r) = v)
    (h₁ : a.val = 1 → v₁ (ix4 0 0 d r) = v) (h₂ : a.val = 2 → v₂ (ix4 0 0 d r) = v) (h₃ : a.val = 3 → v₃ (ix4 0 0 d r) = v) : heads v₀ v₁ v₂ v₃ (ix4 0 a d r) = v :=
  View.canon_eq_of_allAt _ _ _ (View.cover_of_tiled_head _ _ _ rfl _)
    (View.allAt_cons_unit _ _ _ _ _ (tileAt a d r 3 v₃ v h₃) (View.allAt_cons_unit _ _ _ _ _ (tileAt a d r 2 v₂ v h₂)
      (View.allAt_cons_unit _ _ _ _ _ (tileAt a d r 1 v₁ v h₁) (View.allAt_cons_unit _ _ _ _ _ (tileAt a d r 0 v₀ v h₀) (View.allAt_nil _ _)))))

end Heads

section Stores

variable {F : FTy → Type} [FloatOps F]

variable (c : Dev nD) (i : grid0.Coords) (arg1 : Memref sig .tc .vmem S1024x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S256x256 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1x64x16x512 .bf16) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S1x4x128x1024 .bf16) (harg18 : arg18.IsWhole) (arg19 : Memref sig .tc .vmem S1024x1024 .bf16) (harg19 : arg19.IsWhole) (arg20 : Memref sig .tc .vmem S4x1088x128 .f32) (harg20 : arg20.IsWhole)
    (x0 : Vec F S1024x1024 .f32) (x1 : Vec F S1x1x1024 .f32) (x2 : Vec F S1x1x1024 .f32) (x3 : Vec F S1x1024 .f32) (x4 : Vec F S1024x128 .f32) (x5 : Vec F S1024x128 .f32) (x6 : Vec F S1x512 .f32) (x7 : Vec F S1x512 .f32) (x8 : Vec F S256x256 .bf16) (x9 : Vec F S1024x512 .bf16) (x10 : Vec F S1024x512 .bf16) (x11 : Vec F S1024x512 .bf16) (x12 : Vec F S1024x512 .bf16) (x13 : Vec F S1024x1024 .bf16)

theorem hz2 : (![0, 0] : Fin 2 → Nat) = fun _ => 0 := by decide

theorem hz3 : (![0, 0, 0] : Fin 3 → Nat) = fun _ => 0 := by decide

theorem out_15 : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13
    = k0_pay369 (k0_pay366 (k0_pay2 x0 x3 x1 x2) (k0_pay5 x8) x10 x6) (k0_pay367 (k0_pay4 x5)) (k0_pay368 (k0_pay2 x0 x3 x1 x2) (k0_pay3 x4) (k0_pay5 x8) x10 x6) := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13)]
  unfold kernelRun0_A
  dsimp only
  sl_unfold_words
  rw [View.canon_cons_unit_zero (S := S1024x512) (by decide)]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1024) hz2, View.ld_unit_zero (S := S1x1024) hz2, View.ld_unit_zero (S := S1x1x1024) hz3,
    View.ld_unit_zero (S := S1024x128) hz2, View.ld_unit_zero (S := S1x512) hz2, View.ld_unit_zero (S := S256x256) hz2, View.ld_unit_zero (S := S1024x512) hz2]

theorem out_16 : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13
    = k0_pay370 (k0_pay2 x0 x3 x1 x2) (k0_pay3 x4) (k0_pay4 x5) (k0_pay5 x8) x11 x7 := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13)]
  unfold kernelRun0_A
  dsimp only
  sl_unfold_words
  rw [View.canon_cons_unit_zero (S := S1024x512) (by decide)]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1024) hz2, View.ld_unit_zero (S := S1x1024) hz2, View.ld_unit_zero (S := S1x1x1024) hz3,
    View.ld_unit_zero (S := S1024x128) hz2, View.ld_unit_zero (S := S1x512) hz2, View.ld_unit_zero (S := S256x256) hz2, View.ld_unit_zero (S := S1024x512) hz2]

theorem out_17 : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13
    = heads (k0_pay372 (k0_pay2 x0 x3 x1 x2) x12) (k0_pay373 (k0_pay2 x0 x3 x1 x2) x12) (k0_pay374 (k0_pay2 x0 x3 x1 x2) x12) (k0_pay375 (k0_pay2 x0 x3 x1 x2) x12) := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1024) hz2, View.ld_unit_zero (S := S1x1024) hz2, View.ld_unit_zero (S := S1x1x1024) hz3,
    View.ld_unit_zero (S := S1024x128) hz2, View.ld_unit_zero (S := S1x512) hz2, View.ld_unit_zero (S := S256x256) hz2, View.ld_unit_zero (S := S1024x512) hz2]
  rfl

theorem out_18 : out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13
    = k0_pay1 (k0_pay376 (k0_pay2 x0 x3 x1 x2) x13) (k0_pay377 (k0_pay2 x0 x3 x1 x2) x13) k0_pay378 := by
  unfold out0_A_18
  rw [View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13)]
  unfold kernelRun0_A
  dsimp only
  sl_unfold_words
  rw [View.canon_cons_unit_zero (S := S1024x1024) (by decide)]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1024) hz2, View.ld_unit_zero (S := S1x1024) hz2, View.ld_unit_zero (S := S1x1x1024) hz3,
    View.ld_unit_zero (S := S1024x128) hz2, View.ld_unit_zero (S := S1x512) hz2, View.ld_unit_zero (S := S256x256) hz2, View.ld_unit_zero (S := S1024x512) hz2]

end Stores

/-- Four heads' values as one product. -/
theorem values_apply (h : FVec Ideal S1024x1024 .bf16) (w : Vec Ideal S1024x512 .bf16) (a : Fin 4) (d : Fin 128) (r : Fin 1024) :
    heads (k0_pay372 h w) (k0_pay373 h w) (k0_pay374 h w) (k0_pay375 h w) (ix4 0 a d r) = ∑ k, h (ix2 r k) * w (ix2 k ⟨a.val * 128 + d.val, by omega⟩) := by
  have e : ∀ (o : Nat) (ho : o + d.val < 512), a.val * 128 + d.val = o + d.val → ∑ k, h (ix2 r k) * w (ix2 k ⟨o + d.val, ho⟩) = ∑ k, h (ix2 r k) * w (ix2 k ⟨a.val * 128 + d.val, by omega⟩) :=
    fun o ho ha => by simp only [ha]
  refine heads_at _ _ _ _ a d r _ (fun ha => ?_) (fun ha => ?_) (fun ha => ?_) (fun ha => ?_)
  · rw [value0]
    simpa only [Nat.zero_add] using e 0 (by omega) (by omega)
  · rw [value1]
    exact e 128 (by omega) (by omega)
  · rw [value2]
    exact e 256 (by omega) (by omega)
  · rw [value3]
    exact e 384 (by omega) (by omega)

end Cert.Proj
end
-- ==== Proof.Proj.Stage.lean ====
/-
  The columns of the in-projection that go to the Fourier mixer: a block's product is stored into a buffer in 64 pieces, each
  of 64 rows and 128 channels at a pitch of 68 rows, and read back in strides of one row from each piece.
-/
module

public import proofs.«01_k».proof.Proof.Proj.Block

@[expose] public section

set_option maxRecDepth 16384

noncomputable section

namespace Cert.Proj

open Cert.Kernel3Ideal Cert.Kernel3Ideal.Gen Idealize.ShloMosaic Idealize.ShloMosaic.TcCoe

/-- What the buffer holds of the product `U`: quarter of the channels first, then 16 groups of 64 rows at a pitch of 68. -/
def staged (U : FVec Ideal S1024x512 .f32) (y : S4x1088x128.Idx) : EReal :=
  U (ix2 ⟨((y 1).val / 68 * 64 + (y 1).val % 68) % 1024, by omega⟩ ⟨(y 0).val * 128 + (y 2).val, by
    have h₀ : (y 0).val < 4 := (y 0).isLt
    have h₂ : (y 2).val < 128 := (y 2).isLt
    omega⟩)

/-- A piece of the buffer: the box of one quarter and one group, with that part of the product. -/
def IsPiece (U : FVec Ideal S1024x512 .f32) (q : View.Piece (Elt Ideal) S4x1088x128 .f32) : Prop :=
  ∃ (s o : Nat) (inb : ∀ a, (![s, o, 0] : Fin 3 → Nat) a + S1x64x128.size a ≤ S4x1088x128.size a) (p : S1x64x128.Idx → EReal),
    q = ⟨Rect.unit (s := S4x1088x128) ![s, o, 0] S1x64x128.size inb, p⟩ ∧ ∀ x, p x = staged U ((Rect.unit (s := S4x1088x128) ![s, o, 0] S1x64x128.size inb).emb x)

/-- The kernel's store of one part of the product is such a piece. -/
theorem isPiece (U : FVec Ideal S1024x512 .f32) (s o n d : Nat) (inb : ∀ a, (![s, o, 0] : Fin 3 → Nat) a + S1x64x128.size a ≤ S4x1088x128.size a)
    (hs : S1024x512.Slices ![n, d] S64x128) (hc : S64x128.ShapeCasts S1x64x128) (h : o = n / 64 * 68 ∧ n % 64 = 0 ∧ d = s * 128 ∧ n < 1024 ∧ s < 4) :
    IsPiece U ⟨Rect.unit (s := S4x1088x128) ![s, o, 0] S1x64x128.size inb, shapeCast S1x64x128 (extractStridedSlice S64x128 ![n, d] U hs) hc⟩ := by
  obtain ⟨ho, hn, hd, hn', hs'⟩ := h
  refine ⟨s, o, inb, _, rfl, fun x => ?_⟩
  obtain ⟨r, l, rfl⟩ : ∃ (r : Fin 64) (l : Fin 128), x = (ix3 0 r l : S1x64x128.Idx) := ⟨x 1, x 2, by
    funext a
    fin_cases a
    · exact Subsingleton.elim (α := Fin 1) _ _
    all_goals rfl⟩
  have e₀ : (((Rect.unit (s := S4x1088x128) ![s, o, 0] S1x64x128.size inb).emb (ix3 0 r l : S1x64x128.Idx)) 0).val = s := by
    show s + 1 * 0 = s
    omega
  have e₁ : (((Rect.unit (s := S4x1088x128) ![s, o, 0] S1x64x128.size inb).emb (ix3 0 r l : S1x64x128.Idx)) 1).val = o + r.val := by
    show o + 1 * r.val = o + r.val
    omega
  have e₂ : (((Rect.unit (s := S4x1088x128) ![s, o, 0] S1x64x128.size inb).emb (ix3 0 r l : S1x64x128.Idx)) 2).val = l.val := by
    show 0 + 1 * l.val = l.val
    omega
  have l₀ : n + r.val < 1024 := by omega
  have l₁ : d + l.val < 512 := by omega
  have e : shapeCast S1x64x128 (extractStridedSlice S64x128 ![n, d] U hs) hc (ix3 0 r l) = U (ix2 ⟨n + r.val, l₀⟩ ⟨d + l.val, l₁⟩) := by
    refine (shapeCast_apply _ hc (ix3 0 r l) (ix2 r l) ?_).trans (extractStridedSlice_apply ![n, d] U hs (ix2 r l) (ix2 ⟨n + r.val, l₀⟩ ⟨d + l.val, l₁⟩) (fun a => ?_))
    · rw [Shape.rowMajor_val_three, Shape.rowMajor_val_two]
      show r.val * 128 + l.val = (0 * 64 + r.val) * 128 + l.val
      omega
    · match a with
      | ⟨0, _⟩ => rfl
      | ⟨1, _⟩ => rfl
  rw [e]
  unfold staged
  refine congrArg U (congrArg₂ ix2 (Fin.ext ?_) (Fin.ext ?_))
  · dsimp only
    rw [e₁]
    omega
  · dsimp only
    rw [e₀, e₂]
    omega

section Stores

variable (c : Dev nD) (i : grid0.Coords) (arg1 : Memref sig .tc .vmem S1024x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S256x256 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1x64x16x512 .bf16) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S1x4x128x1024 .bf16) (harg18 : arg18.IsWhole) (arg19 : Memref sig .tc .vmem S1024x1024 .bf16) (harg19 : arg19.IsWhole) (arg20 : Memref sig .tc .vmem S4x1088x128 .f32) (harg20 : arg20.IsWhole)
    (x0 : Vec Ideal S1024x1024 .f32) (x1 : Vec Ideal S1x1x1024 .f32) (x2 : Vec Ideal S1x1x1024 .f32) (x3 : Vec Ideal S1x1024 .f32) (x4 : Vec Ideal S1024x128 .f32) (x5 : Vec Ideal S1024x128 .f32) (x6 : Vec Ideal S1x512 .f32) (x7 : Vec Ideal S1x512 .f32) (x8 : Vec Ideal S256x256 .bf16) (x9 : Vec Ideal S1024x512 .bf16) (x10 : Vec Ideal S1024x512 .bf16) (x11 : Vec Ideal S1024x512 .bf16) (x12 : Vec Ideal S1024x512 .bf16) (x13 : Vec Ideal S1024x1024 .bf16)

/-- The block's product. -/
abbrev mixed : FVec Ideal S1024x512 .f32 := kernelRun0_A.sl.r_4 (F := Ideal) c arg1 harg1 arg2 harg2 arg3 harg3 arg4 harg4 arg10 harg10 x0 x1 x2 x3 x9

/-- All stores into the buffer are such pieces. -/
theorem pieces : ∀ q ∈ (kernelRun0_A.sl.HS0_64 (F := Ideal) c arg1 harg1 arg2 harg2 arg3 harg3 arg4 harg4 arg10 harg10 x0 x1 x2 x3 x9), IsPiece (mixed c arg1 harg1 arg2 harg2 arg3 harg3 arg4 harg4 arg10 harg10 x0 x1 x2 x3 x9) q := by
  unfold kernelRun0_A.sl.HS0_64
  repeat refine List.forall_mem_cons.mpr ⟨isPiece _ _ _ _ _ _ _ _ ⟨rfl, rfl, rfl, by decide, by decide⟩, ?_⟩
  exact List.forall_mem_nil _

/-- Where a piece lies. -/
def corner (q : View.Piece (Elt Ideal) S4x1088x128 .f32) : Nat × Nat := (q.1.off 0, q.1.off 1)

/-- Every quarter and group has its piece. -/
theorem corners : ∀ (s : Fin 4) (n : Fin 16), (s.val, 68 * n.val) ∈ (kernelRun0_A.sl.HS0_64 (F := Ideal) c arg1 harg1 arg2 harg2 arg3 harg3 arg4 harg4 arg10 harg10 x0 x1 x2 x3 x9).map corner := by
  have e : (kernelRun0_A.sl.HS0_64 (F := Ideal) c arg1 harg1 arg2 harg2 arg3 harg3 arg4 harg4 arg10 harg10 x0 x1 x2 x3 x9).map corner = (List.finRange 64).map fun i => (3 - i.val % 4, 1020 - i.val / 4 * 68) := rfl
  rw [e]
  decide +kernel

/-- A load in strides of 68 rows: one row of each group. -/
theorem strided (s b : Nat) (hs : s < 4) (hb : b < 64) (inb : ∀ a, S1x16x128.size a = 0 ∨ (![s, b, 0] : Fin 3 → Nat) a + (![1, 68, 1] : Fin 3 → Nat) a * (S1x16x128.size a - 1) < S4x1088x128.size a) (n : Fin 16) (l : Fin 128) :
    arg20.view.readCov (kernelRun0_A.sl.HS0_64 (F := Ideal) c arg1 harg1 arg2 harg2 arg3 harg3 arg4 harg4 arg10 harg10 x0 x1 x2 x3 x9) (⟨![s, b, 0], S1x16x128.size, ![1, 68, 1], inb⟩ : LoadRect S4x1088x128) (ix3 0 n l : S1x16x128.Idx)
      = mixed c arg1 harg1 arg2 harg2 arg3 harg3 arg4 harg4 arg10 harg10 x0 x1 x2 x3 x9 (ix2 ⟨n.val * 64 + b, by omega⟩ ⟨s * 128 + l.val, by omega⟩) := by
  rw [View.readCov_eq_canon']
  dsimp only
  have e₀ : ((⟨![s, b, 0], S1x16x128.size, ![1, 68, 1], inb⟩ : LoadRect S4x1088x128).idx (ix3 0 n l : S1x16x128.Idx) 0).val = s := by
    show s + 1 * 0 = s
    omega
  have e₁ : ((⟨![s, b, 0], S1x16x128.size, ![1, 68, 1], inb⟩ : LoadRect S4x1088x128).idx (ix3 0 n l : S1x16x128.Idx) 1).val = b + 68 * n.val := rfl
  have e₂ : ((⟨![s, b, 0], S1x16x128.size, ![1, 68, 1], inb⟩ : LoadRect S4x1088x128).idx (ix3 0 n l : S1x16x128.Idx) 2).val = l.val := by
    show 0 + 1 * l.val = l.val
    omega
  generalize (⟨![s, b, 0], S1x16x128.size, ![1, 68, 1], inb⟩ : LoadRect S4x1088x128).idx (ix3 0 n l : S1x16x128.Idx) = y at e₀ e₁ e₂
  have hP := pieces c arg1 harg1 arg2 harg2 arg3 harg3 arg4 harg4 arg10 harg10 x0 x1 x2 x3 x9
  have hC := corners c arg1 harg1 arg2 harg2 arg3 harg3 arg4 harg4 arg10 harg10 x0 x1 x2 x3 x9 ⟨s, hs⟩ n
  rw [View.canon_apply_of_pieces (staged (mixed c arg1 harg1 arg2 harg2 arg3 harg3 arg4 harg4 arg10 harg10 x0 x1 x2 x3 x9)) _ (fun q hq => by obtain ⟨s, o, inb, p, rfl, hp⟩ := hP q hq; exact hp) y ?_]
  · unfold staged
    refine congrArg (mixed c arg1 harg1 arg2 harg2 arg3 harg3 arg4 harg4 arg10 harg10 x0 x1 x2 x3 x9) (congrArg₂ ix2 (Fin.ext ?_) (Fin.ext ?_))
    · dsimp only
      rw [e₁]
      omega
    · dsimp only
      rw [e₀, e₂]
  · obtain ⟨q, hq, hc⟩ := List.mem_map.1 hC
    refine ⟨q, hq, ?_⟩
    obtain ⟨s', o, inb', p, rfl, -⟩ := hP q hq
    have h₀ : s' = s := congrArg Prod.fst hc
    have h₁ : o = 68 * n.val := congrArg Prod.snd hc
    rw [Rect.mem_set_unit]
    intro x
    match x with
    | ⟨0, _⟩ => exact ⟨show s' ≤ (y 0).val by omega, show (y 0).val < s' + 1 by omega⟩
    | ⟨1, _⟩ => exact ⟨show o ≤ (y 1).val by omega, show (y 1).val < o + 64 by omega⟩
    | ⟨2, _⟩ => exact ⟨show 0 ≤ (y 2).val by omega, show (y 2).val < 0 + 128 by omega⟩

/-- One store of the block, where it holds an index. -/
theorem stripAt (b : Fin 64) (n : Fin 16) (f : Fin 512) (s b' o : Nat) (inb : ∀ a, S1x16x128.size a = 0 ∨ (![s, b', 0] : Fin 3 → Nat) a + (![1, 68, 1] : Fin 3 → Nat) a * (S1x16x128.size a - 1) < S4x1088x128.size a)
    (h₁ : S1x16x128.ShapeCasts S16x128) (h₂ : FTy.bf16.bits < FTy.f32.bits) (h₃ : S16x128.ShapeCasts S1x1x16x128) (h : o = s * 128 ∧ s < 4 ∧ b' < 64) :
    View.TileAt (Val := Elt Ideal) (S := S1x64x16x512) (e := .bf16) (ix4 0 b n f) ![0, b', 0, o] ![1, 1, 16, 128]
      (shapeCast S1x1x16x128 (truncf (F := Ideal) .bf16 (shapeCast S16x128 (arg20.view.readCov (kernelRun0_A.sl.HS0_64 (F := Ideal) c arg1 harg1 arg2 harg2 arg3 harg3 arg4 harg4 arg10 harg10 x0 x1 x2 x3 x9) (⟨![s, b', 0], S1x16x128.size, ![1, 68, 1], inb⟩ : LoadRect S4x1088x128)) h₁ : FVec Ideal S16x128 .f32) h₂) h₃)
      (mixed c arg1 harg1 arg2 harg2 arg3 harg3 arg4 harg4 arg10 harg10 x0 x1 x2 x3 x9 (ix2 ⟨n.val * 64 + b.val, by omega⟩ f)) := by
  obtain ⟨ho, hs, hb⟩ := h
  intro x hx
  have g₁ : b.val = b' + (x 1).val := hx 1
  have g₂ : n.val = 0 + (x 2).val := hx 2
  have g₃ : f.val = o + (x 3).val := hx 3
  have l₁ : (x 1).val < 1 := (x 1).isLt
  have l₃ : (x 3).val < 128 := (x 3).isLt
  have e : x = ix4 0 0 n ⟨(x 3).val, l₃⟩ := by
    funext q
    match q with
    | ⟨0, _⟩ => exact Subsingleton.elim (α := Fin 1) _ _
    | ⟨1, _⟩ => exact Subsingleton.elim (α := Fin 1) _ _
    | ⟨2, _⟩ => exact Fin.ext (show (x 2).val = n.val by omega)
    | ⟨3, _⟩ => rfl
  have e' : ∀ l : Fin 128, (shapeCast S1x1x16x128 (truncf (F := Ideal) .bf16 (shapeCast S16x128 (arg20.view.readCov (kernelRun0_A.sl.HS0_64 (F := Ideal) c arg1 harg1 arg2 harg2 arg3 harg3 arg4 harg4 arg10 harg10 x0 x1 x2 x3 x9) (⟨![s, b', 0], S1x16x128.size, ![1, 68, 1], inb⟩ : LoadRect S4x1088x128)) h₁ : FVec Ideal S16x128 .f32) h₂) h₃ : S1x1x16x128.Idx → EReal) (ix4 0 0 n l)
      = arg20.view.readCov (kernelRun0_A.sl.HS0_64 (F := Ideal) c arg1 harg1 arg2 harg2 arg3 harg3 arg4 harg4 arg10 harg10 x0 x1 x2 x3 x9) (⟨![s, b', 0], S1x16x128.size, ![1, 68, 1], inb⟩ : LoadRect S4x1088x128) (ix3 0 n l : S1x16x128.Idx) := fun l => by
    refine (shapeCast_apply _ h₃ (ix4 0 0 n l) (ix2 n l) ?_).trans (show shapeCast S16x128 (arg20.view.readCov (kernelRun0_A.sl.HS0_64 (F := Ideal) c arg1 harg1 arg2 harg2 arg3 harg3 arg4 harg4 arg10 harg10 x0 x1 x2 x3 x9) (⟨![s, b', 0], S1x16x128.size, ![1, 68, 1], inb⟩ : LoadRect S4x1088x128)) h₁ (ix2 n l) = (arg20.view.readCov (kernelRun0_A.sl.HS0_64 (F := Ideal) c arg1 harg1 arg2 harg2 arg3 harg3 arg4 harg4 arg10 harg10 x0 x1 x2 x3 x9) (⟨![s, b', 0], S1x16x128.size, ![1, 68, 1], inb⟩ : LoadRect S4x1088x128)) (ix3 0 n l : S1x16x128.Idx) from shapeCast_apply _ h₁ (ix2 n l) (ix3 0 n l) ?_)
    · rw [Shape.rowMajor_val_two, Shape.rowMajor_val_four]
      show n.val * 128 + l.val = ((0 * 1 + 0) * 16 + n.val) * 128 + l.val
      omega
    · rw [Shape.rowMajor_val_two, Shape.rowMajor_val_three]
      show (0 * 16 + n.val) * 128 + l.val = n.val * 128 + l.val
      omega
  rw [e, e', strided c arg1 harg1 arg2 harg2 arg3 harg3 arg4 harg4 arg10 harg10 arg20 x0 x1 x2 x3 x9 s b' hs hb inb n ⟨(x 3).val, l₃⟩]
  refine congrArg (mixed c arg1 harg1 arg2 harg2 arg3 harg3 arg4 harg4 arg10 harg10 x0 x1 x2 x3 x9) (congrArg₂ ix2 (Fin.ext ?_) (Fin.ext ?_)) <;> dsimp only <;> omega

theorem mixed_apply (r : Fin 1024) (d : Fin 512) : mixed c arg1 harg1 arg2 harg2 arg3 harg3 arg4 harg4 arg10 harg10 x0 x1 x2 x3 x9 (ix2 r d) = ∑ k, k0_pay2 x0 x3 x1 x2 (ix2 r k) * x9 (ix2 k d) := by
  unfold mixed kernelRun0_A.sl.r_4
  simp only [View.readAt_eq_ld, harg1.read_unread, harg2.read_unread, harg3.read_unread, harg4.read_unread, harg10.read_unread, View.ld_unit_zero (S := S1024x1024) hz2, View.ld_unit_zero (S := S1x1024) hz2, View.ld_unit_zero (S := S1x1x1024) hz3, View.ld_unit_zero (S := S1024x512) hz2]
  pointwise [k0_pay6]

theorem out_14_apply (b : Fin 64) (n : Fin 16) (f : Fin 512) : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 (ix4 0 b n f)
    = ∑ k, k0_pay2 x0 x3 x1 x2 (ix2 ⟨n.val * 64 + b.val, by omega⟩ k) * x9 (ix2 k f) := by
  have hcover := cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13
  unfold out0_A_14
  rw [View.read_writes_eq_canon _ _ _ hcover]
  refine (View.canon_eq_of_allAt _ _ _ (hcover _) ?_).trans (mixed_apply c arg1 harg1 arg2 harg2 arg3 harg3 arg4 harg4 arg10 harg10 x0 x1 x2 x3 x9 _ _)
  unfold kernelRun0_A
  dsimp only
  repeat refine View.allAt_cons_unit _ _ _ _ _ (stripAt c arg1 harg1 arg2 harg2 arg3 harg3 arg4 harg4 arg10 harg10 arg20 x0 x1 x2 x3 x9 b n f _ _ _ _ _ _ _ ⟨rfl, by decide, by decide⟩) ?_
  exact View.allAt_nil _ _

end Stores

end Cert.Proj
end
-- ==== Proof.Proj.Blocks.lean ====
/-
  The in-projection kernel's input blocks, read at an index as elements of its arguments.
-/
module

public import proofs.«01_k».proof.Proof.Gen.Kernel3Ideal.Value
public import proofs.«01_k».proof.Proof.Proj.Row
public import Idealize.ShloMosaic.Lib.StableHlo.ReadAt
public import Idealize.ShloMosaic.Lib.Pointwise

@[expose] public section

set_option maxRecDepth 16384

noncomputable section

namespace Cert.Proj.Blocks

open Cert.Kernel3Ideal Cert.Kernel3Ideal.Gen Idealize.ShloMosaic Idealize.ShloMosaic.TcCoe Idealize.SL.Sem

variable (m : (ℓ : Loc nD τ sig) → Buf (Elt Ideal) ℓ) (c : Dev nD) (t : Fin cfg0.N)

/-- Argument 0 as launched. -/
abbrev arg0 : S4x8192x1024.Idx → EReal := m ((c : Thread nD τ).loc main_arg0)

/-- Argument 1 as launched. -/
abbrev arg1 : S2x8x3072.Idx → EReal := m ((c : Thread nD τ).loc main_arg1)

/-- Argument 2 as launched. -/
abbrev arg2 : S2x1024.Idx → EReal := m ((c : Thread nD τ).loc main_arg2)

/-- Argument 3 as launched. -/
abbrev arg3 : S1x1024x3072.Idx → EReal := m ((c : Thread nD τ).loc main_arg3)

/-- Argument 4 as launched. -/
abbrev arg4 : S1x64.Idx → EReal := m ((c : Thread nD τ).loc main_arg4)

/-- Argument 5 as launched. -/
abbrev arg5 : S1x64.Idx → EReal := m ((c : Thread nD τ).loc main_arg5)

theorem lt32 : t.val < 32 := t.isLt

/-- Two groups of quarters side by side. -/
theorem table_two (a b c e : Fin 16 → EReal) (d : Fin 128) : (if h : d.val < 64 then (if h : d.val < 16 then a ⟨d.val, h⟩ else if h : d.val - 16 < 16 then b ⟨d.val - 16, h⟩
      else if h : d.val - 16 - 16 < 16 then c ⟨d.val - 16 - 16, h⟩ else e ⟨d.val - 16 - 16 - 16, by omega⟩)
    else (if h : d.val - 64 < 16 then a ⟨d.val - 64, h⟩ else if h : d.val - 64 - 16 < 16 then b ⟨d.val - 64 - 16, h⟩
      else if h : d.val - 64 - 16 - 16 < 16 then c ⟨d.val - 64 - 16 - 16, h⟩ else e ⟨d.val - 64 - 16 - 16 - 16, by omega⟩))
    = table a b c e ⟨d.val, by omega⟩ := by
  unfold table
  split_ifs <;> first | (exfalso; dsimp only at *; omega) | (congr 1; apply Fin.ext; dsimp only; omega)

/-- The arrays that the host has after `k` of its operations. -/
abbrev host (k : Nat) := StableHlo.upto [hostOps0, hostOps0_1, hostOps0_2].flatten (fun b => m (c, b)) k

/-- Whether two of four groups are the same. -/
theorem same_group : ∀ x y : Fin 4, IntOp.cmpi CmpIPredicate.eq (IntOp.addi (BitVec.ofNat 32 x.val) 0#32) (BitVec.ofNat 32 y.val) = if x.val = y.val then 1#1 else 0#1 := by
  decide +kernel

theorem mask_value (x y : Fin 256) : FloatOps.uitofp (F := Ideal) FTy.f32
    (IntOp.cmpi CmpIPredicate.eq (IntOp.addi (BitVec.ofNat 32 (x.val / 64)) 0#32) (BitVec.ofNat 32 (y.val / 64))) = if x.val / 64 = y.val / 64 then (1 : EReal) else 0 := by
  rw [same_group ⟨x.val / 64, by omega⟩ ⟨y.val / 64, by omega⟩]
  by_cases h : x.val / 64 = y.val / 64
  · rw [if_pos h, if_pos h]
    show (((1#1 : BitVec 1).toNat : ℝ) : EReal) = 1
    simp
  · rw [if_neg h, if_neg h]
    show (((0#1 : BitVec 1).toNat : ℝ) : EReal) = 0
    simp

theorem index_0 : ∀ t : Fin grid0.N, win0_0.index t = ![t.val, 0] := by decide +kernel
theorem index_1 : ∀ t : Fin grid0.N, win0_1.index t = ![t.val / 8, 0, 0] := by decide +kernel
theorem index_2 : ∀ t : Fin grid0.N, win0_2.index t = ![t.val / 8, 0, 0] := by decide +kernel
theorem index_3 : ∀ t : Fin grid0.N, win0_3.index t = ![0, 0] := by decide +kernel
theorem index_4 : ∀ t : Fin grid0.N, win0_4.index t = ![t.val % 8, 0] := by decide +kernel
theorem index_5 : ∀ t : Fin grid0.N, win0_5.index t = ![t.val % 8, 0] := by decide +kernel
theorem index_6 : ∀ t : Fin grid0.N, win0_6.index t = ![0, 0] := by decide +kernel
theorem index_7 : ∀ t : Fin grid0.N, win0_7.index t = ![0, 0] := by decide +kernel
theorem index_8 : ∀ t : Fin grid0.N, win0_8.index t = ![0, 0] := by decide +kernel
theorem index_9 : ∀ t : Fin grid0.N, win0_9.index t = ![0, 0] := by decide +kernel
theorem index_10 : ∀ t : Fin grid0.N, win0_10.index t = ![0, 0] := by decide +kernel
theorem index_11 : ∀ t : Fin grid0.N, win0_11.index t = ![0, 0] := by decide +kernel
theorem index_12 : ∀ t : Fin grid0.N, win0_12.index t = ![0, 0] := by decide +kernel
theorem index_13 : ∀ t : Fin grid0.N, win0_13.index t = ![0, 0] := by decide +kernel
theorem index_14 : ∀ t : Fin grid0.N, win0_14.index t = ![t.val / 8, 0, t.val % 8, 0] := by decide +kernel
theorem index_15 : ∀ t : Fin grid0.N, win0_15.index t = ![t.val, 0] := by decide +kernel
theorem index_16 : ∀ t : Fin grid0.N, win0_16.index t = ![t.val, 0] := by decide +kernel
theorem index_17 : ∀ t : Fin grid0.N, win0_17.index t = ![t.val / 8, 0, 0, t.val % 8] := by decide +kernel
theorem index_18 : ∀ t : Fin grid0.N, win0_18.index t = ![t.val, 0] := by decide +kernel

theorem main_v76_at (n : Fin 32768) (d : Fin 1024) : (V m c main_v76 : S32768x1024.Idx → EReal) (ix2 n d) = arg0 m c (ix3 ⟨n.val / 8192, by omega⟩ ⟨n.val % 8192, by omega⟩ d) := by
  unfold V
  after_reads_at

theorem block_0 (r d : Fin 1024) : (iblk m c 0 t : S1024x1024.Idx → EReal) (ix2 r d) = (V m c main_v76 : S32768x1024.Idx → EReal) (ix2 ⟨1024 * t.val + r.val, by have := lt32 t; omega⟩ d) := by
  unfold iblk
  rw [View.read_apply]
  show V m c main_v76 _ = V m c main_v76 _
  congr 1
  funext a
  apply Fin.ext
  match a with
  | ⟨0, _⟩ => show win0_0.index t 0 * 1024 + 1 * r.val = _; rw [index_0]; show t.val * 1024 + 1 * r.val = 1024 * t.val + r.val; omega
  | ⟨1, _⟩ => show win0_0.index t 1 * 1024 + 1 * d.val = _; rw [index_0]; show 0 * 1024 + 1 * d.val = d.val; omega

theorem main_v2_at (b : Fin 8) (d : Fin 1024) : (V m c main_v2 : S8x1x1024.Idx → EReal) (ix3 b 0 d) = arg1 m c (ix3 0 b ⟨d.val, by omega⟩) := by
  unfold V
  after_reads_at

theorem block_1 (d : Fin 1024) : (iblk m c 1 t : S1x1x1024.Idx → EReal) (ix3 0 0 d) = (V m c main_v2 : S8x1x1024.Idx → EReal) (ix3 ⟨t.val / 8, by have := lt32 t; omega⟩ 0 d) := by
  unfold iblk
  rw [View.read_apply]
  show V m c main_v2 _ = V m c main_v2 _
  congr 1
  funext a
  apply Fin.ext
  match a with
  | ⟨0, _⟩ => show win0_1.index t 0 * 1 + 1 * 0 = _; rw [index_1]; show t.val / 8 * 1 + 1 * 0 = t.val / 8; omega
  | ⟨1, _⟩ => show win0_1.index t 1 * 1 + 1 * 0 = _; rw [index_1]; show 0 * 1 + 1 * 0 = 0; omega
  | ⟨2, _⟩ => show win0_1.index t 2 * 1024 + 1 * d.val = _; rw [index_1]; show 0 * 1024 + 1 * d.val = d.val; omega

theorem main_v5_at (b : Fin 8) (d : Fin 1024) : (V m c main_v5 : S8x1x1024.Idx → EReal) (ix3 b 0 d) = arg1 m c (ix3 0 b ⟨1024 + d.val, by omega⟩) := by
  unfold V
  after_reads_at

theorem block_2 (d : Fin 1024) : (iblk m c 2 t : S1x1x1024.Idx → EReal) (ix3 0 0 d) = (V m c main_v5 : S8x1x1024.Idx → EReal) (ix3 ⟨t.val / 8, by have := lt32 t; omega⟩ 0 d) := by
  unfold iblk
  rw [View.read_apply]
  show V m c main_v5 _ = V m c main_v5 _
  congr 1
  funext a
  apply Fin.ext
  match a with
  | ⟨0, _⟩ => show win0_2.index t 0 * 1 + 1 * 0 = _; rw [index_2]; show t.val / 8 * 1 + 1 * 0 = t.val / 8; omega
  | ⟨1, _⟩ => show win0_2.index t 1 * 1 + 1 * 0 = _; rw [index_2]; show 0 * 1 + 1 * 0 = 0; omega
  | ⟨2, _⟩ => show win0_2.index t 2 * 1024 + 1 * d.val = _; rw [index_2]; show 0 * 1024 + 1 * d.val = d.val; omega

theorem main_v75_at (d : Fin 1024) : (V m c main_v75 : S1x1024.Idx → EReal) (ix2 0 d) = arg2 m c (ix2 0 d) := by
  unfold V
  after_reads_at

theorem block_3 (d : Fin 1024) : (iblk m c 3 t : S1x1024.Idx → EReal) (ix2 0 d) = (V m c main_v75 : S1x1024.Idx → EReal) (ix2 0 d) := by
  unfold iblk
  rw [View.read_apply]
  show V m c main_v75 _ = V m c main_v75 _
  congr 1
  funext a
  apply Fin.ext
  match a with
  | ⟨0, _⟩ => show win0_3.index t 0 * 1 + 1 * 0 = _; rw [index_3]; show 0 * 1 + 1 * 0 = 0; omega
  | ⟨1, _⟩ => show win0_3.index t 1 * 1024 + 1 * d.val = _; rw [index_3]; show 0 * 1024 + 1 * d.val = d.val; omega

theorem main_v59_at (n : Fin 8192) (j : Fin 16) : (host m c 74 (Proc.tc.devRef main_v59) : S8192x16.Idx → EReal) (ix2 n j) = Ideal.cos (rowAngle n j) := by
  after_reads_at
  rfl

theorem main_v60_at (n : Fin 8192) (j : Fin 16) : (host m c 74 (Proc.tc.devRef main_v60) : S8192x16.Idx → EReal) (ix2 n j) = Ideal.cos (rowAngle n j) := by
  after_reads_at
  rfl

theorem main_v61_at (n : Fin 8192) (j : Fin 16) : (host m c 74 (Proc.tc.devRef main_v61) : S8192x16.Idx → EReal) (ix2 n j) = Ideal.cos (colAngle n j) := by
  after_reads_at
  rfl

theorem main_v62_at (n : Fin 8192) (j : Fin 16) : (host m c 74 (Proc.tc.devRef main_v62) : S8192x16.Idx → EReal) (ix2 n j) = Ideal.cos (colAngle n j) := by
  after_reads_at
  rfl

theorem main_v65_at (n : Fin 8192) (j : Fin 16) : (host m c 81 (Proc.tc.devRef main_v65) : S8192x16.Idx → EReal) (ix2 n j) = -Ideal.sin (rowAngle n j) := by
  after_reads_at
  rfl

theorem main_v66_at (n : Fin 8192) (j : Fin 16) : (host m c 81 (Proc.tc.devRef main_v66) : S8192x16.Idx → EReal) (ix2 n j) = Ideal.sin (rowAngle n j) := by
  after_reads_at
  rfl

theorem main_v68_at (n : Fin 8192) (j : Fin 16) : (host m c 81 (Proc.tc.devRef main_v68) : S8192x16.Idx → EReal) (ix2 n j) = -Ideal.sin (colAngle n j) := by
  after_reads_at
  rfl

theorem main_v69_at (n : Fin 8192) (j : Fin 16) : (host m c 81 (Proc.tc.devRef main_v69) : S8192x16.Idx → EReal) (ix2 n j) = Ideal.sin (colAngle n j) := by
  after_reads_at
  rfl

theorem main_v71_at (n : Fin 8192) (d : Fin 128) : (V m c main_v71 : S8192x128.Idx → EReal) (ix2 n d) = table (fun j => Ideal.cos (rowAngle n j)) (fun j => Ideal.cos (rowAngle n j)) (fun j => Ideal.cos (colAngle n j)) (fun j => Ideal.cos (colAngle n j)) ⟨d.val, by omega⟩ := by
  unfold V
  after_reads_at
  simp only [main_v59_at m c n, main_v60_at m c n, main_v61_at m c n, main_v62_at m c n]
  exact table_two (fun j => Ideal.cos (rowAngle n j)) (fun j => Ideal.cos (rowAngle n j)) (fun j => Ideal.cos (colAngle n j)) (fun j => Ideal.cos (colAngle n j)) d

theorem block_4 (r : Fin 1024) (d : Fin 128) : (iblk m c 4 t : S1024x128.Idx → EReal) (ix2 r d) = (V m c main_v71 : S8192x128.Idx → EReal) (ix2 ⟨1024 * (t.val % 8) + r.val, by have := lt32 t; omega⟩ d) := by
  unfold iblk
  rw [View.read_apply]
  show V m c main_v71 _ = V m c main_v71 _
  congr 1
  funext a
  apply Fin.ext
  match a with
  | ⟨0, _⟩ => show win0_4.index t 0 * 1024 + 1 * r.val = _; rw [index_4]; show t.val % 8 * 1024 + 1 * r.val = 1024 * (t.val % 8) + r.val; omega
  | ⟨1, _⟩ => show win0_4.index t 1 * 128 + 1 * d.val = _; rw [index_4]; show 0 * 128 + 1 * d.val = d.val; omega

theorem main_v72_at (n : Fin 8192) (d : Fin 128) : (V m c main_v72 : S8192x128.Idx → EReal) (ix2 n d) = table (fun j => -Ideal.sin (rowAngle n j)) (fun j => Ideal.sin (rowAngle n j)) (fun j => -Ideal.sin (colAngle n j)) (fun j => Ideal.sin (colAngle n j)) ⟨d.val, by omega⟩ := by
  unfold V
  after_reads_at
  simp only [main_v65_at m c n, main_v66_at m c n, main_v68_at m c n, main_v69_at m c n]
  exact table_two (fun j => -Ideal.sin (rowAngle n j)) (fun j => Ideal.sin (rowAngle n j)) (fun j => -Ideal.sin (colAngle n j)) (fun j => Ideal.sin (colAngle n j)) d

theorem block_5 (r : Fin 1024) (d : Fin 128) : (iblk m c 5 t : S1024x128.Idx → EReal) (ix2 r d) = (V m c main_v72 : S8192x128.Idx → EReal) (ix2 ⟨1024 * (t.val % 8) + r.val, by have := lt32 t; omega⟩ d) := by
  unfold iblk
  rw [View.read_apply]
  show V m c main_v72 _ = V m c main_v72 _
  congr 1
  funext a
  apply Fin.ext
  match a with
  | ⟨0, _⟩ => show win0_5.index t 0 * 1024 + 1 * r.val = _; rw [index_5]; show t.val % 8 * 1024 + 1 * r.val = 1024 * (t.val % 8) + r.val; omega
  | ⟨1, _⟩ => show win0_5.index t 1 * 128 + 1 * d.val = _; rw [index_5]; show 0 * 128 + 1 * d.val = d.val; omega

theorem main_v17_at (d : Fin 512) : (V m c main_v17 : S1x512.Idx → EReal) (ix2 0 d) = arg4 m c (ix2 0 ⟨d.val % 64, by omega⟩) := by
  unfold V
  after_reads_at

theorem block_6 (d : Fin 512) : (iblk m c 6 t : S1x512.Idx → EReal) (ix2 0 d) = (V m c main_v17 : S1x512.Idx → EReal) (ix2 0 d) := by
  unfold iblk
  rw [View.read_apply]
  show V m c main_v17 _ = V m c main_v17 _
  congr 1
  funext a
  apply Fin.ext
  match a with
  | ⟨0, _⟩ => show win0_6.index t 0 * 1 + 1 * 0 = _; rw [index_6]; show 0 * 1 + 1 * 0 = 0; omega
  | ⟨1, _⟩ => show win0_6.index t 1 * 512 + 1 * d.val = _; rw [index_6]; show 0 * 512 + 1 * d.val = d.val; omega

theorem main_v22_at (d : Fin 512) : (V m c main_v22 : S1x512.Idx → EReal) (ix2 0 d) = arg5 m c (ix2 0 ⟨d.val % 64, by omega⟩) := by
  unfold V
  after_reads_at

theorem block_7 (d : Fin 512) : (iblk m c 7 t : S1x512.Idx → EReal) (ix2 0 d) = (V m c main_v22 : S1x512.Idx → EReal) (ix2 0 d) := by
  unfold iblk
  rw [View.read_apply]
  show V m c main_v22 _ = V m c main_v22 _
  congr 1
  funext a
  apply Fin.ext
  match a with
  | ⟨0, _⟩ => show win0_7.index t 0 * 1 + 1 * 0 = _; rw [index_7]; show 0 * 1 + 1 * 0 = 0; omega
  | ⟨1, _⟩ => show win0_7.index t 1 * 512 + 1 * d.val = _; rw [index_7]; show 0 * 512 + 1 * d.val = d.val; omega

theorem main_v31_at (x y : Fin 256) : (V m c main_v31 : S256x256.Idx → EReal) (ix2 x y) = if x.val / 64 = y.val / 64 then (1 : EReal) else 0 := by
  unfold V
  after_reads_at
  exact mask_value x y

theorem block_8 (x y : Fin 256) : (iblk m c 8 t : S256x256.Idx → EReal) (ix2 x y) = (V m c main_v31 : S256x256.Idx → EReal) (ix2 x y) := by
  unfold iblk
  rw [View.read_apply]
  show V m c main_v31 _ = V m c main_v31 _
  congr 1
  funext a
  apply Fin.ext
  match a with
  | ⟨0, _⟩ => show win0_8.index t 0 * 256 + 1 * x.val = _; rw [index_8]; show 0 * 256 + 1 * x.val = x.val; omega
  | ⟨1, _⟩ => show win0_8.index t 1 * 256 + 1 * y.val = _; rw [index_8]; show 0 * 256 + 1 * y.val = y.val; omega

theorem main_v8_at (k : Fin 1024) (d : Fin 512) : (V m c main_v8 : S1024x512.Idx → EReal) (ix2 k d) = arg3 m c (ix3 0 k ⟨d.val, by omega⟩) := by
  unfold V
  after_reads_at

theorem block_9 (k : Fin 1024) (d : Fin 512) : (iblk m c 9 t : S1024x512.Idx → EReal) (ix2 k d) = (V m c main_v8 : S1024x512.Idx → EReal) (ix2 k d) := by
  unfold iblk
  rw [View.read_apply]
  show V m c main_v8 _ = V m c main_v8 _
  congr 1
  funext a
  apply Fin.ext
  match a with
  | ⟨0, _⟩ => show win0_9.index t 0 * 1024 + 1 * k.val = _; rw [index_9]; show 0 * 1024 + 1 * k.val = k.val; omega
  | ⟨1, _⟩ => show win0_9.index t 1 * 512 + 1 * d.val = _; rw [index_9]; show 0 * 512 + 1 * d.val = d.val; omega

theorem main_v9_at (k : Fin 1024) (d : Fin 512) : (V m c main_v9 : S1024x512.Idx → EReal) (ix2 k d) = arg3 m c (ix3 0 k ⟨512 + d.val, by omega⟩) := by
  unfold V
  after_reads_at

theorem block_10 (k : Fin 1024) (d : Fin 512) : (iblk m c 10 t : S1024x512.Idx → EReal) (ix2 k d) = (V m c main_v9 : S1024x512.Idx → EReal) (ix2 k d) := by
  unfold iblk
  rw [View.read_apply]
  show V m c main_v9 _ = V m c main_v9 _
  congr 1
  funext a
  apply Fin.ext
  match a with
  | ⟨0, _⟩ => show win0_10.index t 0 * 1024 + 1 * k.val = _; rw [index_10]; show 0 * 1024 + 1 * k.val = k.val; omega
  | ⟨1, _⟩ => show win0_10.index t 1 * 512 + 1 * d.val = _; rw [index_10]; show 0 * 512 + 1 * d.val = d.val; omega

theorem main_v10_at (k : Fin 1024) (d : Fin 512) : (V m c main_v10 : S1024x512.Idx → EReal) (ix2 k d) = arg3 m c (ix3 0 k ⟨1024 + d.val, by omega⟩) := by
  unfold V
  after_reads_at

theorem block_11 (k : Fin 1024) (d : Fin 512) : (iblk m c 11 t : S1024x512.Idx → EReal) (ix2 k d) = (V m c main_v10 : S1024x512.Idx → EReal) (ix2 k d) := by
  unfold iblk
  rw [View.read_apply]
  show V m c main_v10 _ = V m c main_v10 _
  congr 1
  funext a
  apply Fin.ext
  match a with
  | ⟨0, _⟩ => show win0_11.index t 0 * 1024 + 1 * k.val = _; rw [index_11]; show 0 * 1024 + 1 * k.val = k.val; omega
  | ⟨1, _⟩ => show win0_11.index t 1 * 512 + 1 * d.val = _; rw [index_11]; show 0 * 512 + 1 * d.val = d.val; omega

theorem main_v11_at (k : Fin 1024) (d : Fin 512) : (V m c main_v11 : S1024x512.Idx → EReal) (ix2 k d) = arg3 m c (ix3 0 k ⟨1536 + d.val, by omega⟩) := by
  unfold V
  after_reads_at

theorem block_12 (k : Fin 1024) (d : Fin 512) : (iblk m c 12 t : S1024x512.Idx → EReal) (ix2 k d) = (V m c main_v11 : S1024x512.Idx → EReal) (ix2 k d) := by
  unfold iblk
  rw [View.read_apply]
  show V m c main_v11 _ = V m c main_v11 _
  congr 1
  funext a
  apply Fin.ext
  match a with
  | ⟨0, _⟩ => show win0_12.index t 0 * 1024 + 1 * k.val = _; rw [index_12]; show 0 * 1024 + 1 * k.val = k.val; omega
  | ⟨1, _⟩ => show win0_12.index t 1 * 512 + 1 * d.val = _; rw [index_12]; show 0 * 512 + 1 * d.val = d.val; omega

theorem main_v12_at (k : Fin 1024) (d : Fin 1024) : (V m c main_v12 : S1024x1024.Idx → EReal) (ix2 k d) = arg3 m c (ix3 0 k ⟨2048 + d.val, by omega⟩) := by
  unfold V
  after_reads_at

theorem block_13 (k : Fin 1024) (d : Fin 1024) : (iblk m c 13 t : S1024x1024.Idx → EReal) (ix2 k d) = (V m c main_v12 : S1024x1024.Idx → EReal) (ix2 k d) := by
  unfold iblk
  rw [View.read_apply]
  show V m c main_v12 _ = V m c main_v12 _
  congr 1
  funext a
  apply Fin.ext
  match a with
  | ⟨0, _⟩ => show win0_13.index t 0 * 1024 + 1 * k.val = _; rw [index_13]; show 0 * 1024 + 1 * k.val = k.val; omega
  | ⟨1, _⟩ => show win0_13.index t 1 * 1024 + 1 * d.val = _; rw [index_13]; show 0 * 1024 + 1 * d.val = d.val; omega

end Cert.Proj.Blocks
end
-- ==== Proof.Proj.Ref.lean ====
/-
  The reference's in-projection, row by row.
-/
module

public import proofs.«01_k».proof.Proof.Gen.Reference3Ideal.Read
public import proofs.«01_k».proof.Proof.Proj.Row
public import Idealize.ShloMosaic.Lib.Pointwise
public import Idealize.ShloMosaic.PureOps.Ideal.Laws

@[expose] public section

set_option maxRecDepth 16384

noncomputable section

namespace Cert.Proj.Ref

open Cert.Reference3Ideal Cert.Reference3Ideal.Gen Cert.Reference3Ideal.Read Idealize.ShloMosaic

/-- The in-projection's arguments, from arrays. -/
def args (x0 : Vec Ideal S4x8192x1024 .f32) (x1 : Vec Ideal S2x8x3072 .f32) (x2 : Vec Ideal S2x1024 .f32) (x3 : Vec Ideal S1x1024x3072 .f32) (x4 x5 : Vec Ideal S1x64 .f32) : Args where
  x := fun b n k => x0 (ix3 b n k)
  shift := fun b k => x1 (ix3 0 ⟨b.val, by omega⟩ ⟨k.val, by omega⟩)
  scale := fun b k => x1 (ix3 0 ⟨b.val, by omega⟩ ⟨1024 + k.val, by omega⟩)
  gain := fun k => x2 (ix2 0 k)
  w := fun k d => x3 (ix3 0 k d)
  qg := fun j => x4 (ix2 0 j)
  kg := fun j => x5 (ix2 0 j)
  cosR := fun n j => Ideal.cos (rowAngle n j)
  sinR := fun n j => Ideal.sin (rowAngle n j)
  cosC := fun n j => Ideal.cos (colAngle n j)
  sinC := fun n j => Ideal.sin (colAngle n j)

section Heads

variable (t : FVec Ideal S4x8192x4x2x64 .f32) (g : Vec Ideal S1x64 .f32) (u : FVec Ideal S4x8192x4x2x32 .f32) (x6 x7 x8 x9 : Vec Ideal S8192x16 .f32)

/-- The norm of each group. -/
def headNorm : FVec Ideal S4x8192x4x2x64 .f32 :=
  mulf (mulf t (broadcastInDim S4x8192x4x2x64 ![0, 1, 2, 3, 4] bcast_S4x8192x4x2x1_S4x8192x4x2x64_0_1_2_3_4
      (Host.rsqrt (addf (Host.divf (broadcastInDim S4x8192x4x2x1 ![0, 1, 2, 3] bcast_S4x8192x4x2_S4x8192x4x2x1_0_1_2_3
          (Host.reduceAdd (mulf t t) (val_main_cst_7 (F := Ideal)) reducesTo_S4x8192x4x2x64_S4x8192x4x2_d4 h_S_)) (val_main_v70 (F := Ideal))) (val_main_v72 (F := Ideal))))))
    (broadcastInDim S4x8192x4x2x64 ![0, 1, 2, 3, 4] bcast_S1x1x1x1x64_S4x8192x4x2x64_0_1_2_3_4 (broadcastInDim S1x1x1x1x64 ![4] bcast_S64_S1x1x1x1x64_4 (shapeCast S64 g shapeCasts_S1x64_S64)))

/-- A table over all heads. -/
def over (x : Vec Ideal S8192x16 .f32) : FVec Ideal S4x8192x4x2x16 .f32 :=
  broadcastInDim S4x8192x4x2x16 ![0, 1, 2, 3, 4] bcast_S1x8192x1x1x16_S4x8192x4x2x16_0_1_2_3_4 (broadcastInDim S1x8192x1x1x16 ![1, 4] bcast_S8192x16_S1x8192x1x1x16_1_4 x)

/-- The rotation of one half of a group. -/
def turn (cs sn : Vec Ideal S8192x16 .f32) : FVec Ideal S4x8192x4x2x32 .f32 :=
  concatenate S4x8192x4x2x32 4
    [⟨S4x8192x4x2x16, subf (mulf (extractStridedSlice S4x8192x4x2x16 ![0, 0, 0, 0, 0] u slices_S4x8192x4x2x32_S4x8192x4x2x16_0_0_0_0_0) (over cs)) (mulf (extractStridedSlice S4x8192x4x2x16 ![0, 0, 0, 0, 16] u slices_S4x8192x4x2x32_S4x8192x4x2x16_0_0_0_0_16) (over sn))⟩,
     ⟨S4x8192x4x2x16, addf (mulf (extractStridedSlice S4x8192x4x2x16 ![0, 0, 0, 0, 0] u slices_S4x8192x4x2x32_S4x8192x4x2x16_0_0_0_0_0) (over sn)) (mulf (extractStridedSlice S4x8192x4x2x16 ![0, 0, 0, 0, 16] u slices_S4x8192x4x2x32_S4x8192x4x2x16_0_0_0_0_16) (over cs))⟩]
    concatenates_S4x8192x4x2x16_S4x8192x4x2x16_S4x8192x4x2x32_d4

/-- The rotation of both halves. -/
def turns : FVec Ideal S4x8192x4x2x64 .f32 :=
  concatenate S4x8192x4x2x64 4
    [⟨S4x8192x4x2x32, turn (extractStridedSlice S4x8192x4x2x32 ![0, 0, 0, 0, 0] t slices_S4x8192x4x2x64_S4x8192x4x2x32_0_0_0_0_0) x6 x7⟩,
     ⟨S4x8192x4x2x32, turn (extractStridedSlice S4x8192x4x2x32 ![0, 0, 0, 0, 32] t slices_S4x8192x4x2x64_S4x8192x4x2x32_0_0_0_0_32) x8 x9⟩]
    concatenates_S4x8192x4x2x32_S4x8192x4x2x32_S4x8192x4x2x64_d4

variable (b : Fin 4) (n : Fin 8192) (a : Fin 4) (s : Fin 2) (j : Fin 64)

theorem headNorm_apply : headNorm t g (ix5 b n a s j) = t (ix5 b n a s j)
    * Ideal.rsqrt (Ideal.div (∑ j : Fin 64, t (ix5 b n a s j) * t (ix5 b n a s j)) (Ideal.ofBits .f32 0x42800000#32) + Ideal.ofBits .f32 0x358637BD#32) * g (ix2 0 j) := by
  pointwise [headNorm, val_main_cst_7, val_main_v70, val_main_v72, val_main_cst_8, val_main_cst_9]

theorem turn_apply (cs sn : Vec Ideal S8192x16 .f32) (j : Fin 32) : turn u cs sn (ix5 b n a s j)
    = if h : j.val < 16 then u (ix5 b n a s j) * cs (ix2 n ⟨j.val, h⟩) - u (ix5 b n a s ⟨j.val + 16, by omega⟩) * sn (ix2 n ⟨j.val, h⟩)
      else u (ix5 b n a s ⟨j.val - 16, by omega⟩) * sn (ix2 n ⟨j.val - 16, by omega⟩) + u (ix5 b n a s j) * cs (ix2 n ⟨j.val - 16, by omega⟩) := by
  have e : ∀ j : Fin 32, ¬ j.val < 16 → 16 + (j.val - 16) = j.val := fun j h => by omega
  pointwise [turn, over]
  by_cases h : j.val < 16
  · rw [dif_pos h, dif_pos h]
    simp only [Nat.add_comm 16]
  · rw [dif_neg h, dif_neg h]
    simp only [e j h]

theorem turns_apply (f : Heads) (hf : ∀ j : Fin 64, t (ix5 b n a s j) = f ⟨a.val * 128 + s.val * 64 + j.val, by omega⟩) : turns t x6 x7 x8 x9 (ix5 b n a s j)
    = rotated f (fun j => x6 (ix2 n j)) (fun j => x7 (ix2 n j)) (fun j => x8 (ix2 n j)) (fun j => x9 (ix2 n j)) ⟨a.val * 128 + s.val * 64 + j.val, by omega⟩ := by
  have e : (a.val * 128 + s.val * 64 + j.val) % 64 = j.val := by omega
  have up : ∀ (o o' : Nat) (ho : o < 64) (ho' : o' < 512), a.val * 128 + s.val * 64 + o = o' → t (ix5 b n a s ⟨o, ho⟩) = f ⟨o', ho'⟩ := fun o o' ho ho' h => by
    rw [hf]
    exact congrArg f (Fin.ext h)
  pointwise [turns]
  simp only [turn_apply]
  pointwise []
  unfold rotated
  simp only [e]
  by_cases h₀ : j.val < 16
  · simp only [dif_pos h₀, dif_pos (show j.val < 32 by omega)]
    rw [hf j, up (j.val + 16) (a.val * 128 + s.val * 64 + j.val + 16) _ (by omega) (by omega)]
  · by_cases h₁ : j.val < 32
    · simp only [dif_neg h₀, dif_pos h₁]
      rw [hf j, up (j.val - 16) (a.val * 128 + s.val * 64 + j.val - 16) _ (by omega) (by omega)]
    · by_cases h₂ : j.val < 48
      · simp only [dif_neg h₀, dif_neg h₁, dif_pos h₂, dif_pos (show j.val - 32 < 16 by omega)]
        rw [up (32 + (j.val - 32)) (a.val * 128 + s.val * 64 + j.val) _ (by omega) (by omega), up (32 + (j.val - 32 + 16)) (a.val * 128 + s.val * 64 + j.val + 16) _ (by omega) (by omega)]
      · simp only [dif_neg h₀, dif_neg h₁, dif_neg h₂, dif_neg (show ¬ j.val - 32 < 16 by omega)]
        rw [up (32 + (j.val - 32)) (a.val * 128 + s.val * 64 + j.val) _ (by omega) (by omega), up (32 + (j.val - 32 - 16)) (a.val * 128 + s.val * 64 + j.val - 16) _ (by omega) (by omega)]
        simp only [Nat.sub_sub]

theorem norm_apply (p : Heads) (hp : ∀ j : Fin 64, t (ix5 b n a s j) = p ⟨a.val * 128 + s.val * 64 + j.val, by omega⟩) :
    headNorm t g (ix5 b n a s j) = grouped p (fun j => g (ix2 0 j)) ⟨a.val * 128 + s.val * 64 + j.val, by omega⟩ := by
  have e : (a.val * 128 + s.val * 64 + j.val) % 64 = j.val := by omega
  have e' : (a.val * 128 + s.val * 64 + j.val) / 64 * 64 = a.val * 128 + s.val * 64 := by omega
  rw [headNorm_apply]
  simp only [hp, grouped, e, e']

end Heads

variable (x0 : Vec Ideal S4x8192x1024 .f32) (x1 : Vec Ideal S2x8x3072 .f32) (x2 : Vec Ideal S2x1024 .f32) (x3 : Vec Ideal S1x1024x3072 .f32) (x4 x5 : Vec Ideal S1x64 .f32) (b : Fin 4) (n : Fin 8192)

theorem hid_val (k : Fin 1024) : val_main_v27 (F := Ideal) x0 x1 x2 (ix3 b n k) = (args x0 x1 x2 x3 x4 x5).hid b n k := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rfl

theorem column_val (d : Fin 3072) : val_main_v29 (F := Ideal) x0 x1 x2 x3 (ix3 b n d) = column ((args x0 x1 x2 x3 x4 x5).hid b n) (fun k d => x3 (ix3 0 k d)) d := by
  pointwise [val_main_v29, val_main_v28]
  simp only [hid_val x0 x1 x2 x3 x4 x5]
  rfl

theorem row_angle (j : Fin 16) : val_main_v55 (F := Ideal) (ix2 n j) = rowAngle n j := by
  pointwise [val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_cst_3, val_main_cst_4, val_main_cst_5, val_main_cst_6]
  rfl

theorem col_angle (j : Fin 16) : val_main_v60 (F := Ideal) (ix2 n j) = colAngle n j := by
  pointwise [val_main_v60, val_main_v59, val_main_v58, val_main_v57, val_main_v56, val_main_v50, val_main_v49, val_main_v48, val_main_v47, val_main_v46, val_main_v45, val_main_v44, val_main_v43, val_main_v42, val_main_v41, val_main_v40, val_main_v39, val_main_v38, val_main_v37, val_main_v36, val_main_v35, val_main_v34, val_main_cst_3, val_main_cst_4, val_main_cst_5, val_main_cst_6]
  rfl

/-- A group of 64 channels of the reference's normed and rotated columns. -/
theorem heads_val (t : FVec Ideal S4x8192x4x2x64 .f32) (g : Vec Ideal S1x64 .f32) (p : Heads) (ht : ∀ a s j, t (ix5 b n a s j) = p ⟨a.val * 128 + s.val * 64 + j.val, by omega⟩) (d : Fin 512) :
    turns (headNorm t g) (val_main_v61 (F := Ideal)) (val_main_v62 (F := Ideal)) (val_main_v63 (F := Ideal)) (val_main_v64 (F := Ideal)) (ix5 b n ⟨d.val / 128, by omega⟩ ⟨d.val / 64 % 2, by omega⟩ ⟨d.val % 64, by omega⟩)
      = rotated (grouped p (fun j => g (ix2 0 j))) (fun j => Ideal.cos (rowAngle n j)) (fun j => Ideal.sin (rowAngle n j)) (fun j => Ideal.cos (colAngle n j)) (fun j => Ideal.sin (colAngle n j)) d := by
  rw [turns_apply _ _ _ _ _ b n _ _ _ (grouped p (fun j => g (ix2 0 j))) (fun j => norm_apply t g b n _ _ j p (fun j => ht _ _ j))]
  have e₁ : (fun j => val_main_v61 (F := Ideal) (ix2 n j)) = fun j => Ideal.cos (rowAngle n j) := funext fun j => congrArg Ideal.cos (row_angle n j)
  have e₂ : (fun j => val_main_v62 (F := Ideal) (ix2 n j)) = fun j => Ideal.sin (rowAngle n j) := funext fun j => congrArg Ideal.sin (row_angle n j)
  have e₃ : (fun j => val_main_v63 (F := Ideal) (ix2 n j)) = fun j => Ideal.cos (colAngle n j) := funext fun j => congrArg Ideal.cos (col_angle n j)
  have e₄ : (fun j => val_main_v64 (F := Ideal) (ix2 n j)) = fun j => Ideal.sin (colAngle n j) := funext fun j => congrArg Ideal.sin (col_angle n j)
  rw [e₁, e₂, e₃, e₄]
  exact congrArg _ (Fin.ext (by dsimp only; omega))

theorem q_val (i : Fin 32768) (d : Fin 512) : val_main_v162 (F := Ideal) x0 x1 x2 x3 x4 (ix2 i d)
    = (args x0 x1 x2 x3 x4 x5).q ⟨i.val / 8192, by omega⟩ ⟨i.val % 8192, by omega⟩ d := by
  have h : val_main_v112 (F := Ideal) x0 x1 x2 x3 x4 = turns (headNorm (val_main_v65 (F := Ideal) x0 x1 x2 x3) x4) (val_main_v61 (F := Ideal)) (val_main_v62 (F := Ideal)) (val_main_v63 (F := Ideal)) (val_main_v64 (F := Ideal)) := rfl
  pointwise [val_main_v162, val_main_v161]
  rw [h]
  refine heads_val _ _ _ x4 (fun d => column ((args x0 x1 x2 x3 x4 x5).hid ⟨i.val / 8192, by omega⟩ ⟨i.val % 8192, by omega⟩) (fun k d => x3 (ix3 0 k d)) ⟨512 + d.val, by omega⟩) (fun a s j => ?_) d
  pointwise [val_main_v65, val_main_v30]
  rw [column_val x0 x1 x2 x3 x4 x5]

theorem k_val (i : Fin 32768) (d : Fin 512) : val_main_v164 (F := Ideal) x0 x1 x2 x3 x5 (ix2 i d)
    = (args x0 x1 x2 x3 x4 x5).k ⟨i.val / 8192, by omega⟩ ⟨i.val % 8192, by omega⟩ d := by
  have h : val_main_v160 (F := Ideal) x0 x1 x2 x3 x5 = turns (headNorm (val_main_v113 (F := Ideal) x0 x1 x2 x3) x5) (val_main_v61 (F := Ideal)) (val_main_v62 (F := Ideal)) (val_main_v63 (F := Ideal)) (val_main_v64 (F := Ideal)) := rfl
  pointwise [val_main_v164, val_main_v163]
  rw [h]
  refine heads_val _ _ _ x5 (fun d => column ((args x0 x1 x2 x3 x4 x5).hid ⟨i.val / 8192, by omega⟩ ⟨i.val % 8192, by omega⟩) (fun k d => x3 (ix3 0 k d)) ⟨1024 + d.val, by omega⟩) (fun a s j => ?_) d
  pointwise [val_main_v113, val_main_v31]
  rw [column_val x0 x1 x2 x3 x4 x5]

theorem v_val (a : Fin 4) (d : Fin 128) : val_main_v167 (F := Ideal) x0 x1 x2 x3 (ix4 b a d n)
    = (args x0 x1 x2 x3 x4 x5).v b n ⟨a.val * 128 + d.val, by omega⟩ := by
  pointwise [val_main_v167, val_main_v166, val_main_v165, val_main_v32]
  rw [column_val x0 x1 x2 x3 x4 x5]
  rfl

theorem u_val (r : Fin 64) (a : Fin 128) (d : Fin 512) : val_main_v174 (F := Ideal) x0 x1 x2 x3 (ix4 b r a d)
    = (args x0 x1 x2 x3 x4 x5).u b ⟨a.val * 64 + r.val, by omega⟩ d := by
  pointwise [val_main_v174, val_main_v173, val_main_v172, val_main_v171]
  rw [column_val x0 x1 x2 x3 x4 x5]
  rfl

theorem g_val (i : Fin 32768) (d : Fin 1024) : val_main_v170 (F := Ideal) x0 x1 x2 x3 (ix2 i d)
    = (args x0 x1 x2 x3 x4 x5).g ⟨i.val / 8192, by omega⟩ ⟨i.val % 8192, by omega⟩ d := by
  pointwise [val_main_v170, val_main_v169, val_main_v168, val_main_call0_v0, val_main_call0_v1, val_main_call0_v2, val_main_call0_v3, val_main_call0_v4, val_main_call0_v5, val_main_call0_cst, val_main_call0_cst_0, val_main_v33]
  rw [column_val x0 x1 x2 x3 x4 x5]
  rfl

end Cert.Proj.Ref
end
-- ==== Proof.Proj.Kernel.lean ====
/-
  The in-projection kernel's results: each block's rows are the in-projection's rows at their place in the sequence.
-/
module

public import proofs.«01_k».proof.Proof.Proj.Stage
public import proofs.«01_k».proof.Proof.Proj.Blocks
public import proofs.«01_k».proof.Proof.Proj.Ref

@[expose] public section

set_option maxRecDepth 16384

noncomputable section

namespace Cert.Proj.Result

open Cert.Kernel3Ideal Cert.Kernel3Ideal.Gen Cert.Kernel3Ideal.Value Cert.Proj.Blocks Idealize.ShloMosaic Idealize.ShloMosaic.TcCoe Idealize.SL.Sem

variable (m : (ℓ : Loc nD τ sig) → Buf (Elt Ideal) ℓ) (c : Dev nD)

/-- The in-projection's arguments as launched. -/
abbrev args : Args := Ref.args (arg0 m c) (arg1 m c) (arg2 m c) (arg3 m c) (arg4 m c) (arg5 m c)

/-- A row of the flattened sequences: its sequence. -/
abbrev seq (i : Fin 32768) : Fin 4 := ⟨i.val / 8192, by omega⟩

/-- A row of the flattened sequences: its place. -/
abbrev place (i : Fin 32768) : Fin 8192 := ⟨i.val % 8192, by omega⟩

/-- The Fourier mixer's columns: the sequence's rows in 128 runs of 64, the place in the run first. -/
def u (i : S4x64x128x512.Idx) : EReal := (args m c).u (i 0) ⟨(i 2).val * 64 + (i 1).val, by
  have h₁ : (i 1).val < 64 := (i 1).isLt
  have h₂ : (i 2).val < 128 := (i 2).isLt
  omega⟩ (i 3)

/-- The queries. -/
def q (i : S32768x512.Idx) : EReal := (args m c).q (seq (i 0)) (place (i 0)) (i 1)

/-- The keys. -/
def k (i : S32768x512.Idx) : EReal := (args m c).k (seq (i 0)) (place (i 0)) (i 1)

/-- The values, with the rows last. -/
def v (i : S4x4x128x8192.Idx) : EReal := (args m c).v (i 0) (i 3) ⟨(i 1).val * 128 + (i 2).val, by
  have h₁ : (i 1).val < 4 := (i 1).isLt
  have h₂ : (i 2).val < 128 := (i 2).isLt
  omega⟩

/-- The gate. -/
def g (i : S32768x1024.Idx) : EReal := (args m c).g (seq (i 0)) (place (i 0)) (i 1)

/-- Two groups share a table. -/
theorem table_head (a b c e : Fin 16 → EReal) (d : Fin 512) : table a b c e ⟨d.val % 128, by omega⟩ = table a b c e d := by
  have h : d.val % 128 % 64 = d.val % 64 := by omega
  unfold table
  simp only [h]

section Rows

variable (t : Fin cfg0.N) (r : Fin 1024)

/-- Row `r` of block `t`: its sequence. -/
abbrev seqOf : Fin 4 := ⟨t.val / 8, by have := lt32 t; omega⟩

/-- Row `r` of block `t`: its place in the sequence. -/
abbrev placeOf : Fin 8192 := ⟨1024 * (t.val % 8) + r.val, by omega⟩

/-- Row `r` of block `t` among all rows. -/
abbrev rowOf : Fin 32768 := ⟨1024 * t.val + r.val, by have := lt32 t; omega⟩

theorem seq_rowOf : seq (rowOf t r) = seqOf t := Fin.ext (show (1024 * t.val + r.val) / 8192 = t.val / 8 by omega)

theorem place_rowOf : place (rowOf t r) = placeOf t r := Fin.ext (show (1024 * t.val + r.val) % 8192 = 1024 * (t.val % 8) + r.val by omega)

/-- The normed rows of a block. -/
abbrev hid : FVec Ideal S1024x1024 .bf16 := k0_pay2 (iblk m c 0 t) (iblk m c 3 t) (iblk m c 1 t) (iblk m c 2 t)

theorem hid_eq (k : Fin 1024) : hid m c t (ix2 r k) = (args m c).hid (seqOf t) (placeOf t r) k := by
  have ht := lt32 t
  have e : ∀ k, (iblk m c 0 t : S1024x1024.Idx → EReal) (ix2 r k) = (args m c).x (seqOf t) (placeOf t r) k := fun k => by
    refine (block_0 m c t r k).trans ((main_v76_at m c _ k).trans ?_)
    show arg0 m c _ = arg0 m c _
    congr 2 <;> apply Fin.ext <;> dsimp only <;> omega
  have eg : ∀ k, (iblk m c 3 t : S1x1024.Idx → EReal) (ix2 0 k) = (args m c).gain k := fun k => (block_3 m c t k).trans (main_v75_at m c k)
  have es : ∀ k, (iblk m c 1 t : S1x1x1024.Idx → EReal) (ix3 0 0 k) = (args m c).shift (seqOf t) k := fun k => (block_1 m c t k).trans (main_v2_at m c _ k)
  have ec : ∀ k, (iblk m c 2 t : S1x1x1024.Idx → EReal) (ix3 0 0 k) = (args m c).scale (seqOf t) k := fun k => (block_2 m c t k).trans (main_v5_at m c _ k)
  refine (hid_apply _ _ _ _ r k).trans ?_
  simp only [e, eg, es, ec]
  rfl

theorem heads_eq (w : Vec Ideal S1024x512 .bf16) (γ : Vec Ideal S1x512 .f32) (gain : Fin 64 → EReal) (o : Nat) (ho : o + 512 ≤ 3072)
    (hw : ∀ (k : Fin 1024) (d : Fin 512), w (ix2 k d) = (args m c).w k ⟨o + d.val, by omega⟩) (hγ : ∀ d : Fin 512, γ (ix2 0 d) = gain ⟨d.val % 64, by omega⟩) (d : Fin 512) :
    k0_pay369 (k0_pay366 (hid m c t) (k0_pay5 (iblk m c 8 t)) w γ) (k0_pay367 (k0_pay4 (iblk m c 5 t))) (k0_pay368 (hid m c t) (k0_pay3 (iblk m c 4 t)) (k0_pay5 (iblk m c 8 t)) w γ) (ix2 r d)
      = rotated (grouped (fun d => column ((args m c).hid (seqOf t) (placeOf t r)) (args m c).w ⟨o + d.val, by omega⟩) gain)
          ((args m c).cosR (placeOf t r)) ((args m c).sinR (placeOf t r)) ((args m c).cosC (placeOf t r)) ((args m c).sinC (placeOf t r)) d := by
  have h3 : k0_pay3 (iblk m c 4 t) = (iblk m c 4 t : S1024x128.Idx → EReal) := shapeCast_self _ _
  have h4 : k0_pay4 (iblk m c 5 t) = (iblk m c 5 t : S1024x128.Idx → EReal) := shapeCast_self _ _
  have h5 : k0_pay5 (iblk m c 8 t) = (iblk m c 8 t : S256x256.Idx → EReal) := shapeCast_self _ _
  rw [h3, h4, h5]
  refine (heads_apply _ _ _ _ w γ r d).trans ?_
  rw [← rotatedBy_eq, ← groupedBy_eq _ _ gain _ (fun x y => (block_8 m c t x y).trans (main_v31_at m c x y)) hγ]
  have ec : ∀ d : Fin 512, (iblk m c 4 t : S1024x128.Idx → EReal) (ix2 r ⟨d.val % 128, by omega⟩)
      = table ((args m c).cosR (placeOf t r)) ((args m c).cosR (placeOf t r)) ((args m c).cosC (placeOf t r)) ((args m c).cosC (placeOf t r)) d := fun d =>
    (block_4 m c t r _).trans ((main_v71_at m c _ _).trans (table_head _ _ _ _ d))
  have es : ∀ d : Fin 512, (iblk m c 5 t : S1024x128.Idx → EReal) (ix2 r ⟨d.val % 128, by omega⟩)
      = table (fun j => -(args m c).sinR (placeOf t r) j) ((args m c).sinR (placeOf t r)) (fun j => -(args m c).sinC (placeOf t r) j) ((args m c).sinC (placeOf t r)) d := fun d =>
    (block_5 m c t r _).trans ((main_v72_at m c _ _).trans (table_head _ _ _ _ d))
  simp only [hid_eq, hw, ec, es]
  rfl

/-- A block of the queries. -/
abbrev qBlock : Vec Ideal S1024x512 .bf16 :=
  k0_pay369 (k0_pay366 (hid m c t) (k0_pay5 (iblk m c 8 t)) (iblk m c 10 t) (iblk m c 6 t)) (k0_pay367 (k0_pay4 (iblk m c 5 t)))
    (k0_pay368 (hid m c t) (k0_pay3 (iblk m c 4 t)) (k0_pay5 (iblk m c 8 t)) (iblk m c 10 t) (iblk m c 6 t))

theorem q_eq (d : Fin 512) : qBlock m c t (ix2 r d) = q m c (ix2 (rowOf t r) d) := by
  refine (heads_eq m c t r _ _ (args m c).qg 512 (by omega) (fun k d => (block_10 m c t k d).trans (main_v9_at m c k d)) (fun d => (block_6 m c t d).trans (main_v17_at m c d)) d).trans ?_
  show (args m c).q (seqOf t) (placeOf t r) d = (args m c).q (seq (rowOf t r)) (place (rowOf t r)) d
  rw [seq_rowOf, place_rowOf]

theorem k_eq (d : Fin 512) : k0_pay370 (hid m c t) (k0_pay3 (iblk m c 4 t)) (k0_pay4 (iblk m c 5 t)) (k0_pay5 (iblk m c 8 t)) (iblk m c 11 t) (iblk m c 7 t) (ix2 r d)
    = k m c (ix2 (rowOf t r) d) := by
  rw [keys_eq]
  refine (heads_eq m c t r _ _ (args m c).kg 1024 (by omega) (fun k d => (block_11 m c t k d).trans (main_v10_at m c k d)) (fun d => (block_7 m c t d).trans (main_v22_at m c d)) d).trans ?_
  show (args m c).k (seqOf t) (placeOf t r) d = (args m c).k (seq (rowOf t r)) (place (rowOf t r)) d
  rw [seq_rowOf, place_rowOf]

/-- A block of the values. -/
abbrev vBlock : Vec Ideal S1x4x128x1024 .bf16 :=
  heads (k0_pay372 (hid m c t) (iblk m c 12 t)) (k0_pay373 (hid m c t) (iblk m c 12 t)) (k0_pay374 (hid m c t) (iblk m c 12 t)) (k0_pay375 (hid m c t) (iblk m c 12 t))

theorem v_eq (a : Fin 4) (d : Fin 128) : vBlock m c t (ix4 0 a d r) = v m c (ix4 (seqOf t) a d (placeOf t r)) := by
  have hw : ∀ (k : Fin 1024) (d : Fin 512), (iblk m c 12 t : S1024x512.Idx → EReal) (ix2 k d) = (args m c).w k ⟨1536 + d.val, by omega⟩ := fun k d => (block_12 m c t k d).trans (main_v11_at m c k d)
  refine (values_apply _ _ a d r).trans ?_
  simp only [hid_eq, hw]
  rfl

theorem g_eq (d : Fin 1024) : k0_pay1 (k0_pay376 (hid m c t) (iblk m c 13 t)) (k0_pay377 (hid m c t) (iblk m c 13 t)) k0_pay378 (ix2 r d) = g m c (ix2 (rowOf t r) d) := by
  have hw : ∀ k d : Fin 1024, (iblk m c 13 t : S1024x1024.Idx → EReal) (ix2 k d) = (args m c).w k ⟨2048 + d.val, by omega⟩ := fun k d => (block_13 m c t k d).trans (main_v12_at m c k d)
  refine (gate_apply _ _ r d).trans ?_
  simp only [hid_eq, hw]
  show (args m c).g (seqOf t) (placeOf t r) d = (args m c).g (seq (rowOf t r)) (place (rowOf t r)) d
  rw [seq_rowOf, place_rowOf]

theorem u_eq (b : Fin 64) (n : Fin 16) (d : Fin 512) :
    ∑ k, hid m c t (ix2 ⟨n.val * 64 + b.val, by omega⟩ k) * (iblk m c 9 t : S1024x512.Idx → EReal) (ix2 k d) = u m c (ix4 (seqOf t) b ⟨16 * (t.val % 8) + n.val, by omega⟩ d) := by
  have hw : ∀ (k : Fin 1024) (d : Fin 512), (iblk m c 9 t : S1024x512.Idx → EReal) (ix2 k d) = (args m c).w k ⟨d.val, by omega⟩ := fun k d => (block_9 m c t k d).trans (main_v8_at m c k d)
  simp only [hid_eq, hw]
  show (args m c).u (seqOf t) (placeOf t ⟨n.val * 64 + b.val, by omega⟩) d = (args m c).u (seqOf t) ⟨(16 * (t.val % 8) + n.val) * 64 + b.val, by omega⟩ d
  congr 1
  apply Fin.ext
  show 1024 * (t.val % 8) + (n.val * 64 + b.val) = (16 * (t.val % 8) + n.val) * 64 + b.val
  omega

end Rows

theorem u_flushed (t : Fin cfg0.N) : (dats m 0 c).flushed 14 t = ((cfg0.win 14).blk t).view.read (Elt Ideal) (u m c) := by
  rw [flushed14_A]
  funext j
  rw [View.read_apply]
  obtain ⟨b, n, d, rfl⟩ : ∃ (b : Fin 64) (n : Fin 16) (d : Fin 512), j = (ix4 0 b n d : S1x64x16x512.Idx) := ⟨j 1, j 2, j 3, by
    funext x
    fin_cases x
    · exact Subsingleton.elim (α := Fin 1) _ _
    all_goals rfl⟩
  refine (out_14_apply _ _ _ _ _ _ _ _ _ _ _ _ _ _ _ _ _ _ _ _ _ _ _ _ _ _ _ _ _ _ _ _ _ _ _ _ _ _ _ _ _ _ _ _ _ _ _ _ _ _ _ _ _ _ _ _ b n d).trans ((u_eq m c t b n d).trans ?_)
  show u m c _ = u m c _
  congr 1
  funext x
  apply Fin.ext
  match x with
  | ⟨0, _⟩ =>
    show t.val / 8 = win0_14.index t 0 * 1 + 1 * 0
    rw [index_14]
    show _ = t.val / 8 * 1 + 1 * 0
    omega
  | ⟨1, _⟩ =>
    show b.val = win0_14.index t 1 * 64 + 1 * b.val
    rw [index_14]
    show _ = 0 * 64 + 1 * b.val
    omega
  | ⟨2, _⟩ =>
    show 16 * (t.val % 8) + n.val = win0_14.index t 2 * 16 + 1 * n.val
    rw [index_14]
    show _ = t.val % 8 * 16 + 1 * n.val
    omega
  | ⟨3, _⟩ =>
    show d.val = win0_14.index t 3 * 512 + 1 * d.val
    rw [index_14]
    show _ = 0 * 512 + 1 * d.val
    omega

/-- The mixer's columns after the last block. -/
theorem u_final : (dats m 0 c).arrAt 14 cfg0.N = u m c :=
  (dats m 0 c).arrAt_eq_of_cover 14 (u m c) (fun t _ => u_flushed m c t) fun i => by
    have i0 : (i 0 : ℕ) < 4 := (i 0).isLt
    have i1 : (i 1 : ℕ) < 64 := (i 1).isLt
    have i2 : (i 2 : ℕ) < 128 := (i 2).isLt
    have i3 : (i 3 : ℕ) < 512 := (i 3).isLt
    let t : Fin cfg0.N := ⟨(i 0 : ℕ) * 8 + (i 2 : ℕ) / 16, by show _ < 32; omega⟩
    refine ⟨t, flush0_14 t, ?_⟩
    show i ∈ ((View.whole main_v77_0).slice (win0_14.rect t)).set
    rw [View.set_slice_whole, Rect.mem_set_unit]
    have ht : t.val = (i 0 : ℕ) * 8 + (i 2 : ℕ) / 16 := rfl
    intro x
    match x with
    | ⟨0, _⟩ =>
      show win0_14.index t 0 * 1 ≤ (i 0 : ℕ) ∧ (i 0 : ℕ) < win0_14.index t 0 * 1 + 1
      rw [index_14]
      show t.val / 8 * 1 ≤ _ ∧ _ < t.val / 8 * 1 + 1
      omega
    | ⟨1, _⟩ =>
      show win0_14.index t 1 * 64 ≤ (i 1 : ℕ) ∧ (i 1 : ℕ) < win0_14.index t 1 * 64 + 64
      rw [index_14]
      show 0 * 64 ≤ _ ∧ _ < 0 * 64 + 64
      omega
    | ⟨2, _⟩ =>
      show win0_14.index t 2 * 16 ≤ (i 2 : ℕ) ∧ (i 2 : ℕ) < win0_14.index t 2 * 16 + 16
      rw [index_14]
      show t.val % 8 * 16 ≤ _ ∧ _ < t.val % 8 * 16 + 16
      omega
    | ⟨3, _⟩ =>
      show win0_14.index t 3 * 512 ≤ (i 3 : ℕ) ∧ (i 3 : ℕ) < win0_14.index t 3 * 512 + 512
      rw [index_14]
      show 0 * 512 ≤ _ ∧ _ < 0 * 512 + 512
      omega

theorem q_flushed (t : Fin cfg0.N) : (dats m 0 c).flushed 15 t = ((cfg0.win 15).blk t).view.read (Elt Ideal) (q m c) := by
  rw [flushed15_A, out_15]
  funext j
  rw [View.read_apply]
  obtain ⟨r, d, rfl⟩ : ∃ (r : Fin 1024) (d : Fin 512), j = (ix2 r d : S1024x512.Idx) := ⟨j 0, j 1, by funext a; fin_cases a <;> rfl⟩
  refine (q_eq m c t r d).trans ?_
  show q m c _ = q m c _
  congr 1
  funext a
  apply Fin.ext
  match a with
  | ⟨0, _⟩ =>
    show 1024 * t.val + r.val = win0_15.index t 0 * 1024 + 1 * r.val
    rw [index_15]
    show _ = t.val * 1024 + 1 * r.val
    omega
  | ⟨1, _⟩ =>
    show d.val = win0_15.index t 1 * 512 + 1 * d.val
    rw [index_15]
    show _ = 0 * 512 + 1 * d.val
    omega

/-- The queries after the last block. -/
theorem q_final : (dats m 0 c).arrAt 15 cfg0.N = q m c :=
  (dats m 0 c).arrAt_eq_of_cover 15 (q m c) (fun t _ => q_flushed m c t) fun i => by
    have i0 : (i 0 : ℕ) < 32768 := (i 0).isLt
    have i1 : (i 1 : ℕ) < 512 := (i 1).isLt
    let t : Fin cfg0.N := ⟨(i 0 : ℕ) / 1024, by show _ < 32; omega⟩
    refine ⟨t, flush0_15 t, ?_⟩
    show i ∈ ((View.whole main_v77_1).slice (win0_15.rect t)).set
    rw [View.set_slice_whole, Rect.mem_set_unit]
    have ht : t.val = (i 0 : ℕ) / 1024 := rfl
    intro a
    match a with
    | ⟨0, _⟩ =>
      show win0_15.index t 0 * 1024 ≤ (i 0 : ℕ) ∧ (i 0 : ℕ) < win0_15.index t 0 * 1024 + 1024
      rw [index_15]
      show t.val * 1024 ≤ _ ∧ _ < t.val * 1024 + 1024
      omega
    | ⟨1, _⟩ =>
      show win0_15.index t 1 * 512 ≤ (i 1 : ℕ) ∧ (i 1 : ℕ) < win0_15.index t 1 * 512 + 512
      rw [index_15]
      show 0 * 512 ≤ _ ∧ _ < 0 * 512 + 512
      omega

theorem k_flushed (t : Fin cfg0.N) : (dats m 0 c).flushed 16 t = ((cfg0.win 16).blk t).view.read (Elt Ideal) (k m c) := by
  rw [flushed16_A, out_16]
  funext j
  rw [View.read_apply]
  obtain ⟨r, d, rfl⟩ : ∃ (r : Fin 1024) (d : Fin 512), j = (ix2 r d : S1024x512.Idx) := ⟨j 0, j 1, by funext a; fin_cases a <;> rfl⟩
  refine (k_eq m c t r d).trans ?_
  show k m c _ = k m c _
  congr 1
  funext a
  apply Fin.ext
  match a with
  | ⟨0, _⟩ =>
    show 1024 * t.val + r.val = win0_16.index t 0 * 1024 + 1 * r.val
    rw [index_16]
    show _ = t.val * 1024 + 1 * r.val
    omega
  | ⟨1, _⟩ =>
    show d.val = win0_16.index t 1 * 512 + 1 * d.val
    rw [index_16]
    show _ = 0 * 512 + 1 * d.val
    omega

/-- The keys after the last block. -/
theorem k_final : (dats m 0 c).arrAt 16 cfg0.N = k m c :=
  (dats m 0 c).arrAt_eq_of_cover 16 (k m c) (fun t _ => k_flushed m c t) fun i => by
    have i0 : (i 0 : ℕ) < 32768 := (i 0).isLt
    have i1 : (i 1 : ℕ) < 512 := (i 1).isLt
    let t : Fin cfg0.N := ⟨(i 0 : ℕ) / 1024, by show _ < 32; omega⟩
    refine ⟨t, flush0_16 t, ?_⟩
    show i ∈ ((View.whole main_v77_2).slice (win0_16.rect t)).set
    rw [View.set_slice_whole, Rect.mem_set_unit]
    have ht : t.val = (i 0 : ℕ) / 1024 := rfl
    intro a
    match a with
    | ⟨0, _⟩ =>
      show win0_16.index t 0 * 1024 ≤ (i 0 : ℕ) ∧ (i 0 : ℕ) < win0_16.index t 0 * 1024 + 1024
      rw [index_16]
      show t.val * 1024 ≤ _ ∧ _ < t.val * 1024 + 1024
      omega
    | ⟨1, _⟩ =>
      show win0_16.index t 1 * 512 ≤ (i 1 : ℕ) ∧ (i 1 : ℕ) < win0_16.index t 1 * 512 + 512
      rw [index_16]
      show 0 * 512 ≤ _ ∧ _ < 0 * 512 + 512
      omega

theorem v_flushed (t : Fin cfg0.N) : (dats m 0 c).flushed 17 t = ((cfg0.win 17).blk t).view.read (Elt Ideal) (v m c) := by
  rw [flushed17_A, out_17]
  funext j
  rw [View.read_apply]
  obtain ⟨a, d, r, rfl⟩ : ∃ (a : Fin 4) (d : Fin 128) (r : Fin 1024), j = (ix4 0 a d r : S1x4x128x1024.Idx) := ⟨j 1, j 2, j 3, by
    funext x
    fin_cases x
    · exact Subsingleton.elim (α := Fin 1) _ _
    all_goals rfl⟩
  refine (v_eq m c t r a d).trans ?_
  show v m c _ = v m c _
  congr 1
  funext x
  apply Fin.ext
  match x with
  | ⟨0, _⟩ =>
    show t.val / 8 = win0_17.index t 0 * 1 + 1 * 0
    rw [index_17]
    show _ = t.val / 8 * 1 + 1 * 0
    omega
  | ⟨1, _⟩ =>
    show a.val = win0_17.index t 1 * 4 + 1 * a.val
    rw [index_17]
    show _ = 0 * 4 + 1 * a.val
    omega
  | ⟨2, _⟩ =>
    show d.val = win0_17.index t 2 * 128 + 1 * d.val
    rw [index_17]
    show _ = 0 * 128 + 1 * d.val
    omega
  | ⟨3, _⟩ =>
    show 1024 * (t.val % 8) + r.val = win0_17.index t 3 * 1024 + 1 * r.val
    rw [index_17]
    show _ = t.val % 8 * 1024 + 1 * r.val
    omega

/-- The values after the last block. -/
theorem v_final : (dats m 0 c).arrAt 17 cfg0.N = v m c :=
  (dats m 0 c).arrAt_eq_of_cover 17 (v m c) (fun t _ => v_flushed m c t) fun i => by
    have i0 : (i 0 : ℕ) < 4 := (i 0).isLt
    have i1 : (i 1 : ℕ) < 4 := (i 1).isLt
    have i2 : (i 2 : ℕ) < 128 := (i 2).isLt
    have i3 : (i 3 : ℕ) < 8192 := (i 3).isLt
    let t : Fin cfg0.N := ⟨(i 0 : ℕ) * 8 + (i 3 : ℕ) / 1024, by show _ < 32; omega⟩
    refine ⟨t, flush0_17 t, ?_⟩
    show i ∈ ((View.whole main_v77_3).slice (win0_17.rect t)).set
    rw [View.set_slice_whole, Rect.mem_set_unit]
    have ht : t.val = (i 0 : ℕ) * 8 + (i 3 : ℕ) / 1024 := rfl
    intro x
    match x with
    | ⟨0, _⟩ =>
      show win0_17.index t 0 * 1 ≤ (i 0 : ℕ) ∧ (i 0 : ℕ) < win0_17.index t 0 * 1 + 1
      rw [index_17]
      show t.val / 8 * 1 ≤ _ ∧ _ < t.val / 8 * 1 + 1
      omega
    | ⟨1, _⟩ =>
      show win0_17.index t 1 * 4 ≤ (i 1 : ℕ) ∧ (i 1 : ℕ) < win0_17.index t 1 * 4 + 4
      rw [index_17]
      show 0 * 4 ≤ _ ∧ _ < 0 * 4 + 4
      omega
    | ⟨2, _⟩ =>
      show win0_17.index t 2 * 128 ≤ (i 2 : ℕ) ∧ (i 2 : ℕ) < win0_17.index t 2 * 128 + 128
      rw [index_17]
      show 0 * 128 ≤ _ ∧ _ < 0 * 128 + 128
      omega
    | ⟨3, _⟩ =>
      show win0_17.index t 3 * 1024 ≤ (i 3 : ℕ) ∧ (i 3 : ℕ) < win0_17.index t 3 * 1024 + 1024
      rw [index_17]
      show t.val % 8 * 1024 ≤ _ ∧ _ < t.val % 8 * 1024 + 1024
      omega

theorem g_flushed (t : Fin cfg0.N) : (dats m 0 c).flushed 18 t = ((cfg0.win 18).blk t).view.read (Elt Ideal) (g m c) := by
  rw [flushed18_A, out_18]
  funext j
  rw [View.read_apply]
  obtain ⟨r, d, rfl⟩ : ∃ (r : Fin 1024) (d : Fin 1024), j = (ix2 r d : S1024x1024.Idx) := ⟨j 0, j 1, by funext a; fin_cases a <;> rfl⟩
  refine (g_eq m c t r d).trans ?_
  show g m c _ = g m c _
  congr 1
  funext a
  apply Fin.ext
  match a with
  | ⟨0, _⟩ =>
    show 1024 * t.val + r.val = win0_18.index t 0 * 1024 + 1 * r.val
    rw [index_18]
    show _ = t.val * 1024 + 1 * r.val
    omega
  | ⟨1, _⟩ =>
    show d.val = win0_18.index t 1 * 1024 + 1 * d.val
    rw [index_18]
    show _ = 0 * 1024 + 1 * d.val
    omega

/-- The gate after the last block. -/
theorem g_final : (dats m 0 c).arrAt 18 cfg0.N = g m c :=
  (dats m 0 c).arrAt_eq_of_cover 18 (g m c) (fun t _ => g_flushed m c t) fun i => by
    have i0 : (i 0 : ℕ) < 32768 := (i 0).isLt
    have i1 : (i 1 : ℕ) < 1024 := (i 1).isLt
    let t : Fin cfg0.N := ⟨(i 0 : ℕ) / 1024, by show _ < 32; omega⟩
    refine ⟨t, flush0_18 t, ?_⟩
    show i ∈ ((View.whole main_v77_4).slice (win0_18.rect t)).set
    rw [View.set_slice_whole, Rect.mem_set_unit]
    have ht : t.val = (i 0 : ℕ) / 1024 := rfl
    intro a
    match a with
    | ⟨0, _⟩ =>
      show win0_18.index t 0 * 1024 ≤ (i 0 : ℕ) ∧ (i 0 : ℕ) < win0_18.index t 0 * 1024 + 1024
      rw [index_18]
      show t.val * 1024 ≤ _ ∧ _ < t.val * 1024 + 1024
      omega
    | ⟨1, _⟩ =>
      show win0_18.index t 1 * 1024 ≤ (i 1 : ℕ) ∧ (i 1 : ℕ) < win0_18.index t 1 * 1024 + 1024
      rw [index_18]
      show 0 * 1024 ≤ _ ∧ _ < 0 * 1024 + 1024
      omega

end Cert.Proj.Result
end
-- ==== Proof.Proj.Claims.lean ====
/-
  The claims about the in-projection call: the kernel's queries, keys, values, gate and mixer's columns beside the reference's.
-/
module

public import proofs.«01_k».proof.Defs
public import proofs.«01_k».proof.Proof.Proj.Kernel
public import proofs.«01_k».proof.Proof.Gen.Kernel3.Frame
public import proofs.«01_k».proof.Proof.Gen.Reference3Ideal.Run
public import Idealize.ShloMosaic.Lib.Quiescent

@[expose] public section

set_option maxRecDepth 16384

noncomputable section

namespace Cert.Proj

open Idealize.ShloMosaic Idealize.ShloMosaic.TcCoe Idealize.SL.Sem

theorem frame_kernel : Cert.quiescent_Kernel3 (hKernel3 := Cert.Kernel3.Gen.facts) := fun m ρ _ => Cert.Kernel3.Gen.frame m ρ

theorem frame_kernelIdeal : Cert.quiescent_Kernel3Ideal (hKernel3Ideal := Cert.Kernel3Ideal.Gen.facts) := fun m ρ _ => Cert.Kernel3Ideal.Gen.frame m ρ

theorem frame_referenceIdeal : Cert.quiescent_Reference3Ideal (hReference3Ideal := Cert.Reference3Ideal.Gen.facts) := fun m ρ _ =>
  (θ_run _ _ _).mono (fun r h => ⟨fun c => (h c).2.2.2.2.2, sem_eq_zero_of_no_sems rfl r.2⟩) (Cert.Reference3Ideal.Value.run m ρ)

theorem algebraic : Cert.algebraic_Kernel3Ideal_Reference3Ideal (hKernel3Ideal := Cert.Kernel3Ideal.Gen.facts)
    (hReference3Ideal := Cert.Reference3Ideal.Gen.facts) := by
  intro m g m' g' _ hagree
  refine ⟨Result.q m, Result.k m, Result.v m, Result.g m, Result.u m, ?_, ?_⟩
  · exact (θ_run _ _ _).mono (fun r h c => ⟨(h c).2.1.trans (Result.q_final m c), (h c).2.2.1.trans (Result.k_final m c), (h c).2.2.2.1.trans (Result.v_final m c),
      (h c).2.2.2.2.1.trans (Result.g_final m c), (h c).1.trans (Result.u_final m c), (h c).2.2.2.2.2⟩) (Cert.Kernel3Ideal.Value.run_blocks m g)
  · refine (θ_run _ _ _).mono (fun r h c => ⟨(h c).1.trans ?_, (h c).2.1.trans ?_, (h c).2.2.1.trans ?_, (h c).2.2.2.1.trans ?_, (h c).2.2.2.2.1.trans ?_, (h c).2.2.2.2.2⟩) (Cert.Reference3Ideal.Value.run m' g')
    all_goals obtain ⟨a0, a1, a2, a3, a4, a5⟩ := hagree c
    · rw [Cert.Reference3Ideal.Read.val_main_v162_eq]
      simp only [StableHlo.launchContents]
      rw [a0, a1, a2, a3, a4]
      funext i
      idx_vars i
      exact Ref.q_val _ _ _ _ _ (Blocks.arg5 m c) _ _
    · rw [Cert.Reference3Ideal.Read.val_main_v164_eq]
      simp only [StableHlo.launchContents]
      rw [a0, a1, a2, a3, a5]
      funext i
      idx_vars i
      exact Ref.k_val _ _ _ _ (Blocks.arg4 m c) _ _ _
    · rw [Cert.Reference3Ideal.Read.val_main_v167_eq]
      simp only [StableHlo.launchContents]
      rw [a0, a1, a2, a3]
      funext i
      idx_vars i
      exact Ref.v_val _ _ _ _ (Blocks.arg4 m c) (Blocks.arg5 m c) _ _ _ _
    · rw [Cert.Reference3Ideal.Read.val_main_v170_eq]
      simp only [StableHlo.launchContents]
      rw [a0, a1, a2, a3]
      funext i
      idx_vars i
      exact Ref.g_val _ _ _ _ (Blocks.arg4 m c) (Blocks.arg5 m c) _ _
    · rw [Cert.Reference3Ideal.Read.val_main_v174_eq]
      simp only [StableHlo.launchContents]
      rw [a0, a1, a2, a3]
      funext i
      idx_vars i
      exact Ref.u_val _ _ _ _ (Blocks.arg4 m c) (Blocks.arg5 m c) _ _ _ _

end Cert.Proj
end
-- ==== Proof.Ctx.Row.lean ====
/-
  The keys and values of the context on one row of 1024 channels: the in-projection's norm, products and group norm, without
  the rotation.
-/
module

public import proofs.«01_k».proof.Proof.Proj.Row

@[expose] public section

noncomputable section

namespace Cert.Ctx

open Cert.Proj Idealize.ShloMosaic

/-- What the context's call takes: the context, its modulation row, the weights and the gains. -/
structure Args where
  x : Fin 4 → Fin 256 → Row
  shift : Row
  scale : Row
  gain : Row
  w : Fin 1024 → Fin 3072 → EReal
  kg : Fin 64 → EReal

namespace Args

variable (A : Args) (b : Fin 4) (n : Fin 256)

/-- Row `n` after the norm. -/
def hid : Row := normed (A.x b n) A.gain A.scale A.shift

/-- Row `n` of the keys. -/
def k : Heads := grouped (fun d => column (A.hid b n) A.w ⟨1024 + d.val, by omega⟩) A.kg

/-- Row `n` of the values. -/
def v : Heads := fun d => column (A.hid b n) A.w ⟨1536 + d.val, by omega⟩

end Args

end Cert.Ctx
end
-- ==== Proof.Ctx.Block.lean ====
/-
  The blocks that one grid point of the context's call leaves, read at an index over the extended reals.
-/
module

public import proofs.«01_k».proof.Proof.Gen.Kernel4Ideal.Value
public import proofs.«01_k».proof.Proof.Ctx.Row
public import Idealize.ShloMosaic.Lib.Pointwise
public import Idealize.ShloMosaic.Lib.Pipeline.Value
public import Idealize.ShloMosaic.Lib.Pipeline.ValueKit.Tiles

@[expose] public section

set_option maxRecDepth 16384

noncomputable section

namespace Cert.Ctx

open Cert.Proj Cert.Kernel4Ideal Cert.Kernel4Ideal.Gen Idealize.ShloMosaic

variable (x0 : Vec Ideal S256x1024 .f32) (x1 x2 x3 : Vec Ideal S1x1024 .f32) (x4 : Vec Ideal S1x512 .f32) (x5 : Vec Ideal S256x256 .bf16) (x6 x7 : Vec Ideal S1024x512 .bf16) (r : Fin 256)

/-- A row of the block after the norm. -/
abbrev hidRow : Row := normed (fun k => x0 (ix2 r k)) (fun k => x3 (ix2 0 k)) (fun k => x2 (ix2 0 k)) (fun k => x1 (ix2 0 k))

theorem hid_apply (k : Fin 1024) : k0_pay2 x0 x3 x1 x2 (ix2 r k) = hidRow x0 x1 x2 x3 r k := by
  pointwise [k0_pay2]
  rfl

theorem product_apply (d : Fin 512) : k0_pay3 x0 x3 x1 x2 x6 (ix2 r d) = ∑ k, hidRow x0 x1 x2 x3 r k * x6 (ix2 k d) := by
  pointwise [k0_pay3]
  simp only [hid_apply]

theorem keys_apply (d : Fin 512) : k0_pay9 (k0_pay3 x0 x3 x1 x2 x6) (k0_pay4 x4) (k0_pay5 x5) (k0_pay7 x0 x3 x1 x2 x6 x5) (k0_pay8 x0 x3 x1 x2 x6) (ix2 r d)
    = groupedBy (fun d => ∑ k, hidRow x0 x1 x2 x3 r k * x6 (ix2 k d)) (fun d => x4 (ix2 0 d)) (fun x y => x5 (ix2 x y)) d := by
  pointwise [k0_pay9, k0_pay4, k0_pay5, k0_pay6, k0_pay7, k0_pay8]
  simp only [product_apply]
  rfl

section Zero

theorem hz2 : (![0, 0] : Fin 2 → Nat) = fun _ => 0 := by decide

theorem out_8 : out0_8 x0 x1 x2 x3 x4 x5 x6 x7 = k0_pay9 (k0_pay3 x0 x3 x1 x2 x6) (k0_pay4 x4) (k0_pay5 x5) (k0_pay7 x0 x3 x1 x2 x6 x5) (k0_pay8 x0 x3 x1 x2 x6) := by
  unfold out0_8
  rw [View.canon_cons_unit_zero (S := S256x512) (by decide)]
  simp only [View.ld_unit_zero (S := S256x1024) hz2, View.ld_unit_zero (S := S1x1024) hz2, View.ld_unit_zero (S := S1024x512) hz2, View.ld_unit_zero (S := S1x512) hz2, View.ld_unit_zero (S := S256x256) hz2]

end Zero

section Values

variable (h : FVec Ideal S256x1024 .bf16) (w : Vec Ideal S1024x512 .bf16) (d : Fin 128)

theorem value0 : k0_pay11 h w (ix4 0 0 d r) = ∑ k, h (ix2 r k) * w (ix2 k ⟨d.val, by omega⟩) := by
  pointwise [k0_pay11, k0_pay10]

theorem value1 : k0_pay12 h w (ix4 0 0 d r) = ∑ k, h (ix2 r k) * w (ix2 k ⟨128 + d.val, by omega⟩) := by
  pointwise [k0_pay12, k0_pay10]

theorem value2 : k0_pay13 h w (ix4 0 0 d r) = ∑ k, h (ix2 r k) * w (ix2 k ⟨256 + d.val, by omega⟩) := by
  pointwise [k0_pay13, k0_pay10]

theorem value3 : k0_pay1 (k0_pay14 h w) (ix4 0 0 d r) = ∑ k, h (ix2 r k) * w (ix2 k ⟨384 + d.val, by omega⟩) := by
  pointwise [k0_pay1, k0_pay14, k0_pay10]

/-- One head's piece, where it holds an index. -/
theorem tileAt (a : Fin 4) (o : Nat) (p : Vec Ideal S1x1x128x256 .bf16) (v : EReal)
    (hv : a.val = o → p (ix4 0 0 d r) = v) : View.TileAt (Val := Elt Ideal) (S := S1x4x128x256) (e := .bf16) (ix4 0 a d r) ![0, o, 0, 0] ![1, 1, 128, 256] p v := by
  intro x hx
  have h₁ : a.val = o + (x 1).val := hx 1
  have h₂ : d.val = 0 + (x 2).val := hx 2
  have h₃ : r.val = 0 + (x 3).val := hx 3
  have l₀ : (x 0).val < 1 := (x 0).isLt
  have l₁ : (x 1).val < 1 := (x 1).isLt
  have e : x = ix4 0 0 d r := by
    funext q
    match q with
    | ⟨0, _⟩ => exact Fin.ext (show (x 0).val = 0 by omega)
    | ⟨1, _⟩ => exact Fin.ext (show (x 1).val = 0 by omega)
    | ⟨2, _⟩ => exact Fin.ext (show (x 2).val = d.val by omega)
    | ⟨3, _⟩ => exact Fin.ext (show (x 3).val = r.val by omega)
  rw [e]
  exact hv (by omega)

end Values

/-- Four heads' values as one product. -/
theorem values_apply (a : Fin 4) (d : Fin 128) : out0_9 x0 x1 x2 x3 x4 x5 x6 x7 (ix4 0 a d r) = ∑ k, hidRow x0 x1 x2 x3 r k * x7 (ix2 k ⟨a.val * 128 + d.val, by omega⟩) := by
  have e : ∀ (o : Nat) (ho : o + d.val < 512), a.val * 128 + d.val = o + d.val → ∑ k, k0_pay2 x0 x3 x1 x2 (ix2 r k) * x7 (ix2 k ⟨o + d.val, ho⟩) = ∑ k, hidRow x0 x1 x2 x3 r k * x7 (ix2 k ⟨a.val * 128 + d.val, by omega⟩) :=
    fun o ho ha => by simp only [ha, hid_apply]
  unfold out0_9 k0_pay15
  simp only [View.ld_unit_zero (S := S256x1024) hz2, View.ld_unit_zero (S := S1x1024) hz2, View.ld_unit_zero (S := S1024x512) hz2]
  refine View.canon_eq_of_allAt _ _ _ (cover0_9 _ _ _ _ _)
    (View.allAt_cons_unit _ _ _ _ _ (tileAt r d a 3 _ _ fun ha => ?_) (View.allAt_cons_unit _ _ _ _ _ (tileAt r d a 2 _ _ fun ha => ?_)
      (View.allAt_cons_unit _ _ _ _ _ (tileAt r d a 1 _ _ fun ha => ?_) (View.allAt_cons_unit _ _ _ _ _ (tileAt r d a 0 _ _ fun ha => ?_) (View.allAt_nil _ _)))))
  · exact (value3 r _ _ d).trans (e 384 (by omega) (by omega))
  · exact (value2 r _ _ d).trans (e 256 (by omega) (by omega))
  · exact (value1 r _ _ d).trans (e 128 (by omega) (by omega))
  · refine (value0 r _ _ d).trans (Eq.trans ?_ (e 0 (by omega) (by omega)))
    simp only [Nat.zero_add]

end Cert.Ctx
end
-- ==== Proof.Ctx.Ref.lean ====
/-
  The reference's keys and values of the context, row by row.
-/
module

public import proofs.«01_k».proof.Proof.Gen.Reference4Ideal.Read
public import proofs.«01_k».proof.Proof.Ctx.Row
public import Idealize.ShloMosaic.Lib.Pointwise
public import Idealize.ShloMosaic.PureOps.Ideal.Laws

@[expose] public section

set_option maxRecDepth 16384

noncomputable section

namespace Cert.Ctx.Ref

open Cert.Proj Cert.Reference4Ideal Cert.Reference4Ideal.Gen Cert.Reference4Ideal.Read Idealize.ShloMosaic

variable (x0 : Vec Ideal S4x256x1024 .f32) (x1 : Vec Ideal S2x8x3072 .f32) (x2 : Vec Ideal S2x1024 .f32) (x3 : Vec Ideal S1x1024x3072 .f32) (x4 : Vec Ideal S1x64 .f32) (b : Fin 4) (n : Fin 256)

/-- The call's arguments, from arrays: the context's modulation row is the fifth. -/
def args : Args where
  x := fun b n k => x0 (ix3 b n k)
  shift := fun k => x1 (ix3 0 4 ⟨k.val, by omega⟩)
  scale := fun k => x1 (ix3 0 4 ⟨1024 + k.val, by omega⟩)
  gain := fun k => x2 (ix2 0 k)
  w := fun k d => x3 (ix3 0 k d)
  kg := fun j => x4 (ix2 0 j)

theorem hid_val (k : Fin 1024) : val_main_v27 (F := Ideal) x0 x1 x2 (ix3 b n k) = (args x0 x1 x2 x3 x4).hid b n k := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v3, val_main_v2, val_main_v1, val_main_v0, val_main_cst, val_main_cst_0, val_main_cst_1, val_main_cst_2]
  rfl

theorem column_val (d : Fin 1024) : val_main_v30 (F := Ideal) x0 x1 x2 x3 (ix3 b n d) = column ((args x0 x1 x2 x3 x4).hid b n) (fun k d => x3 (ix3 0 k d)) ⟨1024 + d.val, by omega⟩ := by
  pointwise [val_main_v30, val_main_v29, val_main_v28]
  simp only [hid_val x0 x1 x2 x3 x4]
  rfl

theorem group_val (a : Fin 4) (s : Fin 2) (j : Fin 64) : val_main_v32 (F := Ideal) x0 x1 x2 x3 (ix5 b n a s j)
    = column ((args x0 x1 x2 x3 x4).hid b n) (fun k d => x3 (ix3 0 k d)) ⟨1024 + (a.val * 128 + s.val * 64 + j.val), by omega⟩ := by
  pointwise [val_main_v32, val_main_v31]
  rw [column_val x0 x1 x2 x3 x4]

theorem norm_val (a : Fin 4) (s : Fin 2) (j : Fin 64) : val_main_v46 (F := Ideal) x0 x1 x2 x3 x4 (ix5 b n a s j)
    = (args x0 x1 x2 x3 x4).k b n ⟨a.val * 128 + s.val * 64 + j.val, by omega⟩ := by
  have e : (a.val * 128 + s.val * 64 + j.val) % 64 = j.val := by omega
  have e' : (a.val * 128 + s.val * 64 + j.val) / 64 * 64 = a.val * 128 + s.val * 64 := by omega
  pointwise [val_main_v46, val_main_v45, val_main_v44, val_main_v43, val_main_v42, val_main_v41, val_main_v40, val_main_v39, val_main_v38, val_main_v37, val_main_v36, val_main_v35, val_main_v34, val_main_v33, val_main_cst_3, val_main_cst_4, val_main_cst_5]
  simp only [group_val x0 x1 x2 x3 x4, Args.k, grouped, e, e']
  rfl

theorem k_val (i : Fin 1024) (d : Fin 512) : val_main_v50 (F := Ideal) x0 x1 x2 x3 x4 (ix2 i d)
    = (args x0 x1 x2 x3 x4).k ⟨i.val / 256, by omega⟩ ⟨i.val % 256, by omega⟩ d := by
  pointwise [val_main_v50, val_main_v49]
  refine (norm_val x0 x1 x2 x3 x4 _ _ _ _ _).trans (congrArg _ (Fin.ext ?_))
  dsimp only
  omega

theorem v_val (a : Fin 4) (d : Fin 128) : val_main_v52 (F := Ideal) x0 x1 x2 x3 (ix4 b a d n)
    = (args x0 x1 x2 x3 x4).v b n ⟨a.val * 128 + d.val, by omega⟩ := by
  pointwise [val_main_v52, val_main_v51, val_main_v48, val_main_v47]
  rw [column_val x0 x1 x2 x3 x4]
  refine congrArg (column _ _) (Fin.ext ?_)
  dsimp only
  omega

end Cert.Ctx.Ref
end
-- ==== Proof.Ctx.Kernel.lean ====
/-
  The context call's results: each block's rows are the rows of its sequence.
-/
module

public import proofs.«01_k».proof.Proof.Ctx.Block
public import proofs.«01_k».proof.Proof.Ctx.Ref
public import Idealize.ShloMosaic.Lib.StableHlo.ReadAt

@[expose] public section

set_option maxRecDepth 16384

noncomputable section

namespace Cert.Ctx.Result

open Cert.Proj Cert.Kernel4Ideal Cert.Kernel4Ideal.Gen Cert.Kernel4Ideal.Value Idealize.ShloMosaic Idealize.ShloMosaic.TcCoe Idealize.SL.Sem

variable (m : (ℓ : Loc nD τ sig) → Buf (Elt Ideal) ℓ) (c : Dev nD) (t : Fin cfg0.N)

/-- Argument 0 as launched. -/
abbrev arg0 : S4x256x1024.Idx → EReal := m ((c : Thread nD τ).loc main_arg0)

/-- Argument 1 as launched. -/
abbrev arg1 : S2x8x3072.Idx → EReal := m ((c : Thread nD τ).loc main_arg1)

/-- Argument 2 as launched. -/
abbrev arg2 : S2x1024.Idx → EReal := m ((c : Thread nD τ).loc main_arg2)

/-- Argument 3 as launched. -/
abbrev arg3 : S1x1024x3072.Idx → EReal := m ((c : Thread nD τ).loc main_arg3)

/-- Argument 4 as launched. -/
abbrev arg4 : S1x64.Idx → EReal := m ((c : Thread nD τ).loc main_arg4)

/-- The call's arguments as launched. -/
abbrev args : Args := Ref.args (arg0 m c) (arg1 m c) (arg2 m c) (arg3 m c) (arg4 m c)

theorem lt4 : t.val < 4 := t.isLt

/-- Whether two of four groups are the same. -/
theorem same_group : ∀ x y : Fin 4, IntOp.cmpi CmpIPredicate.eq (IntOp.addi (BitVec.ofNat 32 x.val) 0#32) (BitVec.ofNat 32 y.val) = if x.val = y.val then 1#1 else 0#1 := by
  decide +kernel

theorem mask_value (x y : Fin 256) : FloatOps.uitofp (F := Ideal) FTy.f32
    (IntOp.cmpi CmpIPredicate.eq (IntOp.addi (BitVec.ofNat 32 (x.val / 64)) 0#32) (BitVec.ofNat 32 (y.val / 64))) = if x.val / 64 = y.val / 64 then (1 : EReal) else 0 := by
  rw [same_group ⟨x.val / 64, by omega⟩ ⟨y.val / 64, by omega⟩]
  by_cases h : x.val / 64 = y.val / 64
  · rw [if_pos h, if_pos h]
    show (((1#1 : BitVec 1).toNat : ℝ) : EReal) = 1
    simp
  · rw [if_neg h, if_neg h]
    show (((0#1 : BitVec 1).toNat : ℝ) : EReal) = 0
    simp

theorem index_0 : ∀ t : Fin grid0.N, win0_0.index t = ![t.val, 0] := by decide +kernel
theorem index_1 : ∀ t : Fin grid0.N, win0_1.index t = ![0, 0] := by decide +kernel
theorem index_2 : ∀ t : Fin grid0.N, win0_2.index t = ![0, 0] := by decide +kernel
theorem index_3 : ∀ t : Fin grid0.N, win0_3.index t = ![0, 0] := by decide +kernel
theorem index_4 : ∀ t : Fin grid0.N, win0_4.index t = ![0, 0] := by decide +kernel
theorem index_5 : ∀ t : Fin grid0.N, win0_5.index t = ![0, 0] := by decide +kernel
theorem index_6 : ∀ t : Fin grid0.N, win0_6.index t = ![0, 0] := by decide +kernel
theorem index_7 : ∀ t : Fin grid0.N, win0_7.index t = ![0, 0] := by decide +kernel
theorem index_8 : ∀ t : Fin grid0.N, win0_8.index t = ![t.val, 0] := by decide +kernel
theorem index_9 : ∀ t : Fin grid0.N, win0_9.index t = ![t.val, 0, 0, 0] := by decide +kernel

theorem main_v27_at (n : Fin 1024) (d : Fin 1024) : (V m c main_v27 : S1024x1024.Idx → EReal) (ix2 n d) = arg0 m c (ix3 ⟨n.val / 256, by omega⟩ ⟨n.val % 256, by omega⟩ d) := by
  unfold V
  after_reads_at

theorem block_0 (r : Fin 256) (d : Fin 1024) : (iblk m c 0 t : S256x1024.Idx → EReal) (ix2 r d) = (V m c main_v27 : S1024x1024.Idx → EReal) (ix2 ⟨256 * t.val + r.val, by have := lt4 t; omega⟩ d) := by
  unfold iblk
  rw [View.read_apply]
  show V m c main_v27 _ = V m c main_v27 _
  congr 1
  funext a
  apply Fin.ext
  match a with
  | ⟨0, _⟩ => show win0_0.index t 0 * 256 + 1 * r.val = _; rw [index_0]; show t.val * 256 + 1 * r.val = 256 * t.val + r.val; omega
  | ⟨1, _⟩ => show win0_0.index t 1 * 1024 + 1 * d.val = _; rw [index_0]; show 0 * 1024 + 1 * d.val = d.val; omega

theorem main_v29_at (d : Fin 1024) : (V m c main_v29 : S1x1024.Idx → EReal) (ix2 0 d) = arg1 m c (ix3 0 4 ⟨d.val, by omega⟩) := by
  unfold V
  after_reads_at

theorem block_1 (d : Fin 1024) : (iblk m c 1 t : S1x1024.Idx → EReal) (ix2 0 d) = (V m c main_v29 : S1x1024.Idx → EReal) (ix2 0 d) := by
  unfold iblk
  rw [View.read_apply]
  show V m c main_v29 _ = V m c main_v29 _
  congr 1
  funext a
  apply Fin.ext
  match a with
  | ⟨0, _⟩ => show win0_1.index t 0 * 1 + 1 * 0 = _; rw [index_1]; show 0 * 1 + 1 * 0 = 0; omega
  | ⟨1, _⟩ => show win0_1.index t 1 * 1024 + 1 * d.val = _; rw [index_1]; show 0 * 1024 + 1 * d.val = d.val; omega

theorem main_v31_at (d : Fin 1024) : (V m c main_v31 : S1x1024.Idx → EReal) (ix2 0 d) = arg1 m c (ix3 0 4 ⟨1024 + d.val, by omega⟩) := by
  unfold V
  after_reads_at

theorem block_2 (d : Fin 1024) : (iblk m c 2 t : S1x1024.Idx → EReal) (ix2 0 d) = (V m c main_v31 : S1x1024.Idx → EReal) (ix2 0 d) := by
  unfold iblk
  rw [View.read_apply]
  show V m c main_v31 _ = V m c main_v31 _
  congr 1
  funext a
  apply Fin.ext
  match a with
  | ⟨0, _⟩ => show win0_2.index t 0 * 1 + 1 * 0 = _; rw [index_2]; show 0 * 1 + 1 * 0 = 0; omega
  | ⟨1, _⟩ => show win0_2.index t 1 * 1024 + 1 * d.val = _; rw [index_2]; show 0 * 1024 + 1 * d.val = d.val; omega

theorem main_v26_at (d : Fin 1024) : (V m c main_v26 : S1x1024.Idx → EReal) (ix2 0 d) = arg2 m c (ix2 0 d) := by
  unfold V
  after_reads_at

theorem block_3 (d : Fin 1024) : (iblk m c 3 t : S1x1024.Idx → EReal) (ix2 0 d) = (V m c main_v26 : S1x1024.Idx → EReal) (ix2 0 d) := by
  unfold iblk
  rw [View.read_apply]
  show V m c main_v26 _ = V m c main_v26 _
  congr 1
  funext a
  apply Fin.ext
  match a with
  | ⟨0, _⟩ => show win0_3.index t 0 * 1 + 1 * 0 = _; rw [index_3]; show 0 * 1 + 1 * 0 = 0; omega
  | ⟨1, _⟩ => show win0_3.index t 1 * 1024 + 1 * d.val = _; rw [index_3]; show 0 * 1024 + 1 * d.val = d.val; omega

theorem main_v14_at (d : Fin 512) : (V m c main_v14 : S1x512.Idx → EReal) (ix2 0 d) = arg4 m c (ix2 0 ⟨d.val % 64, by omega⟩) := by
  unfold V
  after_reads_at

theorem block_4 (d : Fin 512) : (iblk m c 4 t : S1x512.Idx → EReal) (ix2 0 d) = (V m c main_v14 : S1x512.Idx → EReal) (ix2 0 d) := by
  unfold iblk
  rw [View.read_apply]
  show V m c main_v14 _ = V m c main_v14 _
  congr 1
  funext a
  apply Fin.ext
  match a with
  | ⟨0, _⟩ => show win0_4.index t 0 * 1 + 1 * 0 = _; rw [index_4]; show 0 * 1 + 1 * 0 = 0; omega
  | ⟨1, _⟩ => show win0_4.index t 1 * 512 + 1 * d.val = _; rw [index_4]; show 0 * 512 + 1 * d.val = d.val; omega

theorem main_v23_at (x y : Fin 256) : (V m c main_v23 : S256x256.Idx → EReal) (ix2 x y) = if x.val / 64 = y.val / 64 then (1 : EReal) else 0 := by
  unfold V
  after_reads_at
  exact mask_value x y

theorem block_5 (x y : Fin 256) : (iblk m c 5 t : S256x256.Idx → EReal) (ix2 x y) = (V m c main_v23 : S256x256.Idx → EReal) (ix2 x y) := by
  unfold iblk
  rw [View.read_apply]
  show V m c main_v23 _ = V m c main_v23 _
  congr 1
  funext a
  apply Fin.ext
  match a with
  | ⟨0, _⟩ => show win0_5.index t 0 * 256 + 1 * x.val = _; rw [index_5]; show 0 * 256 + 1 * x.val = x.val; omega
  | ⟨1, _⟩ => show win0_5.index t 1 * 256 + 1 * y.val = _; rw [index_5]; show 0 * 256 + 1 * y.val = y.val; omega

theorem main_v8_at (k : Fin 1024) (d : Fin 512) : (V m c main_v8 : S1024x512.Idx → EReal) (ix2 k d) = arg3 m c (ix3 0 k ⟨1024 + d.val, by omega⟩) := by
  unfold V
  after_reads_at

theorem block_6 (k : Fin 1024) (d : Fin 512) : (iblk m c 6 t : S1024x512.Idx → EReal) (ix2 k d) = (V m c main_v8 : S1024x512.Idx → EReal) (ix2 k d) := by
  unfold iblk
  rw [View.read_apply]
  show V m c main_v8 _ = V m c main_v8 _
  congr 1
  funext a
  apply Fin.ext
  match a with
  | ⟨0, _⟩ => show win0_6.index t 0 * 1024 + 1 * k.val = _; rw [index_6]; show 0 * 1024 + 1 * k.val = k.val; omega
  | ⟨1, _⟩ => show win0_6.index t 1 * 512 + 1 * d.val = _; rw [index_6]; show 0 * 512 + 1 * d.val = d.val; omega

theorem main_v9_at (k : Fin 1024) (d : Fin 512) : (V m c main_v9 : S1024x512.Idx → EReal) (ix2 k d) = arg3 m c (ix3 0 k ⟨1536 + d.val, by omega⟩) := by
  unfold V
  after_reads_at

theorem block_7 (k : Fin 1024) (d : Fin 512) : (iblk m c 7 t : S1024x512.Idx → EReal) (ix2 k d) = (V m c main_v9 : S1024x512.Idx → EReal) (ix2 k d) := by
  unfold iblk
  rw [View.read_apply]
  show V m c main_v9 _ = V m c main_v9 _
  congr 1
  funext a
  apply Fin.ext
  match a with
  | ⟨0, _⟩ => show win0_7.index t 0 * 1024 + 1 * k.val = _; rw [index_7]; show 0 * 1024 + 1 * k.val = k.val; omega
  | ⟨1, _⟩ => show win0_7.index t 1 * 512 + 1 * d.val = _; rw [index_7]; show 0 * 512 + 1 * d.val = d.val; omega

/-- The keys. -/
def k (i : S1024x512.Idx) : EReal := (args m c).k ⟨(i 0).val / 256, by have h : (i 0).val < 1024 := (i 0).isLt; omega⟩ ⟨(i 0).val % 256, by omega⟩ (i 1)

/-- The values, with the rows last. -/
def v (i : S4x4x128x256.Idx) : EReal := (args m c).v (i 0) (i 3) ⟨(i 1).val * 128 + (i 2).val, by
  have h₁ : (i 1).val < 4 := (i 1).isLt
  have h₂ : (i 2).val < 128 := (i 2).isLt
  omega⟩

section Rows

variable (r : Fin 256)

/-- The sequence of block `t`. -/
abbrev seqOf : Fin 4 := ⟨t.val, lt4 t⟩

/-- Row `r` of block `t` among all rows. -/
abbrev rowOf : Fin 1024 := ⟨256 * t.val + r.val, by have := lt4 t; omega⟩

theorem hid_eq : hidRow (iblk m c 0 t) (iblk m c 1 t) (iblk m c 2 t) (iblk m c 3 t) r = (args m c).hid (seqOf t) r := by
  have ht := lt4 t
  have e : ∀ k, (iblk m c 0 t : S256x1024.Idx → EReal) (ix2 r k) = (args m c).x (seqOf t) r k := fun k => by
    refine (block_0 m c t r k).trans ((main_v27_at m c _ k).trans ?_)
    show arg0 m c _ = arg0 m c _
    congr 2 <;> apply Fin.ext <;> dsimp only <;> omega
  have eg : ∀ k, (iblk m c 3 t : S1x1024.Idx → EReal) (ix2 0 k) = (args m c).gain k := fun k => (block_3 m c t k).trans (main_v26_at m c k)
  have es : ∀ k, (iblk m c 1 t : S1x1024.Idx → EReal) (ix2 0 k) = (args m c).shift k := fun k => (block_1 m c t k).trans (main_v29_at m c k)
  have ec : ∀ k, (iblk m c 2 t : S1x1024.Idx → EReal) (ix2 0 k) = (args m c).scale k := fun k => (block_2 m c t k).trans (main_v31_at m c k)
  unfold hidRow
  simp only [e, eg, es, ec]
  rfl

theorem k_eq (d : Fin 512) : out0_8 (iblk m c 0 t) (iblk m c 1 t) (iblk m c 2 t) (iblk m c 3 t) (iblk m c 4 t) (iblk m c 5 t) (iblk m c 6 t) (iblk m c 7 t) (ix2 r d) = k m c (ix2 (rowOf t r) d) := by
  have ht := lt4 t
  have hw : ∀ (k : Fin 1024) (d : Fin 512), (iblk m c 6 t : S1024x512.Idx → EReal) (ix2 k d) = (args m c).w k ⟨1024 + d.val, by omega⟩ := fun k d => (block_6 m c t k d).trans (main_v8_at m c k d)
  rw [out_8]
  refine (keys_apply _ _ _ _ _ _ _ r d).trans ?_
  rw [groupedBy_eq _ _ (args m c).kg _ (fun x y => (block_5 m c t x y).trans (main_v23_at m c x y)) (fun d => (block_4 m c t d).trans (main_v14_at m c d))]
  simp only [hid_eq, hw]
  have e₁ : (⟨(256 * t.val + r.val) / 256, by omega⟩ : Fin 4) = seqOf t := Fin.ext (by dsimp only; omega)
  have e₂ : (⟨(256 * t.val + r.val) % 256, by omega⟩ : Fin 256) = r := Fin.ext (by dsimp only; omega)
  show (args m c).k (seqOf t) r d = (args m c).k ⟨(256 * t.val + r.val) / 256, _⟩ ⟨(256 * t.val + r.val) % 256, _⟩ d
  rw [e₁, e₂]

theorem v_eq (a : Fin 4) (d : Fin 128) : out0_9 (iblk m c 0 t) (iblk m c 1 t) (iblk m c 2 t) (iblk m c 3 t) (iblk m c 4 t) (iblk m c 5 t) (iblk m c 6 t) (iblk m c 7 t) (ix4 0 a d r) = v m c (ix4 (seqOf t) a d r) := by
  have hw : ∀ (k : Fin 1024) (d : Fin 512), (iblk m c 7 t : S1024x512.Idx → EReal) (ix2 k d) = (args m c).w k ⟨1536 + d.val, by omega⟩ := fun k d => (block_7 m c t k d).trans (main_v9_at m c k d)
  refine (values_apply _ _ _ _ _ _ _ _ r a d).trans ?_
  simp only [hid_eq, hw]
  rfl

end Rows

theorem k_flushed : (dats m 0 c).flushed 8 t = ((cfg0.win 8).blk t).view.read (Elt Ideal) (k m c) := by
  rw [flushed8]
  funext j
  rw [View.read_apply]
  obtain ⟨r, d, rfl⟩ : ∃ (r : Fin 256) (d : Fin 512), j = (ix2 r d : S256x512.Idx) := ⟨j 0, j 1, by funext a; fin_cases a <;> rfl⟩
  refine (k_eq m c t r d).trans ?_
  show k m c _ = k m c _
  congr 1
  funext a
  apply Fin.ext
  match a with
  | ⟨0, _⟩ =>
    show 256 * t.val + r.val = win0_8.index t 0 * 256 + 1 * r.val
    rw [index_8]
    show _ = t.val * 256 + 1 * r.val
    omega
  | ⟨1, _⟩ =>
    show d.val = win0_8.index t 1 * 512 + 1 * d.val
    rw [index_8]
    show _ = 0 * 512 + 1 * d.val
    omega

/-- The keys after the last block. -/
theorem k_final : (dats m 0 c).arrAt 8 cfg0.N = k m c :=
  (dats m 0 c).arrAt_eq_of_cover 8 (k m c) (fun t _ => k_flushed m c t) fun i => by
    have i0 : (i 0 : ℕ) < 1024 := (i 0).isLt
    have i1 : (i 1 : ℕ) < 512 := (i 1).isLt
    let t : Fin cfg0.N := ⟨(i 0 : ℕ) / 256, by show _ < 4; omega⟩
    refine ⟨t, flush0_8 t, ?_⟩
    show i ∈ ((View.whole main_v32_0).slice (win0_8.rect t)).set
    rw [View.set_slice_whole, Rect.mem_set_unit]
    have ht : t.val = (i 0 : ℕ) / 256 := rfl
    intro x
    match x with
    | ⟨0, _⟩ =>
      show win0_8.index t 0 * 256 ≤ (i 0 : ℕ) ∧ (i 0 : ℕ) < win0_8.index t 0 * 256 + 256
      rw [index_8]
      show t.val * 256 ≤ _ ∧ _ < t.val * 256 + 256
      omega
    | ⟨1, _⟩ =>
      show win0_8.index t 1 * 512 ≤ (i 1 : ℕ) ∧ (i 1 : ℕ) < win0_8.index t 1 * 512 + 512
      rw [index_8]
      show 0 * 512 ≤ _ ∧ _ < 0 * 512 + 512
      omega

theorem v_flushed : (dats m 0 c).flushed 9 t = ((cfg0.win 9).blk t).view.read (Elt Ideal) (v m c) := by
  rw [flushed9]
  funext j
  rw [View.read_apply]
  obtain ⟨a, d, r, rfl⟩ : ∃ (a : Fin 4) (d : Fin 128) (r : Fin 256), j = (ix4 0 a d r : S1x4x128x256.Idx) := ⟨j 1, j 2, j 3, by
    funext x
    fin_cases x
    · exact Subsingleton.elim (α := Fin 1) _ _
    all_goals rfl⟩
  refine (v_eq m c t r a d).trans ?_
  show v m c _ = v m c _
  congr 1
  funext x
  apply Fin.ext
  match x with
  | ⟨0, _⟩ =>
    show t.val = win0_9.index t 0 * 1 + 1 * 0
    rw [index_9]
    show _ = t.val * 1 + 1 * 0
    omega
  | ⟨1, _⟩ =>
    show a.val = win0_9.index t 1 * 4 + 1 * a.val
    rw [index_9]
    show _ = 0 * 4 + 1 * a.val
    omega
  | ⟨2, _⟩ =>
    show d.val = win0_9.index t 2 * 128 + 1 * d.val
    rw [index_9]
    show _ = 0 * 128 + 1 * d.val
    omega
  | ⟨3, _⟩ =>
    show r.val = win0_9.index t 3 * 256 + 1 * r.val
    rw [index_9]
    show _ = 0 * 256 + 1 * r.val
    omega

/-- The values after the last block. -/
theorem v_final : (dats m 0 c).arrAt 9 cfg0.N = v m c :=
  (dats m 0 c).arrAt_eq_of_cover 9 (v m c) (fun t _ => v_flushed m c t) fun i => by
    have i0 : (i 0 : ℕ) < 4 := (i 0).isLt
    have i1 : (i 1 : ℕ) < 4 := (i 1).isLt
    have i2 : (i 2 : ℕ) < 128 := (i 2).isLt
    have i3 : (i 3 : ℕ) < 256 := (i 3).isLt
    let t : Fin cfg0.N := ⟨(i 0 : ℕ), by show _ < 4; omega⟩
    refine ⟨t, flush0_9 t, ?_⟩
    show i ∈ ((View.whole main_v32_1).slice (win0_9.rect t)).set
    rw [View.set_slice_whole, Rect.mem_set_unit]
    have ht : t.val = (i 0 : ℕ) := rfl
    intro x
    match x with
    | ⟨0, _⟩ =>
      show win0_9.index t 0 * 1 ≤ (i 0 : ℕ) ∧ (i 0 : ℕ) < win0_9.index t 0 * 1 + 1
      rw [index_9]
      show t.val * 1 ≤ _ ∧ _ < t.val * 1 + 1
      omega
    | ⟨1, _⟩ =>
      show win0_9.index t 1 * 4 ≤ (i 1 : ℕ) ∧ (i 1 : ℕ) < win0_9.index t 1 * 4 + 4
      rw [index_9]
      show 0 * 4 ≤ _ ∧ _ < 0 * 4 + 4
      omega
    | ⟨2, _⟩ =>
      show win0_9.index t 2 * 128 ≤ (i 2 : ℕ) ∧ (i 2 : ℕ) < win0_9.index t 2 * 128 + 128
      rw [index_9]
      show 0 * 128 ≤ _ ∧ _ < 0 * 128 + 128
      omega
    | ⟨3, _⟩ =>
      show win0_9.index t 3 * 256 ≤ (i 3 : ℕ) ∧ (i 3 : ℕ) < win0_9.index t 3 * 256 + 256
      rw [index_9]
      show 0 * 256 ≤ _ ∧ _ < 0 * 256 + 256
      omega

end Cert.Ctx.Result
end
-- ==== Proof.Ctx.Claims.lean ====
/-
  The claims about the context's call: the kernel's keys and values beside the reference's.
-/
module

public import proofs.«01_k».proof.Defs
public import proofs.«01_k».proof.Proof.Ctx.Kernel
public import proofs.«01_k».proof.Proof.Gen.Kernel4.Frame
public import proofs.«01_k».proof.Proof.Gen.Reference4Ideal.Run
public import Idealize.ShloMosaic.Lib.Quiescent

@[expose] public section

set_option maxRecDepth 16384

noncomputable section

namespace Cert.Ctx

open Idealize.ShloMosaic Idealize.ShloMosaic.TcCoe Idealize.SL.Sem

theorem frame_kernel : Cert.quiescent_Kernel4 (hKernel4 := Cert.Kernel4.Gen.facts) := fun m ρ _ => Cert.Kernel4.Gen.frame m ρ

theorem frame_kernelIdeal : Cert.quiescent_Kernel4Ideal (hKernel4Ideal := Cert.Kernel4Ideal.Gen.facts) := fun m ρ _ => Cert.Kernel4Ideal.Gen.frame m ρ

theorem frame_referenceIdeal : Cert.quiescent_Reference4Ideal (hReference4Ideal := Cert.Reference4Ideal.Gen.facts) := fun m ρ _ =>
  (θ_run _ _ _).mono (fun r h => ⟨fun c => (h c).2.2, sem_eq_zero_of_no_sems rfl r.2⟩) (Cert.Reference4Ideal.Value.run m ρ)

theorem algebraic : Cert.algebraic_Kernel4Ideal_Reference4Ideal (hKernel4Ideal := Cert.Kernel4Ideal.Gen.facts)
    (hReference4Ideal := Cert.Reference4Ideal.Gen.facts) := by
  intro m g m' g' _ hagree
  refine ⟨Result.k m, Result.v m, ?_, ?_⟩
  · exact (θ_run _ _ _).mono (fun r h c => ⟨(h c).1.trans (Result.k_final m c), (h c).2.1.trans (Result.v_final m c), (h c).2.2⟩) (Cert.Kernel4Ideal.Value.run_blocks m g)
  · refine (θ_run _ _ _).mono (fun r h c => ⟨(h c).1.trans ?_, (h c).2.1.trans ?_, (h c).2.2⟩) (Cert.Reference4Ideal.Value.run m' g')
    all_goals obtain ⟨a0, a1, a2, a3, a4⟩ := hagree c
    · rw [Cert.Reference4Ideal.Read.val_main_v50_eq, a0, a1, a2, a3, a4]
      funext i
      idx_vars i
      exact Ref.k_val _ _ _ _ _ _ _
    · rw [Cert.Reference4Ideal.Read.val_main_v52_eq, a0, a1, a2, a3]
      funext i
      idx_vars i
      exact Ref.v_val _ _ _ _ (Result.arg4 m c) _ _ _ _

end Cert.Ctx
end
-- ==== Proof.lean ====
/-
  The proof of `Cert.Claim`: the frames, the named constant, the attention call's value (Proof/Attn/Claims.lean), the
  tail call's (Proof/Tail/Claims.lean), the in-projection call's (Proof/Proj/Claims.lean) and the context call's
  (Proof/Ctx/Claims.lean).
-/
module

public import proofs.«01_k».proof.Defs
public import proofs.«01_k».proof.Proof.Attn.Claims
public import proofs.«01_k».proof.Proof.Tail.Claims
public import proofs.«01_k».proof.Proof.Proj.Claims
public import proofs.«01_k».proof.Proof.Ctx.Claims

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Attn.preFacts,
    Cert.Attn.frame_kernel, Cert.Attn.frame_kernelIdeal, fun m g _ => Cert.Attn.frame_kernelIdeal m g trivial,
    Cert.Attn.frame_referenceIdeal, fun m g _ => Cert.Attn.frame_referenceIdeal m g trivial,
    Cert.Tail.frame_kernel, Cert.Tail.frame_kernelIdeal, Cert.Tail.frame_referenceIdeal,
    Cert.Proj.frame_kernel, Cert.Proj.frame_kernelIdeal, Cert.Proj.frame_referenceIdeal,
    Cert.Ctx.frame_kernel, Cert.Ctx.frame_kernelIdeal, Cert.Ctx.frame_referenceIdeal,
    Cert.Attn.preserves, Cert.Attn.algebraic, trivial, Cert.Tail.algebraic, trivial, Cert.Proj.algebraic,
    trivial, Cert.Ctx.algebraic⟩

end Cert.Proof

end
